-- ==== Defs.lean ====
def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_ReferenceAttnIdeal (m : (ℓ : Loc Cert.ReferenceAttnIdeal.nD Cert.ReferenceAttnIdeal.τ Cert.ReferenceAttnIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelMixUp (m : (ℓ : Loc Cert.KernelMixUp.nD Cert.KernelMixUp.τ Cert.KernelMixUp.sig) → Buf (Elt Bits) ℓ) : Prop :=
  True

def Pre_KernelMixUpIdeal (m : (ℓ : Loc Cert.KernelMixUpIdeal.nD Cert.KernelMixUpIdeal.τ Cert.KernelMixUpIdeal.sig) → Buf (Elt Ideal) ℓ) : Prop :=
  True

def Pre_ReferenceMixUpIdeal (m : (ℓ : Loc Cert.ReferenceMixUpIdeal.nD Cert.ReferenceMixUpIdeal.τ Cert.ReferenceMixUpIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelLast (m : (ℓ : Loc Cert.KernelLast.nD Cert.KernelLast.τ Cert.KernelLast.sig) → Buf (Elt Bits) ℓ) : Prop :=
  True

def Pre_KernelLastIdeal (m : (ℓ : Loc Cert.KernelLastIdeal.nD Cert.KernelLastIdeal.τ Cert.KernelLastIdeal.sig) → Buf (Elt Ideal) ℓ) : Prop :=
  True

def Pre_ReferenceLastIdeal (m : (ℓ : Loc Cert.ReferenceLastIdeal.nD Cert.ReferenceLastIdeal.τ Cert.ReferenceLastIdeal.sig) → Buf (Elt Ideal) ℓ) : Prop :=
  True

def Pre_KernelInC (m : (ℓ : Loc Cert.KernelInC.nD Cert.KernelInC.τ Cert.KernelInC.sig) → Buf (Elt Bits) ℓ) : Prop :=
  True

def Pre_KernelInCIdeal (m : (ℓ : Loc Cert.KernelInCIdeal.nD Cert.KernelInCIdeal.τ Cert.KernelInCIdeal.sig) → Buf (Elt Ideal) ℓ) : Prop :=
  True

def Pre_ReferenceInCIdeal (m : (ℓ : Loc Cert.ReferenceInCIdeal.nD Cert.ReferenceInCIdeal.τ Cert.ReferenceInCIdeal.sig) → Buf (Elt Ideal) ℓ) : Prop :=
  True

def Pre_KernelInQ (m : (ℓ : Loc Cert.KernelInQ.nD Cert.KernelInQ.τ Cert.KernelInQ.sig) → Buf (Elt Bits) ℓ) : Prop :=
  True

def Pre_KernelInQIdeal (m : (ℓ : Loc Cert.KernelInQIdeal.nD Cert.KernelInQIdeal.τ Cert.KernelInQIdeal.sig) → Buf (Elt Ideal) ℓ) : Prop :=
  True

def Pre_ReferenceInQIdeal (m : (ℓ : Loc Cert.ReferenceInQIdeal.nD Cert.ReferenceInQIdeal.τ Cert.ReferenceInQIdeal.sig) → Buf (Elt Ideal) ℓ) : Prop :=
  True

def Pre_KernelInG (m : (ℓ : Loc Cert.KernelInG.nD Cert.KernelInG.τ Cert.KernelInG.sig) → Buf (Elt Bits) ℓ) : Prop :=
  True

def Pre_KernelInGIdeal (m : (ℓ : Loc Cert.KernelInGIdeal.nD Cert.KernelInGIdeal.τ Cert.KernelInGIdeal.sig) → Buf (Elt Ideal) ℓ) : Prop :=
  True

def Pre_ReferenceInGIdeal (m : (ℓ : Loc Cert.ReferenceInGIdeal.nD Cert.ReferenceInGIdeal.τ Cert.ReferenceInGIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3)
      ∧ r.2.mem ((c.tc : Thread Cert.KernelConv.nD Cert.KernelConv.τ).loc Cert.KernelConv.main_arg4) = m ((c.tc : Thread Cert.KernelConv.nD Cert.KernelConv.τ).loc Cert.KernelConv.main_arg4))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
      ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3)
      ∧ r.2.mem ((c.tc : Thread Cert.ReferenceConvIdeal.nD Cert.ReferenceConvIdeal.τ).loc Cert.ReferenceConvIdeal.main_arg4) = m ((c.tc : Thread Cert.ReferenceConvIdeal.nD Cert.ReferenceConvIdeal.τ).loc Cert.ReferenceConvIdeal.main_arg4))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7)
      ∧ r.2.mem ((c.tc : Thread Cert.KernelMix.nD Cert.KernelMix.τ).loc Cert.KernelMix.main_arg8) = m ((c.tc : Thread Cert.KernelMix.nD Cert.KernelMix.τ).loc Cert.KernelMix.main_arg8)
      ∧ r.2.mem ((c.tc : Thread Cert.KernelMix.nD Cert.KernelMix.τ).loc Cert.KernelMix.main_arg9) = m ((c.tc : Thread Cert.KernelMix.nD Cert.KernelMix.τ).loc Cert.KernelMix.main_arg9)
      ∧ r.2.mem ((c.tc : Thread Cert.KernelMix.nD Cert.KernelMix.τ).loc Cert.KernelMix.main_arg10) = m ((c.tc : Thread Cert.KernelMix.nD Cert.KernelMix.τ).loc Cert.KernelMix.main_arg10))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
      ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
      ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9)
      ∧ r.2.mem ((c.tc : Thread Cert.KernelMixIdeal.nD Cert.KernelMixIdeal.τ).loc Cert.KernelMixIdeal.main_arg10) = m ((c.tc : Thread Cert.KernelMixIdeal.nD Cert.KernelMixIdeal.τ).loc Cert.KernelMixIdeal.main_arg10))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7)
      ∧ r.2.mem ((c.tc : Thread Cert.ReferenceMixIdeal.nD Cert.ReferenceMixIdeal.τ).loc Cert.ReferenceMixIdeal.main_arg8) = m ((c.tc : Thread Cert.ReferenceMixIdeal.nD Cert.ReferenceMixIdeal.τ).loc Cert.ReferenceMixIdeal.main_arg8)
      ∧ r.2.mem ((c.tc : Thread Cert.ReferenceMixIdeal.nD Cert.ReferenceMixIdeal.τ).loc Cert.ReferenceMixIdeal.main_arg9) = m ((c.tc : Thread Cert.ReferenceMixIdeal.nD Cert.ReferenceMixIdeal.τ).loc Cert.ReferenceMixIdeal.main_arg9)
      ∧ r.2.mem ((c.tc : Thread Cert.ReferenceMixIdeal.nD Cert.ReferenceMixIdeal.τ).loc Cert.ReferenceMixIdeal.main_arg10) = m ((c.tc : Thread Cert.ReferenceMixIdeal.nD Cert.ReferenceMixIdeal.τ).loc Cert.ReferenceMixIdeal.main_arg10))
      ∧ r.2.sem = fun _ => 0)

def quiescent_KernelMixUp [hKernelMixUp : Cert.KernelMixUp.Facts] : Prop :=
  ∀ (m : (ℓ : Loc Cert.KernelMixUp.nD Cert.KernelMixUp.τ Cert.KernelMixUp.sig) → Buf (Elt Bits) ℓ) (g : Dev Cert.KernelMixUp.nD → PrngReg), Pre_KernelMixUp m →
    θ_run (Cert.KernelMixUp.defs (F := Bits)) (onTc (τ := Cert.KernelMixUp.τ) (Cert.KernelMixUp.main (F := Bits))) ⟨m, fun _ => 0, g⟩ (fun r => (∀ c : Dev Cert.KernelMixUp.nD,
      r.2.mem ((c.tc : Thread Cert.KernelMixUp.nD Cert.KernelMixUp.τ).loc Cert.KernelMixUp.main_arg0) = m ((c.tc : Thread Cert.KernelMixUp.nD Cert.KernelMixUp.τ).loc Cert.KernelMixUp.main_arg0)
      ∧ r.2.mem ((c.tc : Thread Cert.KernelMixUp.nD Cert.KernelMixUp.τ).loc Cert.KernelMixUp.main_arg1) = m ((c.tc : Thread Cert.KernelMixUp.nD Cert.KernelMixUp.τ).loc Cert.KernelMixUp.main_arg1)
      ∧ r.2.mem ((c.tc : Thread Cert.KernelMixUp.nD Cert.KernelMixUp.τ).loc Cert.KernelMixUp.main_arg2) = m ((c.tc : Thread Cert.KernelMixUp.nD Cert.KernelMixUp.τ).loc Cert.KernelMixUp.main_arg2)
      ∧ r.2.mem ((c.tc : Thread Cert.KernelMixUp.nD Cert.KernelMixUp.τ).loc Cert.KernelMixUp.main_arg3) = m ((c.tc : Thread Cert.KernelMixUp.nD Cert.KernelMixUp.τ).loc Cert.KernelMixUp.main_arg3)
      ∧ r.2.mem ((c.tc : Thread Cert.KernelMixUp.nD Cert.KernelMixUp.τ).loc Cert.KernelMixUp.main_arg4) = m ((c.tc : Thread Cert.KernelMixUp.nD Cert.KernelMixUp.τ).loc Cert.KernelMixUp.main_arg4)
      ∧ r.2.mem ((c.tc : Thread Cert.KernelMixUp.nD Cert.KernelMixUp.τ).loc Cert.KernelMixUp.main_arg5) = m ((c.tc : Thread Cert.KernelMixUp.nD Cert.KernelMixUp.τ).loc Cert.KernelMixUp.main_arg5)
      ∧ r.2.mem ((c.tc : Thread Cert.KernelMixUp.nD Cert.KernelMixUp.τ).loc Cert.KernelMixUp.main_arg6) = m ((c.tc : Thread Cert.KernelMixUp.nD Cert.KernelMixUp.τ).loc Cert.KernelMixUp.main_arg6)
      ∧ r.2.mem ((c.tc : Thread Cert.KernelMixUp.nD Cert.KernelMixUp.τ).loc Cert.KernelMixUp.main_arg7) = m ((c.tc : Thread Cert.KernelMixUp.nD Cert.KernelMixUp.τ).loc Cert.KernelMixUp.main_arg7)
      ∧ r.2.mem ((c.tc : Thread Cert.KernelMixUp.nD Cert.KernelMixUp.τ).loc Cert.KernelMixUp.main_arg8) = m ((c.tc : Thread Cert.KernelMixUp.nD Cert.KernelMixUp.τ).loc Cert.KernelMixUp.main_arg8)
      ∧ r.2.mem ((c.tc : Thread Cert.KernelMixUp.nD Cert.KernelMixUp.τ).loc Cert.KernelMixUp.main_arg9) = m ((c.tc : Thread Cert.KernelMixUp.nD Cert.KernelMixUp.τ).loc Cert.KernelMixUp.main_arg9)
      ∧ r.2.mem ((c.tc : Thread Cert.KernelMixUp.nD Cert.KernelMixUp.τ).loc Cert.KernelMixUp.main_arg10) = m ((c.tc : Thread Cert.KernelMixUp.nD Cert.KernelMixUp.τ).loc Cert.KernelMixUp.main_arg10)
      ∧ r.2.mem ((c.tc : Thread Cert.KernelMixUp.nD Cert.KernelMixUp.τ).loc Cert.KernelMixUp.main_arg11) = m ((c.tc : Thread Cert.KernelMixUp.nD Cert.KernelMixUp.τ).loc Cert.KernelMixUp.main_arg11))
      ∧ r.2.sem = fun _ => 0)

def quiescent_KernelMixUpIdeal [hKernelMixUpIdeal : Cert.KernelMixUpIdeal.Facts] : Prop :=
  ∀ (m : (ℓ : Loc Cert.KernelMixUpIdeal.nD Cert.KernelMixUpIdeal.τ Cert.KernelMixUpIdeal.sig) → Buf (Elt Ideal) ℓ) (g : Dev Cert.KernelMixUpIdeal.nD → PrngReg), Pre_KernelMixUpIdeal m →
    θ_run (Cert.KernelMixUpIdeal.defs (F := Ideal)) (onTc (τ := Cert.KernelMixUpIdeal.τ) (Cert.KernelMixUpIdeal.main (F := Ideal))) ⟨m, fun _ => 0, g⟩ (fun r => (∀ c : Dev Cert.KernelMixUpIdeal.nD,
      r.2.mem ((c.tc : Thread Cert.KernelMixUpIdeal.nD Cert.KernelMixUpIdeal.τ).loc Cert.KernelMixUpIdeal.main_arg0) = m ((c.tc : Thread Cert.KernelMixUpIdeal.nD Cert.KernelMixUpIdeal.τ).loc Cert.KernelMixUpIdeal.main_arg0)
      ∧ r.2.mem ((c.tc : Thread Cert.KernelMixUpIdeal.nD Cert.KernelMixUpIdeal.τ).loc Cert.KernelMixUpIdeal.main_arg1) = m ((c.tc : Thread Cert.KernelMixUpIdeal.nD Cert.KernelMixUpIdeal.τ).loc Cert.KernelMixUpIdeal.main_arg1)
      ∧ r.2.mem ((c.tc : Thread Cert.KernelMixUpIdeal.nD Cert.KernelMixUpIdeal.τ).loc Cert.KernelMixUpIdeal.main_arg2) = m ((c.tc : Thread Cert.KernelMixUpIdeal.nD Cert.KernelMixUpIdeal.τ).loc Cert.KernelMixUpIdeal.main_arg2)
      ∧ r.2.mem ((c.tc : Thread Cert.KernelMixUpIdeal.nD Cert.KernelMixUpIdeal.τ).loc Cert.KernelMixUpIdeal.main_arg3) = m ((c.tc : Thread Cert.KernelMixUpIdeal.nD Cert.KernelMixUpIdeal.τ).loc Cert.KernelMixUpIdeal.main_arg3)
      ∧ r.2.mem ((c.tc : Thread Cert.KernelMixUpIdeal.nD Cert.KernelMixUpIdeal.τ).loc Cert.KernelMixUpIdeal.main_arg4) = m ((c.tc : Thread Cert.KernelMixUpIdeal.nD Cert.KernelMixUpIdeal.τ).loc Cert.KernelMixUpIdeal.main_arg4)
      ∧ r.2.mem ((c.tc : Thread Cert.KernelMixUpIdeal.nD Cert.KernelMixUpIdeal.τ).loc Cert.KernelMixUpIdeal.main_arg5) = m ((c.tc : Thread Cert.KernelMixUpIdeal.nD Cert.KernelMixUpIdeal.τ).loc Cert.KernelMixUpIdeal.main_arg5)
      ∧ r.2.mem ((c.tc : Thread Cert.KernelMixUpIdeal.nD Cert.KernelMixUpIdeal.τ).loc Cert.KernelMixUpIdeal.main_arg6) = m ((c.tc : Thread Cert.KernelMixUpIdeal.nD Cert.KernelMixUpIdeal.τ).loc Cert.KernelMixUpIdeal.main_arg6)
      ∧ r.2.mem ((c.tc : Thread Cert.KernelMixUpIdeal.nD Cert.KernelMixUpIdeal.τ).loc Cert.KernelMixUpIdeal.main_arg7) = m ((c.tc : Thread Cert.KernelMixUpIdeal.nD Cert.KernelMixUpIdeal.τ).loc Cert.KernelMixUpIdeal.main_arg7)
      ∧ r.2.mem ((c.tc : Thread Cert.KernelMixUpIdeal.nD Cert.KernelMixUpIdeal.τ).loc Cert.KernelMixUpIdeal.main_arg8) = m ((c.tc : Thread Cert.KernelMixUpIdeal.nD Cert.KernelMixUpIdeal.τ).loc Cert.KernelMixUpIdeal.main_arg8)
      ∧ r.2.mem ((c.tc : Thread Cert.KernelMixUpIdeal.nD Cert.KernelMixUpIdeal.τ).loc Cert.KernelMixUpIdeal.main_arg9) = m ((c.tc : Thread Cert.KernelMixUpIdeal.nD Cert.KernelMixUpIdeal.τ).loc Cert.KernelMixUpIdeal.main_arg9)
      ∧ r.2.mem ((c.tc : Thread Cert.KernelMixUpIdeal.nD Cert.KernelMixUpIdeal.τ).loc Cert.KernelMixUpIdeal.main_arg10) = m ((c.tc : Thread Cert.KernelMixUpIdeal.nD Cert.KernelMixUpIdeal.τ).loc Cert.KernelMixUpIdeal.main_arg10)
      ∧ r.2.mem ((c.tc : Thread Cert.KernelMixUpIdeal.nD Cert.KernelMixUpIdeal.τ).loc Cert.KernelMixUpIdeal.main_arg11) = m ((c.tc : Thread Cert.KernelMixUpIdeal.nD Cert.KernelMixUpIdeal.τ).loc Cert.KernelMixUpIdeal.main_arg11))
      ∧ r.2.sem = fun _ => 0)

def quiescent_ReferenceMixUpIdeal [hReferenceMixUpIdeal : Cert.ReferenceMixUpIdeal.Facts] : Prop :=
  ∀ (m : (ℓ : Loc Cert.ReferenceMixUpIdeal.nD Cert.ReferenceMixUpIdeal.τ Cert.ReferenceMixUpIdeal.sig) → Buf (Elt Ideal) ℓ) (g : Dev Cert.ReferenceMixUpIdeal.nD → PrngReg), Pre_ReferenceMixUpIdeal m →
    θ_run (Cert.ReferenceMixUpIdeal.defs (F := Ideal)) (onTc (τ := Cert.ReferenceMixUpIdeal.τ) (Cert.ReferenceMixUpIdeal.main (F := Ideal))) ⟨m, fun _ => 0, g⟩ (fun r => (∀ c : Dev Cert.ReferenceMixUpIdeal.nD,
      r.2.mem ((c.tc : Thread Cert.ReferenceMixUpIdeal.nD Cert.ReferenceMixUpIdeal.τ).loc Cert.ReferenceMixUpIdeal.main_arg0) = m ((c.tc : Thread Cert.ReferenceMixUpIdeal.nD Cert.ReferenceMixUpIdeal.τ).loc Cert.ReferenceMixUpIdeal.main_arg0)
      ∧ r.2.mem ((c.tc : Thread Cert.ReferenceMixUpIdeal.nD Cert.ReferenceMixUpIdeal.τ).loc Cert.ReferenceMixUpIdeal.main_arg1) = m ((c.tc : Thread Cert.ReferenceMixUpIdeal.nD Cert.ReferenceMixUpIdeal.τ).loc Cert.ReferenceMixUpIdeal.main_arg1)
      ∧ r.2.mem ((c.tc : Thread Cert.ReferenceMixUpIdeal.nD Cert.ReferenceMixUpIdeal.τ).loc Cert.ReferenceMixUpIdeal.main_arg2) = m ((c.tc : Thread Cert.ReferenceMixUpIdeal.nD Cert.ReferenceMixUpIdeal.τ).loc Cert.ReferenceMixUpIdeal.main_arg2)
      ∧ r.2.mem ((c.tc : Thread Cert.ReferenceMixUpIdeal.nD Cert.ReferenceMixUpIdeal.τ).loc Cert.ReferenceMixUpIdeal.main_arg3) = m ((c.tc : Thread Cert.ReferenceMixUpIdeal.nD Cert.ReferenceMixUpIdeal.τ).loc Cert.ReferenceMixUpIdeal.main_arg3)
      ∧ r.2.mem ((c.tc : Thread Cert.ReferenceMixUpIdeal.nD Cert.ReferenceMixUpIdeal.τ).loc Cert.ReferenceMixUpIdeal.main_arg4) = m ((c.tc : Thread Cert.ReferenceMixUpIdeal.nD Cert.ReferenceMixUpIdeal.τ).loc Cert.ReferenceMixUpIdeal.main_arg4)
      ∧ r.2.mem ((c.tc : Thread Cert.ReferenceMixUpIdeal.nD Cert.ReferenceMixUpIdeal.τ).loc Cert.ReferenceMixUpIdeal.main_arg5) = m ((c.tc : Thread Cert.ReferenceMixUpIdeal.nD Cert.ReferenceMixUpIdeal.τ).loc Cert.ReferenceMixUpIdeal.main_arg5)
      ∧ r.2.mem ((c.tc : Thread Cert.ReferenceMixUpIdeal.nD Cert.ReferenceMixUpIdeal.τ).loc Cert.ReferenceMixUpIdeal.main_arg6) = m ((c.tc : Thread Cert.ReferenceMixUpIdeal.nD Cert.ReferenceMixUpIdeal.τ).loc Cert.ReferenceMixUpIdeal.main_arg6)
      ∧ r.2.mem ((c.tc : Thread Cert.ReferenceMixUpIdeal.nD Cert.ReferenceMixUpIdeal.τ).loc Cert.ReferenceMixUpIdeal.main_arg7) = m ((c.tc : Thread Cert.ReferenceMixUpIdeal.nD Cert.ReferenceMixUpIdeal.τ).loc Cert.ReferenceMixUpIdeal.main_arg7)
      ∧ r.2.mem ((c.tc : Thread Cert.ReferenceMixUpIdeal.nD Cert.ReferenceMixUpIdeal.τ).loc Cert.ReferenceMixUpIdeal.main_arg8) = m ((c.tc : Thread Cert.ReferenceMixUpIdeal.nD Cert.ReferenceMixUpIdeal.τ).loc Cert.ReferenceMixUpIdeal.main_arg8)
      ∧ r.2.mem ((c.tc : Thread Cert.ReferenceMixUpIdeal.nD Cert.ReferenceMixUpIdeal.τ).loc Cert.ReferenceMixUpIdeal.main_arg9) = m ((c.tc : Thread Cert.ReferenceMixUpIdeal.nD Cert.ReferenceMixUpIdeal.τ).loc Cert.ReferenceMixUpIdeal.main_arg9)
      ∧ r.2.mem ((c.tc : Thread Cert.ReferenceMixUpIdeal.nD Cert.ReferenceMixUpIdeal.τ).loc Cert.ReferenceMixUpIdeal.main_arg10) = m ((c.tc : Thread Cert.ReferenceMixUpIdeal.nD Cert.ReferenceMixUpIdeal.τ).loc Cert.ReferenceMixUpIdeal.main_arg10)
      ∧ r.2.mem ((c.tc : Thread Cert.ReferenceMixUpIdeal.nD Cert.ReferenceMixUpIdeal.τ).loc Cert.ReferenceMixUpIdeal.main_arg11) = m ((c.tc : Thread Cert.ReferenceMixUpIdeal.nD Cert.ReferenceMixUpIdeal.τ).loc Cert.ReferenceMixUpIdeal.main_arg11))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelLast [hKernelLast : Cert.KernelLast.Facts] : Prop :=
  ∀ (m : (ℓ : Loc Cert.KernelLast.nD Cert.KernelLast.τ Cert.KernelLast.sig) → Buf (Elt Bits) ℓ) (g : Dev Cert.KernelLast.nD → PrngReg), Pre_KernelLast m →
    θ_run (Cert.KernelLast.defs (F := Bits)) (onTc (τ := Cert.KernelLast.τ) (Cert.KernelLast.main (F := Bits))) ⟨m, fun _ => 0, g⟩ (fun r => (∀ c : Dev Cert.KernelLast.nD,
      r.2.mem ((c.tc : Thread Cert.KernelLast.nD Cert.KernelLast.τ).loc Cert.KernelLast.main_arg0) = m ((c.tc : Thread Cert.KernelLast.nD Cert.KernelLast.τ).loc Cert.KernelLast.main_arg0)
      ∧ r.2.mem ((c.tc : Thread Cert.KernelLast.nD Cert.KernelLast.τ).loc Cert.KernelLast.main_arg1) = m ((c.tc : Thread Cert.KernelLast.nD Cert.KernelLast.τ).loc Cert.KernelLast.main_arg1)
      ∧ r.2.mem ((c.tc : Thread Cert.KernelLast.nD Cert.KernelLast.τ).loc Cert.KernelLast.main_arg2) = m ((c.tc : Thread Cert.KernelLast.nD Cert.KernelLast.τ).loc Cert.KernelLast.main_arg2)
      ∧ r.2.mem ((c.tc : Thread Cert.KernelLast.nD Cert.KernelLast.τ).loc Cert.KernelLast.main_arg3) = m ((c.tc : Thread Cert.KernelLast.nD Cert.KernelLast.τ).loc Cert.KernelLast.main_arg3))
      ∧ r.2.sem = fun _ => 0)

def quiescent_KernelLastIdeal [hKernelLastIdeal : Cert.KernelLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
      ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
      ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1)
      ∧ r.2.mem ((c.tc : Thread Cert.ReferenceLastIdeal.nD Cert.ReferenceLastIdeal.τ).loc Cert.ReferenceLastIdeal.main_arg2) = m ((c.tc : Thread Cert.ReferenceLastIdeal.nD Cert.ReferenceLastIdeal.τ).loc Cert.ReferenceLastIdeal.main_arg2)
      ∧ r.2.mem ((c.tc : Thread Cert.ReferenceLastIdeal.nD Cert.ReferenceLastIdeal.τ).loc Cert.ReferenceLastIdeal.main_arg3) = m ((c.tc : Thread Cert.ReferenceLastIdeal.nD Cert.ReferenceLastIdeal.τ).loc Cert.ReferenceLastIdeal.main_arg3))
      ∧ r.2.sem = fun _ => 0)

def quiescent_KernelInC [hKernelInC : Cert.KernelInC.Facts] : Prop :=
  ∀ (m : (ℓ : Loc Cert.KernelInC.nD Cert.KernelInC.τ Cert.KernelInC.sig) → Buf (Elt Bits) ℓ) (g : Dev Cert.KernelInC.nD → PrngReg), Pre_KernelInC m →
    θ_run (Cert.KernelInC.defs (F := Bits)) (onTc (τ := Cert.KernelInC.τ) (Cert.KernelInC.main (F := Bits))) ⟨m, fun _ => 0, g⟩ (fun r => (∀ c : Dev Cert.KernelInC.nD,
      r.2.mem ((c.tc : Thread Cert.KernelInC.nD Cert.KernelInC.τ).loc Cert.KernelInC.main_arg0) = m ((c.tc : Thread Cert.KernelInC.nD Cert.KernelInC.τ).loc Cert.KernelInC.main_arg0)
      ∧ r.2.mem ((c.tc : Thread Cert.KernelInC.nD Cert.KernelInC.τ).loc Cert.KernelInC.main_arg1) = m ((c.tc : Thread Cert.KernelInC.nD Cert.KernelInC.τ).loc Cert.KernelInC.main_arg1))
      ∧ r.2.sem = fun _ => 0)

def quiescent_KernelInCIdeal [hKernelInCIdeal : Cert.KernelInCIdeal.Facts] : Prop :=
  ∀ (m : (ℓ : Loc Cert.KernelInCIdeal.nD Cert.KernelInCIdeal.τ Cert.KernelInCIdeal.sig) → Buf (Elt Ideal) ℓ) (g : Dev Cert.KernelInCIdeal.nD → PrngReg), Pre_KernelInCIdeal m →
    θ_run (Cert.KernelInCIdeal.defs (F := Ideal)) (onTc (τ := Cert.KernelInCIdeal.τ) (Cert.KernelInCIdeal.main (F := Ideal))) ⟨m, fun _ => 0, g⟩ (fun r => (∀ c : Dev Cert.KernelInCIdeal.nD,
      r.2.mem ((c.tc : Thread Cert.KernelInCIdeal.nD Cert.KernelInCIdeal.τ).loc Cert.KernelInCIdeal.main_arg0) = m ((c.tc : Thread Cert.KernelInCIdeal.nD Cert.KernelInCIdeal.τ).loc Cert.KernelInCIdeal.main_arg0)
      ∧ r.2.mem ((c.tc : Thread Cert.KernelInCIdeal.nD Cert.KernelInCIdeal.τ).loc Cert.KernelInCIdeal.main_arg1) = m ((c.tc : Thread Cert.KernelInCIdeal.nD Cert.KernelInCIdeal.τ).loc Cert.KernelInCIdeal.main_arg1))
      ∧ r.2.sem = fun _ => 0)

def quiescent_ReferenceInCIdeal [hReferenceInCIdeal : Cert.ReferenceInCIdeal.Facts] : Prop :=
  ∀ (m : (ℓ : Loc Cert.ReferenceInCIdeal.nD Cert.ReferenceInCIdeal.τ Cert.ReferenceInCIdeal.sig) → Buf (Elt Ideal) ℓ) (g : Dev Cert.ReferenceInCIdeal.nD → PrngReg), Pre_ReferenceInCIdeal m →
    θ_run (Cert.ReferenceInCIdeal.defs (F := Ideal)) (onTc (τ := Cert.ReferenceInCIdeal.τ) (Cert.ReferenceInCIdeal.main (F := Ideal))) ⟨m, fun _ => 0, g⟩ (fun r => (∀ c : Dev Cert.ReferenceInCIdeal.nD,
      r.2.mem ((c.tc : Thread Cert.ReferenceInCIdeal.nD Cert.ReferenceInCIdeal.τ).loc Cert.ReferenceInCIdeal.main_arg0) = m ((c.tc : Thread Cert.ReferenceInCIdeal.nD Cert.ReferenceInCIdeal.τ).loc Cert.ReferenceInCIdeal.main_arg0)
      ∧ r.2.mem ((c.tc : Thread Cert.ReferenceInCIdeal.nD Cert.ReferenceInCIdeal.τ).loc Cert.ReferenceInCIdeal.main_arg1) = m ((c.tc : Thread Cert.ReferenceInCIdeal.nD Cert.ReferenceInCIdeal.τ).loc Cert.ReferenceInCIdeal.main_arg1))
      ∧ r.2.sem = fun _ => 0)

def quiescent_KernelInQ [hKernelInQ : Cert.KernelInQ.Facts] : Prop :=
  ∀ (m : (ℓ : Loc Cert.KernelInQ.nD Cert.KernelInQ.τ Cert.KernelInQ.sig) → Buf (Elt Bits) ℓ) (g : Dev Cert.KernelInQ.nD → PrngReg), Pre_KernelInQ m →
    θ_run (Cert.KernelInQ.defs (F := Bits)) (onTc (τ := Cert.KernelInQ.τ) (Cert.KernelInQ.main (F := Bits))) ⟨m, fun _ => 0, g⟩ (fun r => (∀ c : Dev Cert.KernelInQ.nD,
      r.2.mem ((c.tc : Thread Cert.KernelInQ.nD Cert.KernelInQ.τ).loc Cert.KernelInQ.main_arg0) = m ((c.tc : Thread Cert.KernelInQ.nD Cert.KernelInQ.τ).loc Cert.KernelInQ.main_arg0)
      ∧ r.2.mem ((c.tc : Thread Cert.KernelInQ.nD Cert.KernelInQ.τ).loc Cert.KernelInQ.main_arg1) = m ((c.tc : Thread Cert.KernelInQ.nD Cert.KernelInQ.τ).loc Cert.KernelInQ.main_arg1))
      ∧ r.2.sem = fun _ => 0)

def quiescent_KernelInQIdeal [hKernelInQIdeal : Cert.KernelInQIdeal.Facts] : Prop :=
  ∀ (m : (ℓ : Loc Cert.KernelInQIdeal.nD Cert.KernelInQIdeal.τ Cert.KernelInQIdeal.sig) → Buf (Elt Ideal) ℓ) (g : Dev Cert.KernelInQIdeal.nD → PrngReg), Pre_KernelInQIdeal m →
    θ_run (Cert.KernelInQIdeal.defs (F := Ideal)) (onTc (τ := Cert.KernelInQIdeal.τ) (Cert.KernelInQIdeal.main (F := Ideal))) ⟨m, fun _ => 0, g⟩ (fun r => (∀ c : Dev Cert.KernelInQIdeal.nD,
      r.2.mem ((c.tc : Thread Cert.KernelInQIdeal.nD Cert.KernelInQIdeal.τ).loc Cert.KernelInQIdeal.main_arg0) = m ((c.tc : Thread Cert.KernelInQIdeal.nD Cert.KernelInQIdeal.τ).loc Cert.KernelInQIdeal.main_arg0)
      ∧ r.2.mem ((c.tc : Thread Cert.KernelInQIdeal.nD Cert.KernelInQIdeal.τ).loc Cert.KernelInQIdeal.main_arg1) = m ((c.tc : Thread Cert.KernelInQIdeal.nD Cert.KernelInQIdeal.τ).loc Cert.KernelInQIdeal.main_arg1))
      ∧ r.2.sem = fun _ => 0)

def quiescent_ReferenceInQIdeal [hReferenceInQIdeal : Cert.ReferenceInQIdeal.Facts] : Prop :=
  ∀ (m : (ℓ : Loc Cert.ReferenceInQIdeal.nD Cert.ReferenceInQIdeal.τ Cert.ReferenceInQIdeal.sig) → Buf (Elt Ideal) ℓ) (g : Dev Cert.ReferenceInQIdeal.nD → PrngReg), Pre_ReferenceInQIdeal m →
    θ_run (Cert.ReferenceInQIdeal.defs (F := Ideal)) (onTc (τ := Cert.ReferenceInQIdeal.τ) (Cert.ReferenceInQIdeal.main (F := Ideal))) ⟨m, fun _ => 0, g⟩ (fun r => (∀ c : Dev Cert.ReferenceInQIdeal.nD,
      r.2.mem ((c.tc : Thread Cert.ReferenceInQIdeal.nD Cert.ReferenceInQIdeal.τ).loc Cert.ReferenceInQIdeal.main_arg0) = m ((c.tc : Thread Cert.ReferenceInQIdeal.nD Cert.ReferenceInQIdeal.τ).loc Cert.ReferenceInQIdeal.main_arg0)
      ∧ r.2.mem ((c.tc : Thread Cert.ReferenceInQIdeal.nD Cert.ReferenceInQIdeal.τ).loc Cert.ReferenceInQIdeal.main_arg1) = m ((c.tc : Thread Cert.ReferenceInQIdeal.nD Cert.ReferenceInQIdeal.τ).loc Cert.ReferenceInQIdeal.main_arg1))
      ∧ r.2.sem = fun _ => 0)

def quiescent_KernelInG [hKernelInG : Cert.KernelInG.Facts] : Prop :=
  ∀ (m : (ℓ : Loc Cert.KernelInG.nD Cert.KernelInG.τ Cert.KernelInG.sig) → Buf (Elt Bits) ℓ) (g : Dev Cert.KernelInG.nD → PrngReg), Pre_KernelInG m →
    θ_run (Cert.KernelInG.defs (F := Bits)) (onTc (τ := Cert.KernelInG.τ) (Cert.KernelInG.main (F := Bits))) ⟨m, fun _ => 0, g⟩ (fun r => (∀ c : Dev Cert.KernelInG.nD,
      r.2.mem ((c.tc : Thread Cert.KernelInG.nD Cert.KernelInG.τ).loc Cert.KernelInG.main_arg0) = m ((c.tc : Thread Cert.KernelInG.nD Cert.KernelInG.τ).loc Cert.KernelInG.main_arg0)
      ∧ r.2.mem ((c.tc : Thread Cert.KernelInG.nD Cert.KernelInG.τ).loc Cert.KernelInG.main_arg1) = m ((c.tc : Thread Cert.KernelInG.nD Cert.KernelInG.τ).loc Cert.KernelInG.main_arg1))
      ∧ r.2.sem = fun _ => 0)

def quiescent_KernelInGIdeal [hKernelInGIdeal : Cert.KernelInGIdeal.Facts] : Prop :=
  ∀ (m : (ℓ : Loc Cert.KernelInGIdeal.nD Cert.KernelInGIdeal.τ Cert.KernelInGIdeal.sig) → Buf (Elt Ideal) ℓ) (g : Dev Cert.KernelInGIdeal.nD → PrngReg), Pre_KernelInGIdeal m →
    θ_run (Cert.KernelInGIdeal.defs (F := Ideal)) (onTc (τ := Cert.KernelInGIdeal.τ) (Cert.KernelInGIdeal.main (F := Ideal))) ⟨m, fun _ => 0, g⟩ (fun r => (∀ c : Dev Cert.KernelInGIdeal.nD,
      r.2.mem ((c.tc : Thread Cert.KernelInGIdeal.nD Cert.KernelInGIdeal.τ).loc Cert.KernelInGIdeal.main_arg0) = m ((c.tc : Thread Cert.KernelInGIdeal.nD Cert.KernelInGIdeal.τ).loc Cert.KernelInGIdeal.main_arg0)
      ∧ r.2.mem ((c.tc : Thread Cert.KernelInGIdeal.nD Cert.KernelInGIdeal.τ).loc Cert.KernelInGIdeal.main_arg1) = m ((c.tc : Thread Cert.KernelInGIdeal.nD Cert.KernelInGIdeal.τ).loc Cert.KernelInGIdeal.main_arg1))
      ∧ r.2.sem = fun _ => 0)

def quiescent_ReferenceInGIdeal [hReferenceInGIdeal : Cert.ReferenceInGIdeal.Facts] : Prop :=
  ∀ (m : (ℓ : Loc Cert.ReferenceInGIdeal.nD Cert.ReferenceInGIdeal.τ Cert.ReferenceInGIdeal.sig) → Buf (Elt Ideal) ℓ) (g : Dev Cert.ReferenceInGIdeal.nD → PrngReg), Pre_ReferenceInGIdeal m →
    θ_run (Cert.ReferenceInGIdeal.defs (F := Ideal)) (onTc (τ := Cert.ReferenceInGIdeal.τ) (Cert.ReferenceInGIdeal.main (F := Ideal))) ⟨m, fun _ => 0, g⟩ (fun r => (∀ c : Dev Cert.ReferenceInGIdeal.nD,
      r.2.mem ((c.tc : Thread Cert.ReferenceInGIdeal.nD Cert.ReferenceInGIdeal.τ).loc Cert.ReferenceInGIdeal.main_arg0) = m ((c.tc : Thread Cert.ReferenceInGIdeal.nD Cert.ReferenceInGIdeal.τ).loc Cert.ReferenceInGIdeal.main_arg0)
      ∧ r.2.mem ((c.tc : Thread Cert.ReferenceInGIdeal.nD Cert.ReferenceInGIdeal.τ).loc Cert.ReferenceInGIdeal.main_arg1) = m ((c.tc : Thread Cert.ReferenceInGIdeal.nD Cert.ReferenceInGIdeal.τ).loc Cert.ReferenceInGIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def preserves_KernelAttn_KernelAttnIdeal : Prop :=
  True

def algebraic_KernelAttnIdeal_ReferenceAttnIdeal [hKernelAttnIdeal : Cert.KernelAttnIdeal.Facts] [hReferenceAttnIdeal : Cert.ReferenceAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)) →
    ∃ (v0 : (c : Dev Cert.KernelAttnIdeal.nD) → Buf (Elt Ideal) ((c.tc : Thread Cert.KernelAttnIdeal.nD Cert.KernelAttnIdeal.τ).loc Cert.KernelAttnIdeal.main_v0)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v0) = v0 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v75) = v0 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)
      ∧ m' ((c.tc : Thread Cert.ReferenceConvIdeal.nD Cert.ReferenceConvIdeal.τ).loc Cert.ReferenceConvIdeal.main_arg3) = m ((c.tc : Thread Cert.KernelConvIdeal.nD Cert.KernelConvIdeal.τ).loc Cert.KernelConvIdeal.main_arg3)
      ∧ m' ((c.tc : Thread Cert.ReferenceConvIdeal.nD Cert.ReferenceConvIdeal.τ).loc Cert.ReferenceConvIdeal.main_arg4) = m ((c.tc : Thread Cert.KernelConvIdeal.nD Cert.KernelConvIdeal.τ).loc Cert.KernelConvIdeal.main_arg4)) →
    ∃ (v0 : (c : Dev Cert.KernelConvIdeal.nD) → Buf (Elt Ideal) ((c.tc : Thread Cert.KernelConvIdeal.nD Cert.KernelConvIdeal.τ).loc Cert.KernelConvIdeal.main_v8_0)) (v1 : (c : Dev Cert.KernelConvIdeal.nD) → Buf (Elt Ideal) ((c.tc : Thread Cert.KernelConvIdeal.nD Cert.KernelConvIdeal.τ).loc Cert.KernelConvIdeal.main_v8_1)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v8_0) = v0 c
          ∧ r.2.mem ((c.tc : Thread Cert.KernelConvIdeal.nD Cert.KernelConvIdeal.τ).loc Cert.KernelConvIdeal.main_v8_1) = v1 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
          ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
          ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v280) = v0 c
          ∧ r.2.mem ((c.tc : Thread Cert.ReferenceConvIdeal.nD Cert.ReferenceConvIdeal.τ).loc Cert.ReferenceConvIdeal.main_v282) = v1 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3)
          ∧ r.2.mem ((c.tc : Thread Cert.ReferenceConvIdeal.nD Cert.ReferenceConvIdeal.τ).loc Cert.ReferenceConvIdeal.main_arg4) = m' ((c.tc : Thread Cert.ReferenceConvIdeal.nD Cert.ReferenceConvIdeal.τ).loc Cert.ReferenceConvIdeal.main_arg4))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)
      ∧ m' ((c.tc : Thread Cert.ReferenceMixIdeal.nD Cert.ReferenceMixIdeal.τ).loc Cert.ReferenceMixIdeal.main_arg8) = m ((c.tc : Thread Cert.KernelMixIdeal.nD Cert.KernelMixIdeal.τ).loc Cert.KernelMixIdeal.main_arg8)
      ∧ m' ((c.tc : Thread Cert.ReferenceMixIdeal.nD Cert.ReferenceMixIdeal.τ).loc Cert.ReferenceMixIdeal.main_arg9) = m ((c.tc : Thread Cert.KernelMixIdeal.nD Cert.KernelMixIdeal.τ).loc Cert.KernelMixIdeal.main_arg9)
      ∧ m' ((c.tc : Thread Cert.ReferenceMixIdeal.nD Cert.ReferenceMixIdeal.τ).loc Cert.ReferenceMixIdeal.main_arg10) = m ((c.tc : Thread Cert.KernelMixIdeal.nD Cert.KernelMixIdeal.τ).loc Cert.KernelMixIdeal.main_arg10)) →
    ∃ (v0 : (c : Dev Cert.KernelMixIdeal.nD) → Buf (Elt Ideal) ((c.tc : Thread Cert.KernelMixIdeal.nD Cert.KernelMixIdeal.τ).loc Cert.KernelMixIdeal.main_v6_0)) (v1 : (c : Dev Cert.KernelMixIdeal.nD) → Buf (Elt Ideal) ((c.tc : Thread Cert.KernelMixIdeal.nD Cert.KernelMixIdeal.τ).loc Cert.KernelMixIdeal.main_v6_1)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v6_0) = v0 c
          ∧ r.2.mem ((c.tc : Thread Cert.KernelMixIdeal.nD Cert.KernelMixIdeal.τ).loc Cert.KernelMixIdeal.main_v6_1) = v1 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
          ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
          ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9)
          ∧ r.2.mem ((c.tc : Thread Cert.KernelMixIdeal.nD Cert.KernelMixIdeal.τ).loc Cert.KernelMixIdeal.main_arg10) = m ((c.tc : Thread Cert.KernelMixIdeal.nD Cert.KernelMixIdeal.τ).loc Cert.KernelMixIdeal.main_arg10))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v29) = v0 c
          ∧ r.2.mem ((c.tc : Thread Cert.ReferenceMixIdeal.nD Cert.ReferenceMixIdeal.τ).loc Cert.ReferenceMixIdeal.main_v43) = v1 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7)
          ∧ r.2.mem ((c.tc : Thread Cert.ReferenceMixIdeal.nD Cert.ReferenceMixIdeal.τ).loc Cert.ReferenceMixIdeal.main_arg8) = m' ((c.tc : Thread Cert.ReferenceMixIdeal.nD Cert.ReferenceMixIdeal.τ).loc Cert.ReferenceMixIdeal.main_arg8)
          ∧ r.2.mem ((c.tc : Thread Cert.ReferenceMixIdeal.nD Cert.ReferenceMixIdeal.τ).loc Cert.ReferenceMixIdeal.main_arg9) = m' ((c.tc : Thread Cert.ReferenceMixIdeal.nD Cert.ReferenceMixIdeal.τ).loc Cert.ReferenceMixIdeal.main_arg9)
          ∧ r.2.mem ((c.tc : Thread Cert.ReferenceMixIdeal.nD Cert.ReferenceMixIdeal.τ).loc Cert.ReferenceMixIdeal.main_arg10) = m' ((c.tc : Thread Cert.ReferenceMixIdeal.nD Cert.ReferenceMixIdeal.τ).loc Cert.ReferenceMixIdeal.main_arg10))

def preserves_KernelMixUp_KernelMixUpIdeal : Prop :=
  True

def algebraic_KernelMixUpIdeal_ReferenceMixUpIdeal [hKernelMixUpIdeal : Cert.KernelMixUpIdeal.Facts] [hReferenceMixUpIdeal : Cert.ReferenceMixUpIdeal.Facts] : Prop :=
  ∀ (m : (ℓ : Loc Cert.KernelMixUpIdeal.nD Cert.KernelMixUpIdeal.τ Cert.KernelMixUpIdeal.sig) → Buf (Elt Ideal) ℓ) (g : Dev Cert.KernelMixUpIdeal.nD → PrngReg)
    (m' : (ℓ : Loc Cert.ReferenceMixUpIdeal.nD Cert.ReferenceMixUpIdeal.τ Cert.ReferenceMixUpIdeal.sig) → Buf (Elt Ideal) ℓ) (g' : Dev Cert.ReferenceMixUpIdeal.nD → PrngReg), Pre_KernelMixUpIdeal m →
    (∀ c : Dev Cert.KernelMixUpIdeal.nD,
      m' ((c.tc : Thread Cert.ReferenceMixUpIdeal.nD Cert.ReferenceMixUpIdeal.τ).loc Cert.ReferenceMixUpIdeal.main_arg0) = m ((c.tc : Thread Cert.KernelMixUpIdeal.nD Cert.KernelMixUpIdeal.τ).loc Cert.KernelMixUpIdeal.main_arg0)
      ∧ m' ((c.tc : Thread Cert.ReferenceMixUpIdeal.nD Cert.ReferenceMixUpIdeal.τ).loc Cert.ReferenceMixUpIdeal.main_arg1) = m ((c.tc : Thread Cert.KernelMixUpIdeal.nD Cert.KernelMixUpIdeal.τ).loc Cert.KernelMixUpIdeal.main_arg1)
      ∧ m' ((c.tc : Thread Cert.ReferenceMixUpIdeal.nD Cert.ReferenceMixUpIdeal.τ).loc Cert.ReferenceMixUpIdeal.main_arg2) = m ((c.tc : Thread Cert.KernelMixUpIdeal.nD Cert.KernelMixUpIdeal.τ).loc Cert.KernelMixUpIdeal.main_arg2)
      ∧ m' ((c.tc : Thread Cert.ReferenceMixUpIdeal.nD Cert.ReferenceMixUpIdeal.τ).loc Cert.ReferenceMixUpIdeal.main_arg3) = m ((c.tc : Thread Cert.KernelMixUpIdeal.nD Cert.KernelMixUpIdeal.τ).loc Cert.KernelMixUpIdeal.main_arg3)
      ∧ m' ((c.tc : Thread Cert.ReferenceMixUpIdeal.nD Cert.ReferenceMixUpIdeal.τ).loc Cert.ReferenceMixUpIdeal.main_arg4) = m ((c.tc : Thread Cert.KernelMixUpIdeal.nD Cert.KernelMixUpIdeal.τ).loc Cert.KernelMixUpIdeal.main_arg4)
      ∧ m' ((c.tc : Thread Cert.ReferenceMixUpIdeal.nD Cert.ReferenceMixUpIdeal.τ).loc Cert.ReferenceMixUpIdeal.main_arg5) = m ((c.tc : Thread Cert.KernelMixUpIdeal.nD Cert.KernelMixUpIdeal.τ).loc Cert.KernelMixUpIdeal.main_arg5)
      ∧ m' ((c.tc : Thread Cert.ReferenceMixUpIdeal.nD Cert.ReferenceMixUpIdeal.τ).loc Cert.ReferenceMixUpIdeal.main_arg6) = m ((c.tc : Thread Cert.KernelMixUpIdeal.nD Cert.KernelMixUpIdeal.τ).loc Cert.KernelMixUpIdeal.main_arg6)
      ∧ m' ((c.tc : Thread Cert.ReferenceMixUpIdeal.nD Cert.ReferenceMixUpIdeal.τ).loc Cert.ReferenceMixUpIdeal.main_arg7) = m ((c.tc : Thread Cert.KernelMixUpIdeal.nD Cert.KernelMixUpIdeal.τ).loc Cert.KernelMixUpIdeal.main_arg7)
      ∧ m' ((c.tc : Thread Cert.ReferenceMixUpIdeal.nD Cert.ReferenceMixUpIdeal.τ).loc Cert.ReferenceMixUpIdeal.main_arg8) = m ((c.tc : Thread Cert.KernelMixUpIdeal.nD Cert.KernelMixUpIdeal.τ).loc Cert.KernelMixUpIdeal.main_arg8)
      ∧ m' ((c.tc : Thread Cert.ReferenceMixUpIdeal.nD Cert.ReferenceMixUpIdeal.τ).loc Cert.ReferenceMixUpIdeal.main_arg9) = m ((c.tc : Thread Cert.KernelMixUpIdeal.nD Cert.KernelMixUpIdeal.τ).loc Cert.KernelMixUpIdeal.main_arg9)
      ∧ m' ((c.tc : Thread Cert.ReferenceMixUpIdeal.nD Cert.ReferenceMixUpIdeal.τ).loc Cert.ReferenceMixUpIdeal.main_arg10) = m ((c.tc : Thread Cert.KernelMixUpIdeal.nD Cert.KernelMixUpIdeal.τ).loc Cert.KernelMixUpIdeal.main_arg10)
      ∧ m' ((c.tc : Thread Cert.ReferenceMixUpIdeal.nD Cert.ReferenceMixUpIdeal.τ).loc Cert.ReferenceMixUpIdeal.main_arg11) = m ((c.tc : Thread Cert.KernelMixUpIdeal.nD Cert.KernelMixUpIdeal.τ).loc Cert.KernelMixUpIdeal.main_arg11)) →
    ∃ (v0 : (c : Dev Cert.KernelMixUpIdeal.nD) → Buf (Elt Ideal) ((c.tc : Thread Cert.KernelMixUpIdeal.nD Cert.KernelMixUpIdeal.τ).loc Cert.KernelMixUpIdeal.main_v6_0)) (v1 : (c : Dev Cert.KernelMixUpIdeal.nD) → Buf (Elt Ideal) ((c.tc : Thread Cert.KernelMixUpIdeal.nD Cert.KernelMixUpIdeal.τ).loc Cert.KernelMixUpIdeal.main_v8)),
      θ_run (Cert.KernelMixUpIdeal.defs (F := Ideal)) (onTc (τ := Cert.KernelMixUpIdeal.τ) (Cert.KernelMixUpIdeal.main (F := Ideal))) ⟨m, fun _ => 0, g⟩ (fun r => ∀ c : Dev Cert.KernelMixUpIdeal.nD,
          r.2.mem ((c.tc : Thread Cert.KernelMixUpIdeal.nD Cert.KernelMixUpIdeal.τ).loc Cert.KernelMixUpIdeal.main_v6_0) = v0 c
          ∧ r.2.mem ((c.tc : Thread Cert.KernelMixUpIdeal.nD Cert.KernelMixUpIdeal.τ).loc Cert.KernelMixUpIdeal.main_v8) = v1 c
          ∧ r.2.mem ((c.tc : Thread Cert.KernelMixUpIdeal.nD Cert.KernelMixUpIdeal.τ).loc Cert.KernelMixUpIdeal.main_arg0) = m ((c.tc : Thread Cert.KernelMixUpIdeal.nD Cert.KernelMixUpIdeal.τ).loc Cert.KernelMixUpIdeal.main_arg0)
          ∧ r.2.mem ((c.tc : Thread Cert.KernelMixUpIdeal.nD Cert.KernelMixUpIdeal.τ).loc Cert.KernelMixUpIdeal.main_arg1) = m ((c.tc : Thread Cert.KernelMixUpIdeal.nD Cert.KernelMixUpIdeal.τ).loc Cert.KernelMixUpIdeal.main_arg1)
          ∧ r.2.mem ((c.tc : Thread Cert.KernelMixUpIdeal.nD Cert.KernelMixUpIdeal.τ).loc Cert.KernelMixUpIdeal.main_arg2) = m ((c.tc : Thread Cert.KernelMixUpIdeal.nD Cert.KernelMixUpIdeal.τ).loc Cert.KernelMixUpIdeal.main_arg2)
          ∧ r.2.mem ((c.tc : Thread Cert.KernelMixUpIdeal.nD Cert.KernelMixUpIdeal.τ).loc Cert.KernelMixUpIdeal.main_arg3) = m ((c.tc : Thread Cert.KernelMixUpIdeal.nD Cert.KernelMixUpIdeal.τ).loc Cert.KernelMixUpIdeal.main_arg3)
          ∧ r.2.mem ((c.tc : Thread Cert.KernelMixUpIdeal.nD Cert.KernelMixUpIdeal.τ).loc Cert.KernelMixUpIdeal.main_arg4) = m ((c.tc : Thread Cert.KernelMixUpIdeal.nD Cert.KernelMixUpIdeal.τ).loc Cert.KernelMixUpIdeal.main_arg4)
          ∧ r.2.mem ((c.tc : Thread Cert.KernelMixUpIdeal.nD Cert.KernelMixUpIdeal.τ).loc Cert.KernelMixUpIdeal.main_arg5) = m ((c.tc : Thread Cert.KernelMixUpIdeal.nD Cert.KernelMixUpIdeal.τ).loc Cert.KernelMixUpIdeal.main_arg5)
          ∧ r.2.mem ((c.tc : Thread Cert.KernelMixUpIdeal.nD Cert.KernelMixUpIdeal.τ).loc Cert.KernelMixUpIdeal.main_arg6) = m ((c.tc : Thread Cert.KernelMixUpIdeal.nD Cert.KernelMixUpIdeal.τ).loc Cert.KernelMixUpIdeal.main_arg6)
          ∧ r.2.mem ((c.tc : Thread Cert.KernelMixUpIdeal.nD Cert.KernelMixUpIdeal.τ).loc Cert.KernelMixUpIdeal.main_arg7) = m ((c.tc : Thread Cert.KernelMixUpIdeal.nD Cert.KernelMixUpIdeal.τ).loc Cert.KernelMixUpIdeal.main_arg7)
          ∧ r.2.mem ((c.tc : Thread Cert.KernelMixUpIdeal.nD Cert.KernelMixUpIdeal.τ).loc Cert.KernelMixUpIdeal.main_arg8) = m ((c.tc : Thread Cert.KernelMixUpIdeal.nD Cert.KernelMixUpIdeal.τ).loc Cert.KernelMixUpIdeal.main_arg8)
          ∧ r.2.mem ((c.tc : Thread Cert.KernelMixUpIdeal.nD Cert.KernelMixUpIdeal.τ).loc Cert.KernelMixUpIdeal.main_arg9) = m ((c.tc : Thread Cert.KernelMixUpIdeal.nD Cert.KernelMixUpIdeal.τ).loc Cert.KernelMixUpIdeal.main_arg9)
          ∧ r.2.mem ((c.tc : Thread Cert.KernelMixUpIdeal.nD Cert.KernelMixUpIdeal.τ).loc Cert.KernelMixUpIdeal.main_arg10) = m ((c.tc : Thread Cert.KernelMixUpIdeal.nD Cert.KernelMixUpIdeal.τ).loc Cert.KernelMixUpIdeal.main_arg10)
          ∧ r.2.mem ((c.tc : Thread Cert.KernelMixUpIdeal.nD Cert.KernelMixUpIdeal.τ).loc Cert.KernelMixUpIdeal.main_arg11) = m ((c.tc : Thread Cert.KernelMixUpIdeal.nD Cert.KernelMixUpIdeal.τ).loc Cert.KernelMixUpIdeal.main_arg11))
      ∧ θ_run (Cert.ReferenceMixUpIdeal.defs (F := Ideal)) (onTc (τ := Cert.ReferenceMixUpIdeal.τ) (Cert.ReferenceMixUpIdeal.main (F := Ideal))) ⟨m', fun _ => 0, g'⟩ (fun r => ∀ c : Dev Cert.ReferenceMixUpIdeal.nD,
          r.2.mem ((c.tc : Thread Cert.ReferenceMixUpIdeal.nD Cert.ReferenceMixUpIdeal.τ).loc Cert.ReferenceMixUpIdeal.main_v29) = v0 c
          ∧ r.2.mem ((c.tc : Thread Cert.ReferenceMixUpIdeal.nD Cert.ReferenceMixUpIdeal.τ).loc Cert.ReferenceMixUpIdeal.main_v46) = v1 c
          ∧ r.2.mem ((c.tc : Thread Cert.ReferenceMixUpIdeal.nD Cert.ReferenceMixUpIdeal.τ).loc Cert.ReferenceMixUpIdeal.main_arg0) = m' ((c.tc : Thread Cert.ReferenceMixUpIdeal.nD Cert.ReferenceMixUpIdeal.τ).loc Cert.ReferenceMixUpIdeal.main_arg0)
          ∧ r.2.mem ((c.tc : Thread Cert.ReferenceMixUpIdeal.nD Cert.ReferenceMixUpIdeal.τ).loc Cert.ReferenceMixUpIdeal.main_arg1) = m' ((c.tc : Thread Cert.ReferenceMixUpIdeal.nD Cert.ReferenceMixUpIdeal.τ).loc Cert.ReferenceMixUpIdeal.main_arg1)
          ∧ r.2.mem ((c.tc : Thread Cert.ReferenceMixUpIdeal.nD Cert.ReferenceMixUpIdeal.τ).loc Cert.ReferenceMixUpIdeal.main_arg2) = m' ((c.tc : Thread Cert.ReferenceMixUpIdeal.nD Cert.ReferenceMixUpIdeal.τ).loc Cert.ReferenceMixUpIdeal.main_arg2)
          ∧ r.2.mem ((c.tc : Thread Cert.ReferenceMixUpIdeal.nD Cert.ReferenceMixUpIdeal.τ).loc Cert.ReferenceMixUpIdeal.main_arg3) = m' ((c.tc : Thread Cert.ReferenceMixUpIdeal.nD Cert.ReferenceMixUpIdeal.τ).loc Cert.ReferenceMixUpIdeal.main_arg3)
          ∧ r.2.mem ((c.tc : Thread Cert.ReferenceMixUpIdeal.nD Cert.ReferenceMixUpIdeal.τ).loc Cert.ReferenceMixUpIdeal.main_arg4) = m' ((c.tc : Thread Cert.ReferenceMixUpIdeal.nD Cert.ReferenceMixUpIdeal.τ).loc Cert.ReferenceMixUpIdeal.main_arg4)
          ∧ r.2.mem ((c.tc : Thread Cert.ReferenceMixUpIdeal.nD Cert.ReferenceMixUpIdeal.τ).loc Cert.ReferenceMixUpIdeal.main_arg5) = m' ((c.tc : Thread Cert.ReferenceMixUpIdeal.nD Cert.ReferenceMixUpIdeal.τ).loc Cert.ReferenceMixUpIdeal.main_arg5)
          ∧ r.2.mem ((c.tc : Thread Cert.ReferenceMixUpIdeal.nD Cert.ReferenceMixUpIdeal.τ).loc Cert.ReferenceMixUpIdeal.main_arg6) = m' ((c.tc : Thread Cert.ReferenceMixUpIdeal.nD Cert.ReferenceMixUpIdeal.τ).loc Cert.ReferenceMixUpIdeal.main_arg6)
          ∧ r.2.mem ((c.tc : Thread Cert.ReferenceMixUpIdeal.nD Cert.ReferenceMixUpIdeal.τ).loc Cert.ReferenceMixUpIdeal.main_arg7) = m' ((c.tc : Thread Cert.ReferenceMixUpIdeal.nD Cert.ReferenceMixUpIdeal.τ).loc Cert.ReferenceMixUpIdeal.main_arg7)
          ∧ r.2.mem ((c.tc : Thread Cert.ReferenceMixUpIdeal.nD Cert.ReferenceMixUpIdeal.τ).loc Cert.ReferenceMixUpIdeal.main_arg8) = m' ((c.tc : Thread Cert.ReferenceMixUpIdeal.nD Cert.ReferenceMixUpIdeal.τ).loc Cert.ReferenceMixUpIdeal.main_arg8)
          ∧ r.2.mem ((c.tc : Thread Cert.ReferenceMixUpIdeal.nD Cert.ReferenceMixUpIdeal.τ).loc Cert.ReferenceMixUpIdeal.main_arg9) = m' ((c.tc : Thread Cert.ReferenceMixUpIdeal.nD Cert.ReferenceMixUpIdeal.τ).loc Cert.ReferenceMixUpIdeal.main_arg9)
          ∧ r.2.mem ((c.tc : Thread Cert.ReferenceMixUpIdeal.nD Cert.ReferenceMixUpIdeal.τ).loc Cert.ReferenceMixUpIdeal.main_arg10) = m' ((c.tc : Thread Cert.ReferenceMixUpIdeal.nD Cert.ReferenceMixUpIdeal.τ).loc Cert.ReferenceMixUpIdeal.main_arg10)
          ∧ r.2.mem ((c.tc : Thread Cert.ReferenceMixUpIdeal.nD Cert.ReferenceMixUpIdeal.τ).loc Cert.ReferenceMixUpIdeal.main_arg11) = m' ((c.tc : Thread Cert.ReferenceMixUpIdeal.nD Cert.ReferenceMixUpIdeal.τ).loc Cert.ReferenceMixUpIdeal.main_arg11))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v5)) (v1 : (c : Dev Cert.KernelProjIdeal.nD) → Buf (Elt Ideal) ((c.tc : Thread Cert.KernelProjIdeal.nD Cert.KernelProjIdeal.τ).loc Cert.KernelProjIdeal.main_v7)) (v2 : (c : Dev Cert.KernelProjIdeal.nD) → Buf (Elt Ideal) ((c.tc : Thread Cert.KernelProjIdeal.nD Cert.KernelProjIdeal.τ).loc Cert.KernelProjIdeal.main_v9)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v5) = v0 c
          ∧ r.2.mem ((c.tc : Thread Cert.KernelProjIdeal.nD Cert.KernelProjIdeal.τ).loc Cert.KernelProjIdeal.main_v7) = v1 c
          ∧ r.2.mem ((c.tc : Thread Cert.KernelProjIdeal.nD Cert.KernelProjIdeal.τ).loc Cert.KernelProjIdeal.main_v9) = v2 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v16) = v0 c
          ∧ r.2.mem ((c.tc : Thread Cert.ReferenceProjIdeal.nD Cert.ReferenceProjIdeal.τ).loc Cert.ReferenceProjIdeal.main_v18) = v1 c
          ∧ r.2.mem ((c.tc : Thread Cert.ReferenceProjIdeal.nD Cert.ReferenceProjIdeal.τ).loc Cert.ReferenceProjIdeal.main_v20) = v2 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v1) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v4) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v2_0)) (v1 : (c : Dev Cert.KernelDownIdeal.nD) → Buf (Elt Ideal) ((c.tc : Thread Cert.KernelDownIdeal.nD Cert.KernelDownIdeal.τ).loc Cert.KernelDownIdeal.main_v2_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2_0) = v0 c
          ∧ r.2.mem ((c.tc : Thread Cert.KernelDownIdeal.nD Cert.KernelDownIdeal.τ).loc Cert.KernelDownIdeal.main_v2_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v2) = v0 c
          ∧ r.2.mem ((c.tc : Thread Cert.ReferenceDownIdeal.nD Cert.ReferenceDownIdeal.τ).loc Cert.ReferenceDownIdeal.main_v16) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelLast_KernelLastIdeal : Prop :=
  True

def algebraic_KernelLastIdeal_ReferenceLastIdeal [hKernelLastIdeal : Cert.KernelLastIdeal.Facts] [hReferenceLastIdeal : Cert.ReferenceLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_KernelLastIdeal m →
    (∀ c : Dev Cert.KernelLastIdeal.nD,
      m' ((c.tc : Thread Cert.ReferenceLastIdeal.nD Cert.ReferenceLastIdeal.τ).loc Cert.ReferenceLastIdeal.main_arg0) = m ((c.tc : Thread Cert.KernelLastIdeal.nD Cert.KernelLastIdeal.τ).loc Cert.KernelLastIdeal.main_arg0)
      ∧ m' ((c.tc : Thread Cert.ReferenceLastIdeal.nD Cert.ReferenceLastIdeal.τ).loc Cert.ReferenceLastIdeal.main_arg1) = m ((c.tc : Thread Cert.KernelLastIdeal.nD Cert.KernelLastIdeal.τ).loc Cert.KernelLastIdeal.main_arg1)
      ∧ m' ((c.tc : Thread Cert.ReferenceLastIdeal.nD Cert.ReferenceLastIdeal.τ).loc Cert.ReferenceLastIdeal.main_arg2) = m ((c.tc : Thread Cert.KernelLastIdeal.nD Cert.KernelLastIdeal.τ).loc Cert.KernelLastIdeal.main_arg2)
      ∧ m' ((c.tc : Thread Cert.ReferenceLastIdeal.nD Cert.ReferenceLastIdeal.τ).loc Cert.ReferenceLastIdeal.main_arg3) = m ((c.tc : Thread Cert.KernelLastIdeal.nD Cert.KernelLastIdeal.τ).loc Cert.KernelLastIdeal.main_arg3)) →
    ∃ (v0 : (c : Dev Cert.KernelLastIdeal.nD) → Buf (Elt Ideal) ((c.tc : Thread Cert.KernelLastIdeal.nD Cert.KernelLastIdeal.τ).loc Cert.KernelLastIdeal.main_v3)),
      θ_run (Cert.KernelLastIdeal.defs (F := Ideal)) (onTc (τ := Cert.KernelLastIdeal.τ) (Cert.KernelLastIdeal.main (F := Ideal))) ⟨m, fun _ => 0, g⟩ (fun r => ∀ c : Dev Cert.KernelLastIdeal.nD,
          r.2.mem ((c.tc : Thread Cert.KernelLastIdeal.nD Cert.KernelLastIdeal.τ).loc Cert.KernelLastIdeal.main_v3) = v0 c
          ∧ r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
          ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
          ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
          ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v16) = v0 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1)
          ∧ r.2.mem ((c.tc : Thread Cert.ReferenceLastIdeal.nD Cert.ReferenceLastIdeal.τ).loc Cert.ReferenceLastIdeal.main_arg2) = m' ((c.tc : Thread Cert.ReferenceLastIdeal.nD Cert.ReferenceLastIdeal.τ).loc Cert.ReferenceLastIdeal.main_arg2)
          ∧ r.2.mem ((c.tc : Thread Cert.ReferenceLastIdeal.nD Cert.ReferenceLastIdeal.τ).loc Cert.ReferenceLastIdeal.main_arg3) = m' ((c.tc : Thread Cert.ReferenceLastIdeal.nD Cert.ReferenceLastIdeal.τ).loc Cert.ReferenceLastIdeal.main_arg3))

def preserves_KernelInC_KernelInCIdeal : Prop :=
  True

def algebraic_KernelInCIdeal_ReferenceInCIdeal [hKernelInCIdeal : Cert.KernelInCIdeal.Facts] [hReferenceInCIdeal : Cert.ReferenceInCIdeal.Facts] : Prop :=
  ∀ (m : (ℓ : Loc Cert.KernelInCIdeal.nD Cert.KernelInCIdeal.τ Cert.KernelInCIdeal.sig) → Buf (Elt Ideal) ℓ) (g : Dev Cert.KernelInCIdeal.nD → PrngReg)
    (m' : (ℓ : Loc Cert.ReferenceInCIdeal.nD Cert.ReferenceInCIdeal.τ Cert.ReferenceInCIdeal.sig) → Buf (Elt Ideal) ℓ) (g' : Dev Cert.ReferenceInCIdeal.nD → PrngReg), Pre_KernelInCIdeal m →
    (∀ c : Dev Cert.KernelInCIdeal.nD,
      m' ((c.tc : Thread Cert.ReferenceInCIdeal.nD Cert.ReferenceInCIdeal.τ).loc Cert.ReferenceInCIdeal.main_arg0) = m ((c.tc : Thread Cert.KernelInCIdeal.nD Cert.KernelInCIdeal.τ).loc Cert.KernelInCIdeal.main_arg0)
      ∧ m' ((c.tc : Thread Cert.ReferenceInCIdeal.nD Cert.ReferenceInCIdeal.τ).loc Cert.ReferenceInCIdeal.main_arg1) = m ((c.tc : Thread Cert.KernelInCIdeal.nD Cert.KernelInCIdeal.τ).loc Cert.KernelInCIdeal.main_arg1)) →
    ∃ (v0 : (c : Dev Cert.KernelInCIdeal.nD) → Buf (Elt Ideal) ((c.tc : Thread Cert.KernelInCIdeal.nD Cert.KernelInCIdeal.τ).loc Cert.KernelInCIdeal.main_v2)),
      θ_run (Cert.KernelInCIdeal.defs (F := Ideal)) (onTc (τ := Cert.KernelInCIdeal.τ) (Cert.KernelInCIdeal.main (F := Ideal))) ⟨m, fun _ => 0, g⟩ (fun r => ∀ c : Dev Cert.KernelInCIdeal.nD,
          r.2.mem ((c.tc : Thread Cert.KernelInCIdeal.nD Cert.KernelInCIdeal.τ).loc Cert.KernelInCIdeal.main_v2) = v0 c
          ∧ r.2.mem ((c.tc : Thread Cert.KernelInCIdeal.nD Cert.KernelInCIdeal.τ).loc Cert.KernelInCIdeal.main_arg0) = m ((c.tc : Thread Cert.KernelInCIdeal.nD Cert.KernelInCIdeal.τ).loc Cert.KernelInCIdeal.main_arg0)
          ∧ r.2.mem ((c.tc : Thread Cert.KernelInCIdeal.nD Cert.KernelInCIdeal.τ).loc Cert.KernelInCIdeal.main_arg1) = m ((c.tc : Thread Cert.KernelInCIdeal.nD Cert.KernelInCIdeal.τ).loc Cert.KernelInCIdeal.main_arg1))
      ∧ θ_run (Cert.ReferenceInCIdeal.defs (F := Ideal)) (onTc (τ := Cert.ReferenceInCIdeal.τ) (Cert.ReferenceInCIdeal.main (F := Ideal))) ⟨m', fun _ => 0, g'⟩ (fun r => ∀ c : Dev Cert.ReferenceInCIdeal.nD,
          r.2.mem ((c.tc : Thread Cert.ReferenceInCIdeal.nD Cert.ReferenceInCIdeal.τ).loc Cert.ReferenceInCIdeal.main_v3) = v0 c
          ∧ r.2.mem ((c.tc : Thread Cert.ReferenceInCIdeal.nD Cert.ReferenceInCIdeal.τ).loc Cert.ReferenceInCIdeal.main_arg0) = m' ((c.tc : Thread Cert.ReferenceInCIdeal.nD Cert.ReferenceInCIdeal.τ).loc Cert.ReferenceInCIdeal.main_arg0)
          ∧ r.2.mem ((c.tc : Thread Cert.ReferenceInCIdeal.nD Cert.ReferenceInCIdeal.τ).loc Cert.ReferenceInCIdeal.main_arg1) = m' ((c.tc : Thread Cert.ReferenceInCIdeal.nD Cert.ReferenceInCIdeal.τ).loc Cert.ReferenceInCIdeal.main_arg1))

def preserves_KernelInQ_KernelInQIdeal : Prop :=
  True

def algebraic_KernelInQIdeal_ReferenceInQIdeal [hKernelInQIdeal : Cert.KernelInQIdeal.Facts] [hReferenceInQIdeal : Cert.ReferenceInQIdeal.Facts] : Prop :=
  ∀ (m : (ℓ : Loc Cert.KernelInQIdeal.nD Cert.KernelInQIdeal.τ Cert.KernelInQIdeal.sig) → Buf (Elt Ideal) ℓ) (g : Dev Cert.KernelInQIdeal.nD → PrngReg)
    (m' : (ℓ : Loc Cert.ReferenceInQIdeal.nD Cert.ReferenceInQIdeal.τ Cert.ReferenceInQIdeal.sig) → Buf (Elt Ideal) ℓ) (g' : Dev Cert.ReferenceInQIdeal.nD → PrngReg), Pre_KernelInQIdeal m →
    (∀ c : Dev Cert.KernelInQIdeal.nD,
      m' ((c.tc : Thread Cert.ReferenceInQIdeal.nD Cert.ReferenceInQIdeal.τ).loc Cert.ReferenceInQIdeal.main_arg0) = m ((c.tc : Thread Cert.KernelInQIdeal.nD Cert.KernelInQIdeal.τ).loc Cert.KernelInQIdeal.main_arg0)
      ∧ m' ((c.tc : Thread Cert.ReferenceInQIdeal.nD Cert.ReferenceInQIdeal.τ).loc Cert.ReferenceInQIdeal.main_arg1) = m ((c.tc : Thread Cert.KernelInQIdeal.nD Cert.KernelInQIdeal.τ).loc Cert.KernelInQIdeal.main_arg1)) →
    ∃ (v0 : (c : Dev Cert.KernelInQIdeal.nD) → Buf (Elt Ideal) ((c.tc : Thread Cert.KernelInQIdeal.nD Cert.KernelInQIdeal.τ).loc Cert.KernelInQIdeal.main_v2)),
      θ_run (Cert.KernelInQIdeal.defs (F := Ideal)) (onTc (τ := Cert.KernelInQIdeal.τ) (Cert.KernelInQIdeal.main (F := Ideal))) ⟨m, fun _ => 0, g⟩ (fun r => ∀ c : Dev Cert.KernelInQIdeal.nD,
          r.2.mem ((c.tc : Thread Cert.KernelInQIdeal.nD Cert.KernelInQIdeal.τ).loc Cert.KernelInQIdeal.main_v2) = v0 c
          ∧ r.2.mem ((c.tc : Thread Cert.KernelInQIdeal.nD Cert.KernelInQIdeal.τ).loc Cert.KernelInQIdeal.main_arg0) = m ((c.tc : Thread Cert.KernelInQIdeal.nD Cert.KernelInQIdeal.τ).loc Cert.KernelInQIdeal.main_arg0)
          ∧ r.2.mem ((c.tc : Thread Cert.KernelInQIdeal.nD Cert.KernelInQIdeal.τ).loc Cert.KernelInQIdeal.main_arg1) = m ((c.tc : Thread Cert.KernelInQIdeal.nD Cert.KernelInQIdeal.τ).loc Cert.KernelInQIdeal.main_arg1))
      ∧ θ_run (Cert.ReferenceInQIdeal.defs (F := Ideal)) (onTc (τ := Cert.ReferenceInQIdeal.τ) (Cert.ReferenceInQIdeal.main (F := Ideal))) ⟨m', fun _ => 0, g'⟩ (fun r => ∀ c : Dev Cert.ReferenceInQIdeal.nD,
          r.2.mem ((c.tc : Thread Cert.ReferenceInQIdeal.nD Cert.ReferenceInQIdeal.τ).loc Cert.ReferenceInQIdeal.main_v3) = v0 c
          ∧ r.2.mem ((c.tc : Thread Cert.ReferenceInQIdeal.nD Cert.ReferenceInQIdeal.τ).loc Cert.ReferenceInQIdeal.main_arg0) = m' ((c.tc : Thread Cert.ReferenceInQIdeal.nD Cert.ReferenceInQIdeal.τ).loc Cert.ReferenceInQIdeal.main_arg0)
          ∧ r.2.mem ((c.tc : Thread Cert.ReferenceInQIdeal.nD Cert.ReferenceInQIdeal.τ).loc Cert.ReferenceInQIdeal.main_arg1) = m' ((c.tc : Thread Cert.ReferenceInQIdeal.nD Cert.ReferenceInQIdeal.τ).loc Cert.ReferenceInQIdeal.main_arg1))

def preserves_KernelInG_KernelInGIdeal : Prop :=
  True

def algebraic_KernelInGIdeal_ReferenceInGIdeal [hKernelInGIdeal : Cert.KernelInGIdeal.Facts] [hReferenceInGIdeal : Cert.ReferenceInGIdeal.Facts] : Prop :=
  ∀ (m : (ℓ : Loc Cert.KernelInGIdeal.nD Cert.KernelInGIdeal.τ Cert.KernelInGIdeal.sig) → Buf (Elt Ideal) ℓ) (g : Dev Cert.KernelInGIdeal.nD → PrngReg)
    (m' : (ℓ : Loc Cert.ReferenceInGIdeal.nD Cert.ReferenceInGIdeal.τ Cert.ReferenceInGIdeal.sig) → Buf (Elt Ideal) ℓ) (g' : Dev Cert.ReferenceInGIdeal.nD → PrngReg), Pre_KernelInGIdeal m →
    (∀ c : Dev Cert.KernelInGIdeal.nD,
      m' ((c.tc : Thread Cert.ReferenceInGIdeal.nD Cert.ReferenceInGIdeal.τ).loc Cert.ReferenceInGIdeal.main_arg0) = m ((c.tc : Thread Cert.KernelInGIdeal.nD Cert.KernelInGIdeal.τ).loc Cert.KernelInGIdeal.main_arg0)
      ∧ m' ((c.tc : Thread Cert.ReferenceInGIdeal.nD Cert.ReferenceInGIdeal.τ).loc Cert.ReferenceInGIdeal.main_arg1) = m ((c.tc : Thread Cert.KernelInGIdeal.nD Cert.KernelInGIdeal.τ).loc Cert.KernelInGIdeal.main_arg1)) →
    ∃ (v0 : (c : Dev Cert.KernelInGIdeal.nD) → Buf (Elt Ideal) ((c.tc : Thread Cert.KernelInGIdeal.nD Cert.KernelInGIdeal.τ).loc Cert.KernelInGIdeal.main_v2)),
      θ_run (Cert.KernelInGIdeal.defs (F := Ideal)) (onTc (τ := Cert.KernelInGIdeal.τ) (Cert.KernelInGIdeal.main (F := Ideal))) ⟨m, fun _ => 0, g⟩ (fun r => ∀ c : Dev Cert.KernelInGIdeal.nD,
          r.2.mem ((c.tc : Thread Cert.KernelInGIdeal.nD Cert.KernelInGIdeal.τ).loc Cert.KernelInGIdeal.main_v2) = v0 c
          ∧ r.2.mem ((c.tc : Thread Cert.KernelInGIdeal.nD Cert.KernelInGIdeal.τ).loc Cert.KernelInGIdeal.main_arg0) = m ((c.tc : Thread Cert.KernelInGIdeal.nD Cert.KernelInGIdeal.τ).loc Cert.KernelInGIdeal.main_arg0)
          ∧ r.2.mem ((c.tc : Thread Cert.KernelInGIdeal.nD Cert.KernelInGIdeal.τ).loc Cert.KernelInGIdeal.main_arg1) = m ((c.tc : Thread Cert.KernelInGIdeal.nD Cert.KernelInGIdeal.τ).loc Cert.KernelInGIdeal.main_arg1))
      ∧ θ_run (Cert.ReferenceInGIdeal.defs (F := Ideal)) (onTc (τ := Cert.ReferenceInGIdeal.τ) (Cert.ReferenceInGIdeal.main (F := Ideal))) ⟨m', fun _ => 0, g'⟩ (fun r => ∀ c : Dev Cert.ReferenceInGIdeal.nD,
          r.2.mem ((c.tc : Thread Cert.ReferenceInGIdeal.nD Cert.ReferenceInGIdeal.τ).loc Cert.ReferenceInGIdeal.main_v3) = v0 c
          ∧ r.2.mem ((c.tc : Thread Cert.ReferenceInGIdeal.nD Cert.ReferenceInGIdeal.τ).loc Cert.ReferenceInGIdeal.main_arg0) = m' ((c.tc : Thread Cert.ReferenceInGIdeal.nD Cert.ReferenceInGIdeal.τ).loc Cert.ReferenceInGIdeal.main_arg0)
          ∧ r.2.mem ((c.tc : Thread Cert.ReferenceInGIdeal.nD Cert.ReferenceInGIdeal.τ).loc Cert.ReferenceInGIdeal.main_arg1) = m' ((c.tc : Thread Cert.ReferenceInGIdeal.nD Cert.ReferenceInGIdeal.τ).loc Cert.ReferenceInGIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v2)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v2) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v14) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def Claim : Prop :=
  ∃ (hKernelAttn : Cert.KernelAttn.Facts) (hKernelAttnIdeal : Cert.KernelAttnIdeal.Facts) (hReferenceAttnIdeal : Cert.ReferenceAttnIdeal.Facts) (hKernelConv : Cert.KernelConv.Facts) (hKernelConvIdeal : Cert.KernelConvIdeal.Facts) (hReferenceConvIdeal : Cert.ReferenceConvIdeal.Facts) (hKernelMix : Cert.KernelMix.Facts) (hKernelMixIdeal : Cert.KernelMixIdeal.Facts) (hReferenceMixIdeal : Cert.ReferenceMixIdeal.Facts) (hKernelMixUp : Cert.KernelMixUp.Facts) (hKernelMixUpIdeal : Cert.KernelMixUpIdeal.Facts) (hReferenceMixUpIdeal : Cert.ReferenceMixUpIdeal.Facts) (hKernelProj : Cert.KernelProj.Facts) (hKernelProjIdeal : Cert.KernelProjIdeal.Facts) (hReferenceProjIdeal : Cert.ReferenceProjIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelLast : Cert.KernelLast.Facts) (hKernelLastIdeal : Cert.KernelLastIdeal.Facts) (hReferenceLastIdeal : Cert.ReferenceLastIdeal.Facts) (hKernelInC : Cert.KernelInC.Facts) (hKernelInCIdeal : Cert.KernelInCIdeal.Facts) (hReferenceInCIdeal : Cert.ReferenceInCIdeal.Facts) (hKernelInQ : Cert.KernelInQ.Facts) (hKernelInQIdeal : Cert.KernelInQIdeal.Facts) (hReferenceInQIdeal : Cert.ReferenceInQIdeal.Facts) (hKernelInG : Cert.KernelInG.Facts) (hKernelInGIdeal : Cert.KernelInGIdeal.Facts) (hReferenceInGIdeal : Cert.ReferenceInGIdeal.Facts) (hKernelNorm : Cert.KernelNorm.Facts) (hKernelNormIdeal : Cert.KernelNormIdeal.Facts) (hReferenceNormIdeal : Cert.ReferenceNormIdeal.Facts),
    quiescent_KernelAttn (hKernelAttn := hKernelAttn)
    ∧ quiescent_KernelAttnIdeal (hKernelAttnIdeal := hKernelAttnIdeal)
    ∧ quiescent_ReferenceAttnIdeal (hReferenceAttnIdeal := hReferenceAttnIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelMixUp (hKernelMixUp := hKernelMixUp)
    ∧ quiescent_KernelMixUpIdeal (hKernelMixUpIdeal := hKernelMixUpIdeal)
    ∧ quiescent_ReferenceMixUpIdeal (hReferenceMixUpIdeal := hReferenceMixUpIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelLast (hKernelLast := hKernelLast)
    ∧ quiescent_KernelLastIdeal (hKernelLastIdeal := hKernelLastIdeal)
    ∧ quiescent_ReferenceLastIdeal (hReferenceLastIdeal := hReferenceLastIdeal)
    ∧ quiescent_KernelInC (hKernelInC := hKernelInC)
    ∧ quiescent_KernelInCIdeal (hKernelInCIdeal := hKernelInCIdeal)
    ∧ quiescent_ReferenceInCIdeal (hReferenceInCIdeal := hReferenceInCIdeal)
    ∧ quiescent_KernelInQ (hKernelInQ := hKernelInQ)
    ∧ quiescent_KernelInQIdeal (hKernelInQIdeal := hKernelInQIdeal)
    ∧ quiescent_ReferenceInQIdeal (hReferenceInQIdeal := hReferenceInQIdeal)
    ∧ quiescent_KernelInG (hKernelInG := hKernelInG)
    ∧ quiescent_KernelInGIdeal (hKernelInGIdeal := hKernelInGIdeal)
    ∧ quiescent_ReferenceInGIdeal (hReferenceInGIdeal := hReferenceInGIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ preserves_KernelAttn_KernelAttnIdeal
    ∧ algebraic_KernelAttnIdeal_ReferenceAttnIdeal (hKernelAttnIdeal := hKernelAttnIdeal) (hReferenceAttnIdeal := hReferenceAttnIdeal)
    ∧ preserves_KernelConv_KernelConvIdeal
    ∧ algebraic_KernelConvIdeal_ReferenceConvIdeal (hKernelConvIdeal := hKernelConvIdeal) (hReferenceConvIdeal := hReferenceConvIdeal)
    ∧ preserves_KernelMix_KernelMixIdeal
    ∧ algebraic_KernelMixIdeal_ReferenceMixIdeal (hKernelMixIdeal := hKernelMixIdeal) (hReferenceMixIdeal := hReferenceMixIdeal)
    ∧ preserves_KernelMixUp_KernelMixUpIdeal
    ∧ algebraic_KernelMixUpIdeal_ReferenceMixUpIdeal (hKernelMixUpIdeal := hKernelMixUpIdeal) (hReferenceMixUpIdeal := hReferenceMixUpIdeal)
    ∧ preserves_KernelProj_KernelProjIdeal
    ∧ algebraic_KernelProjIdeal_ReferenceProjIdeal (hKernelProjIdeal := hKernelProjIdeal) (hReferenceProjIdeal := hReferenceProjIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelLast_KernelLastIdeal
    ∧ algebraic_KernelLastIdeal_ReferenceLastIdeal (hKernelLastIdeal := hKernelLastIdeal) (hReferenceLastIdeal := hReferenceLastIdeal)
    ∧ preserves_KernelInC_KernelInCIdeal
    ∧ algebraic_KernelInCIdeal_ReferenceInCIdeal (hKernelInCIdeal := hKernelInCIdeal) (hReferenceInCIdeal := hReferenceInCIdeal)
    ∧ preserves_KernelInQ_KernelInQIdeal
    ∧ algebraic_KernelInQIdeal_ReferenceInQIdeal (hKernelInQIdeal := hKernelInQIdeal) (hReferenceInQIdeal := hReferenceInQIdeal)
    ∧ preserves_KernelInG_KernelInGIdeal
    ∧ algebraic_KernelInGIdeal_ReferenceInGIdeal (hKernelInGIdeal := hKernelInGIdeal) (hReferenceInGIdeal := hReferenceInGIdeal)
    ∧ preserves_KernelNorm_KernelNormIdeal
    ∧ algebraic_KernelNormIdeal_ReferenceNormIdeal (hKernelNormIdeal := hKernelNormIdeal) (hReferenceNormIdeal := hReferenceNormIdeal)
-- ==== KernelAttn.lean ====
abbrev S8192x1536 : Shape := ⟨2, ![8192, 1536]⟩
abbrev S16 : Shape := ⟨1, ![16]⟩
abbrev S8192x1024 : Shape := ⟨2, ![8192, 1024]⟩
abbrev S128x1024 : Shape := ⟨2, ![128, 1024]⟩
abbrev S128x256 : Shape := ⟨2, ![128, 256]⟩
abbrev S256x256 : Shape := ⟨2, ![256, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩

abbrev nBuf : Space → Nat
  | .hbm => 3
  | .vmem => 12
  | .smem => 1
  | _ => 0

abbrev bufTy : (tb : Table) → Fin (tcTables nBuf tb) → BufTy
  | .hbm, ⟨0, _⟩ => ⟨S8192x1536, .bf16⟩
  | .hbm, ⟨1, _⟩ => ⟨S16, .f32⟩
  | .hbm, ⟨2, _⟩ => ⟨S8192x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x1024, .bf16⟩
  | .local _ .vmem, ⟨11, _⟩ => ⟨S128x1024, .bf16⟩
  | .local _ .smem, ⟨0, _⟩ => ⟨S16, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![v3.toNat, c5_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAttnIdeal.lean ====
abbrev S8192x1536 : Shape := ⟨2, ![8192, 1536]⟩
abbrev S16 : Shape := ⟨1, ![16]⟩
abbrev S4x2048x1536 : Shape := ⟨3, ![4, 2048, 1536]⟩
abbrev S4x2048x1024 : Shape := ⟨3, ![4, 2048, 1024]⟩
abbrev S4x2048x256 : Shape := ⟨3, ![4, 2048, 256]⟩
abbrev S4x16x128x4x4x64 : Shape := ⟨6, ![4, 16, 128, 4, 4, 64]⟩
abbrev S4x2048x4x64 : Shape := ⟨4, ![4, 2048, 4, 64]⟩
abbrev S_ : Shape := ⟨0, ![]⟩
abbrev S4x2176x4x64 : Shape := ⟨4, ![4, 2176, 4, 64]⟩
abbrev S4x16x128x4x64 : Shape := ⟨5, ![4, 16, 128, 4, 64]⟩
abbrev S4x16x256x4x64 : Shape := ⟨5, ![4, 16, 256, 4, 64]⟩
abbrev S4x16x4x256x128x4 : Shape := ⟨6, ![4, 16, 4, 256, 128, 4]⟩
abbrev S4x16x4x4x128x256 : Shape := ⟨6, ![4, 16, 4, 4, 128, 256]⟩
abbrev S16x1x1 : Shape := ⟨3, ![16, 1, 1]⟩
abbrev S128 : Shape := ⟨1, ![128]⟩
abbrev S1x128x1 : Shape := ⟨3, ![1, 128, 1]⟩
abbrev S16x128x1 : Shape := ⟨3, ![16, 128, 1]⟩
abbrev S256 : Shape := ⟨1, ![256]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S1x1x4x4x1x1 : Shape := ⟨6, ![1, 1, 4, 4, 1, 1]⟩
abbrev S4x16x4x4x128 : Shape := ⟨5, ![4, 16, 4, 4, 128]⟩
abbrev S4x16x4x4x128x1 : Shape := ⟨6, ![4, 16, 4, 4, 128, 1]⟩
abbrev S4x16x4x64x4x128 : Shape := ⟨6, ![4, 16, 4, 64, 4, 128]⟩
abbrev S8192x1024 : Shape := ⟨2, ![8192, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S16, .f32⟩
  | .hbm, ⟨2, _⟩ => ⟨S8192x1536, .f32⟩
  | .hbm, ⟨3, _⟩ => ⟨S4x2048x1536, .f32⟩
  | .hbm, ⟨4, _⟩ => ⟨S4x2048x1024, .f32⟩
  | .hbm, ⟨5, _⟩ => ⟨S4x2048x256, .f32⟩
  | .hbm, ⟨6, _⟩ => ⟨S4x2048x256, .f32⟩
  | .hbm, ⟨7, _⟩ => ⟨S4x16x128x4x4x64, .f32⟩
  | .hbm, ⟨8, _⟩ => ⟨S4x2048x4x64, .f32⟩
  | .hbm, ⟨9, _⟩ => ⟨S_, .i32⟩
  | .hbm, ⟨10, _⟩ => ⟨S_, .f32⟩
  | .hbm, ⟨11, _⟩ => ⟨S4x2176x4x64, .f32⟩
  | .hbm, ⟨12, _⟩ => ⟨S4x2048x4x64, .f32⟩
  | .hbm, ⟨13, _⟩ => ⟨S4x16x128x4x64, .f32⟩
  | .hbm, ⟨14, _⟩ => ⟨S4x16x128x4x64, .f32⟩
  | .hbm, ⟨15, _⟩ => ⟨S4x16x256x4x64, .f32⟩
  | .hbm, ⟨16, _⟩ => ⟨S4x2048x4x64, .f32⟩
  | .hbm, ⟨17, _⟩ => ⟨S_, .i32⟩
  | .hbm, ⟨18, _⟩ => ⟨S_, .f32⟩
  | .hbm, ⟨19, _⟩ => ⟨S4x2176x4x64, .f32⟩
  | .hbm, ⟨20, _⟩ => ⟨S4x2048x4x64, .f32⟩
  | .hbm, ⟨21, _⟩ => ⟨S4x16x128x4x64, .f32⟩
  | .hbm, ⟨22, _⟩ => ⟨S4x16x128x4x64, .f32⟩
  | .hbm, ⟨23, _⟩ => ⟨S4x16x256x4x64, .f32⟩
  | .hbm, ⟨24, _⟩ => ⟨S4x16x4x256x128x4, .f32⟩
  | .hbm, ⟨25, _⟩ => ⟨S4x16x4x4x128x256, .f32⟩
  | .hbm, ⟨26, _⟩ => ⟨S_, .f32⟩
  | .hbm, ⟨27, _⟩ => ⟨S4x16x4x4x128x256, .f32⟩
  | .hbm, ⟨28, _⟩ => ⟨S4x16x4x4x128x256, .f32⟩
  | .hbm, ⟨29, _⟩ => ⟨S16, .i32⟩
  | .hbm, ⟨30, _⟩ => ⟨S16x1x1, .i32⟩
  | .hbm, ⟨31, _⟩ => ⟨S_, .i32⟩
  | .hbm, ⟨32, _⟩ => ⟨S16x1x1, .i32⟩
  | .hbm, ⟨33, _⟩ => ⟨S16x1x1, .i32⟩
  | .hbm, ⟨34, _⟩ => ⟨S128, .i32⟩
  | .hbm, ⟨35, _⟩ => ⟨S1x128x1, .i32⟩
  | .hbm, ⟨36, _⟩ => ⟨S16x128x1, .i32⟩
  | .hbm, ⟨37, _⟩ => ⟨S16x128x1, .i32⟩
  | .hbm, ⟨38, _⟩ => ⟨S16x128x1, .i32⟩
  | .hbm, ⟨39, _⟩ => ⟨S16x1x1, .i32⟩
  | .hbm, ⟨40, _⟩ => ⟨S_, .i32⟩
  | .hbm, ⟨41, _⟩ => ⟨S16x1x1, .i32⟩
  | .hbm, ⟨42, _⟩ => ⟨S16x1x1, .i32⟩
  | .hbm, ⟨43, _⟩ => ⟨S_, .i32⟩
  | .hbm, ⟨44, _⟩ => ⟨S16x1x1, .i32⟩
  | .hbm, ⟨45, _⟩ => ⟨S16x1x1, .i32⟩
  | .hbm, ⟨46, _⟩ => ⟨S256, .i32⟩
  | .hbm, ⟨47, _⟩ => ⟨S1x1x256, .i32⟩
  | .hbm, ⟨48, _⟩ => ⟨S16x1x256, .i32⟩
  | .hbm, ⟨49, _⟩ => ⟨S16x1x256, .i32⟩
  | .hbm, ⟨50, _⟩ => ⟨S16x1x256, .i32⟩
  | .hbm, ⟨51, _⟩ => ⟨S16x128x256, .i32⟩
  | .hbm, ⟨52, _⟩ => ⟨S16x128x256, .i32⟩
  | .hbm, ⟨53, _⟩ => ⟨S16x128x256, .i32⟩
  | .hbm, ⟨54, _⟩ => ⟨S_, .i32⟩
  | .hbm, ⟨55, _⟩ => ⟨S16x128x256, .i32⟩
  | .hbm, ⟨56, _⟩ => ⟨S16x128x256, .i1⟩
  | .hbm, ⟨57, _⟩ => ⟨S_, .i32⟩
  | .hbm, ⟨58, _⟩ => ⟨S16x128x256, .i32⟩
  | .hbm, ⟨59, _⟩ => ⟨S16x128x256, .i1⟩
  | .hbm, ⟨60, _⟩ => ⟨S16x128x256, .i1⟩
  | .hbm, ⟨61, _⟩ => ⟨S_, .i32⟩
  | .hbm, ⟨62, _⟩ => ⟨S16x1x256, .i32⟩
  | .hbm, ⟨63, _⟩ => ⟨S16x1x256, .i1⟩
  | .hbm, ⟨64, _⟩ => ⟨S16x128x256, .i1⟩
  | .hbm, ⟨65, _⟩ => ⟨S16x128x256, .i1⟩
  | .hbm, ⟨66, _⟩ => ⟨S1x16x1x1x128x256, .i1⟩
  | .hbm, ⟨67, _⟩ => ⟨S_, .f32⟩
  | .hbm, ⟨68, _⟩ => ⟨S_, .f32⟩
  | .hbm, ⟨69, _⟩ => ⟨S4x16x4x4x128x256, .i1⟩
  | .hbm, ⟨70, _⟩ => ⟨S4x16x4x4x128x256, .f32⟩
  | .hbm, ⟨71, _⟩ => ⟨S4x16x4x4x128x256, .f32⟩
  | .hbm, ⟨72, _⟩ => ⟨S1x1x4x4x1x1, .f32⟩
  | .hbm, ⟨73, _⟩ => ⟨S_, .f32⟩
  | .hbm, ⟨74, _⟩ => ⟨S4x16x4x4x128, .f32⟩
  | .hbm, ⟨75, _⟩ => ⟨S4x16x4x4x128x1, .f32⟩
  | .hbm, ⟨76, _⟩ => ⟨S4x16x4x4x128x1, .f32⟩
  | .hbm, ⟨77, _⟩ => ⟨S4x16x4x4x128x1, .f32⟩
  | .hbm, ⟨78, _⟩ => ⟨S4x16x4x4x128x256, .f32⟩
  | .hbm, ⟨79, _⟩ => ⟨S4x16x4x4x128x256, .f32⟩
  | .hbm, ⟨80, _⟩ => ⟨S4x16x4x4x128x256, .f32⟩
  | .hbm, ⟨81, _⟩ => ⟨S_, .f32⟩
  | .hbm, ⟨82, _⟩ => ⟨S4x16x4x4x128, .f32⟩
  | .hbm, ⟨83, _⟩ => ⟨S4x16x4x4x128x1, .f32⟩
  | .hbm, ⟨84, _⟩ => ⟨S4x16x4x4x128x1, .f32⟩
  | .hbm, ⟨85, _⟩ => ⟨S4x16x4x4x128x1, .f32⟩
  | .hbm, ⟨86, _⟩ => ⟨S4x16x4x4x128x1, .f32⟩
  | .hbm, ⟨87, _⟩ => ⟨S4x16x4x4x128x1, .f32⟩
  | .hbm, ⟨88, _⟩ => ⟨S4x16x4x4x128x256, .f32⟩
  | .hbm, ⟨89, _⟩ => ⟨S4x16x4x4x128x256, .f32⟩
  | .hbm, ⟨90, _⟩ => ⟨S4x16x4x64x4x128, .f32⟩
  | .hbm, ⟨91, _⟩ => ⟨S4x16x128x4x4x64, .f32⟩
  | .hbm, ⟨92, _⟩ => ⟨S4x2048x1024, .f32⟩
  | .hbm, ⟨93, _⟩ => ⟨S8192x1024, .f32⟩
  | .hbm, ⟨94, _⟩ => ⟨S8192x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_call1_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_c_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_4 : Ref sig .tc := ⟨.hbm, 54, rfl⟩
abbrev main_v44 : Ref sig .tc := ⟨.hbm, 55, rfl⟩
abbrev main_v45 : Ref sig .tc := ⟨.hbm, 56, rfl⟩
abbrev main_c_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_9 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== KernelConv.lean ====
abbrev S8192x5120 : Shape := ⟨2, ![8192, 5120]⟩
abbrev S31x1024 : Shape := ⟨2, ![31, 1024]⟩
abbrev S1024 : Shape := ⟨1, ![1024]⟩
abbrev S3x1024 : Shape := ⟨2, ![3, 1024]⟩
abbrev S_ : Shape := ⟨0, ![]⟩
abbrev S32x1024 : Shape := ⟨2, ![32, 1024]⟩
abbrev S1 : Shape := ⟨1, ![1]⟩
abbrev S8x1024 : Shape := ⟨2, ![8, 1024]⟩
abbrev S1x1024 : Shape := ⟨2, ![1, 1024]⟩
abbrev S8192x1024 : Shape := ⟨2, ![8192, 1024]⟩
abbrev S256x5120 : Shape := ⟨2, ![256, 5120]⟩
abbrev S32x5120 : Shape := ⟨2, ![32, 5120]⟩
abbrev S256x1024 : Shape := ⟨2, ![256, 1024]⟩
abbrev S288x1024 : Shape := ⟨2, ![288, 1024]⟩
abbrev S48x1024 : Shape := ⟨2, ![48, 1024]⟩
abbrev S16x1024 : Shape := ⟨2, ![16, 1024]⟩
abbrev S256 : Shape := ⟨1, ![256]⟩
abbrev S256x1 : Shape := ⟨2, ![256, 1]⟩

abbrev nBuf : Space → Nat
  | .hbm => 19
  | .vmem => 15
  | .smem => 0
  | _ => 0

abbrev bufTy : (tb : Table) → Fin (tcTables nBuf tb) → BufTy
  | .hbm, ⟨0, _⟩ => ⟨S8192x5120, .bf16⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S3x1024, .f32⟩
  | .hbm, ⟨5, _⟩ => ⟨S_, .f32⟩
  | .hbm, ⟨6, _⟩ => ⟨S32x1024, .f32⟩
  | .hbm, ⟨7, _⟩ => ⟨S_, .i32⟩
  | .hbm, ⟨8, _⟩ => ⟨S1, .i32⟩
  | .hbm, ⟨9, _⟩ => ⟨S32x1024, .f32⟩
  | .hbm, ⟨10, _⟩ => ⟨S_, .f32⟩
  | .hbm, ⟨11, _⟩ => ⟨S8x1024, .f32⟩
  | .hbm, ⟨12, _⟩ => ⟨S_, .i32⟩
  | .hbm, ⟨13, _⟩ => ⟨S1, .i32⟩
  | .hbm, ⟨14, _⟩ => ⟨S8x1024, .f32⟩
  | .hbm, ⟨15, _⟩ => ⟨S1x1024, .f32⟩
  | .hbm, ⟨16, _⟩ => ⟨S1x1024, .f32⟩
  | .hbm, ⟨17, _⟩ => ⟨S8192x1024, .bf16⟩
  | .hbm, ⟨18, _⟩ => ⟨S8192x1024, .bf16⟩
  | .local _ .vmem, ⟨0, _⟩ => ⟨S256x5120, .bf16⟩
  | .local _ .vmem, ⟨1, _⟩ => ⟨S256x5120, .bf16⟩
  | .local _ .vmem, ⟨2, _⟩ => ⟨S32x5120, .bf16⟩
  | .local _ .vmem, ⟨3, _⟩ => ⟨S32x5120, .bf16⟩
  | .local _ .vmem, ⟨4, _⟩ => ⟨S32x1024, .f32⟩
  | .local _ .vmem, ⟨5, _⟩ => ⟨S1x1024, .f32⟩
  | .local _ .vmem, ⟨6, _⟩ => ⟨S1x1024, .f32⟩
  | .local _ .vmem, ⟨7, _⟩ => ⟨S8x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S288x1024, .f32⟩
  | .local _ .vmem, ⟨13, _⟩ => ⟨S288x1024, .f32⟩
  | .local _ .vmem, ⟨14, _⟩ => ⟨S256x1024, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_17 : BitVec 32 := 0#32
  let c16_i32 : BitVec 32 := 16#32
  let v54 : BitVec 32 := Scalar.addi c0_i32_17 c16_i32
  let c1_i32 : BitVec 32 := 1#32
  ⟨c0_i32_17, v54, c1_i32⟩
def k0_mult1 (k0_t1 : Fin k0_t1_loop.trips) : BitVec 32 :=
  let c0_i32_17 : BitVec 32 := 0#32
  let c1_i32 : BitVec 32 := 1#32
  let arg13 : BitVec 32 := Scf.iv c0_i32_17 c1_i32 k0_t1
  let c16_i32_35 : BitVec 32 := 16#32
  let v90 : BitVec 32 := Scalar.muli arg13 c16_i32_35
  v90
def k0_off1 (k0_t1 : Fin k0_t1_loop.trips) : Fin 2 → Nat :=
  let c0_i32_17 : BitVec 32 := 0#32
  let c1_i32 : BitVec 32 := 1#32
  let arg13 : BitVec 32 := Scf.iv c0_i32_17 c1_i32 k0_t1
  let c16_i32_35 : BitVec 32 := 16#32
  let v90 : BitVec 32 := Scalar.muli arg13 c16_i32_35
  let v91 : BitVec 32 := v90
  let v92 : Index := Scalar.indexCast v91
  let c0_36 : Index := 0#32
  ![v92.toNat, 0]
def k0_off2 (k0_t1 : Fin k0_t1_loop.trips) : Fin 2 → Nat :=
  let c0_i32_17 : BitVec 32 := 0#32
  let c1_i32 : BitVec 32 := 1#32
  let arg13 : BitVec 32 := Scf.iv c0_i32_17 c1_i32 k0_t1
  let c16_i32_35 : BitVec 32 := 16#32
  let v90 : BitVec 32 := Scalar.muli arg13 c16_i32_35
  let v91 : BitVec 32 := v90
  let v281 : Index := Scalar.indexCast v91
  let c0_70 : Index := 0#32
  ![v281.toNat, 0]
def k0_off3 (k0_t1 : Fin k0_t1_loop.trips) : Fin 2 → Nat :=
  let c0_i32_17 : BitVec 32 := 0#32
  let c1_i32 : BitVec 32 := 1#32
  let arg13 : BitVec 32 := Scf.iv c0_i32_17 c1_i32 k0_t1
  let c16_i32_35 : BitVec 32 := 16#32
  let v90 : BitVec 32 := Scalar.muli arg13 c16_i32_35
  let v91 : BitVec 32 := v90
  let v306 : Index := Scalar.indexCast v91
  let c2048 : Index := 2048#32
  ![v306.toNat, 2048]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  ![v4.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceConvIdeal.lean ====
abbrev S8192x5120 : Shape := ⟨2, ![8192, 5120]⟩
abbrev S31x1024 : Shape := ⟨2, ![31, 1024]⟩
abbrev S1024 : Shape := ⟨1, ![1024]⟩
abbrev S3x1024 : Shape := ⟨2, ![3, 1024]⟩
abbrev S4x2048x5120 : Shape := ⟨3, ![4, 2048, 5120]⟩
abbrev S4x2048x1024 : Shape := ⟨3, ![4, 2048, 1024]⟩
abbrev S_ : Shape := ⟨0, ![]⟩
abbrev S4x2078x1024 : Shape := ⟨3, ![4, 2078, 1024]⟩
abbrev S1x1024 : Shape := ⟨2, ![1, 1024]⟩
abbrev S1x1x1024 : Shape := ⟨3, ![1, 1, 1024]⟩
abbrev S4x2048 : Shape := ⟨2, ![4, 2048]⟩
abbrev S4x2048x1 : Shape := ⟨3, ![4, 2048, 1]⟩
abbrev S4x2050x1024 : Shape := ⟨3, ![4, 2050, 1024]⟩
abbrev S8192x1024 : Shape := ⟨2, ![8192, 1024]⟩

abbrev nBuf : Space → Nat
  | .hbm => 307
  | .vmem => 0
  | .smem => 0
  | _ => 0

abbrev hbmTy0_0 (i : Nat) : BufTy := match i % 128 with
  | 0 => ⟨S8192x5120, .bf16⟩
  | 1 => ⟨S31x1024, .f32⟩
  | 2 => ⟨S1024, .f32⟩
  | 3 => ⟨S1024, .f32⟩
  | 4 => ⟨S3x1024, .f32⟩
  | 5 => ⟨S8192x5120, .f32⟩
  | 6 => ⟨S4x2048x5120, .f32⟩
  | 7 => ⟨S4x2048x1024, .f32⟩
  | 8 => ⟨S4x2048x1024, .f32⟩
  | 9 => ⟨S4x2048x1024, .f32⟩
  | 10 => ⟨S4x2048x1024, .f32⟩
  | 11 => ⟨S4x2048x1024, .f32⟩
  | 12 => ⟨S4x2048x1024, .f32⟩
  | 13 => ⟨S4x2048x1024, .f32⟩
  | 14 => ⟨S_, .f32⟩
  | 15 => ⟨S4x2048x1024, .f32⟩
  | 16 => ⟨S4x2048x1024, .f32⟩
  | 17 => ⟨S_, .f32⟩
  | 18 => ⟨S4x2048x1024, .f32⟩
  | 19 => ⟨S4x2048x1024, .f32⟩
  | 20 => ⟨S4x2048x1024, .f32⟩
  | 21 => ⟨S_, .i32⟩
  | 22 => ⟨S_, .f32⟩
  | 23 => ⟨S4x2078x1024, .f32⟩
  | 24 => ⟨S4x2048x1024, .f32⟩
  | 25 => ⟨S1x1024, .f32⟩
  | 26 => ⟨S1024, .f32⟩
  | 27 => ⟨S1x1x1024, .f32⟩
  | 28 => ⟨S4x2048x1024, .f32⟩
  | 29 => ⟨S4x2048x1024, .f32⟩
  | 30 => ⟨S4x2048x1024, .f32⟩
  | 31 => ⟨S1x1024, .f32⟩
  | 32 => ⟨S1024, .f32⟩
  | 33 => ⟨S1x1x1024, .f32⟩
  | 34 => ⟨S4x2048x1024, .f32⟩
  | 35 => ⟨S4x2048x1024, .f32⟩
  | 36 => ⟨S4x2048x1024, .f32⟩
  | 37 => ⟨S4x2048x1024, .f32⟩
  | 38 => ⟨S1x1024, .f32⟩
  | 39 => ⟨S1024, .f32⟩
  | 40 => ⟨S1x1x1024, .f32⟩
  | 41 => ⟨S4x2048x1024, .f32⟩
  | 42 => ⟨S4x2048x1024, .f32⟩
  | 43 => ⟨S4x2048x1024, .f32⟩
  | 44 => ⟨S4x2048x1024, .f32⟩
  | 45 => ⟨S1x1024, .f32⟩
  | 46 => ⟨S1024, .f32⟩
  | 47 => ⟨S1x1x1024, .f32⟩
  | 48 => ⟨S4x2048x1024, .f32⟩
  | 49 => ⟨S4x2048x1024, .f32⟩
  | 50 => ⟨S4x2048x1024, .f32⟩
  | 51 => ⟨S4x2048x1024, .f32⟩
  | 52 => ⟨S1x1024, .f32⟩
  | 53 => ⟨S1024, .f32⟩
  | 54 => ⟨S1x1x1024, .f32⟩
  | 55 => ⟨S4x2048x1024, .f32⟩
  | 56 => ⟨S4x2048x1024, .f32⟩
  | 57 => ⟨S4x2048x1024, .f32⟩
  | 58 => ⟨S4x2048x1024, .f32⟩
  | 59 => ⟨S1x1024, .f32⟩
  | 60 => ⟨S1024, .f32⟩
  | 61 => ⟨S1x1x1024, .f32⟩
  | 62 => ⟨S4x2048x1024, .f32⟩
  | 63 => ⟨S4x2048x1024, .f32⟩
  | 64 => ⟨S4x2048x1024, .f32⟩
  | 65 => ⟨S4x2048x1024, .f32⟩
  | 66 => ⟨S1x1024, .f32⟩
  | 67 => ⟨S1024, .f32⟩
  | 68 => ⟨S1x1x1024, .f32⟩
  | 69 => ⟨S4x2048x1024, .f32⟩
  | 70 => ⟨S4x2048x1024, .f32⟩
  | 71 => ⟨S4x2048x1024, .f32⟩
  | 72 => ⟨S4x2048x1024, .f32⟩
  | 73 => ⟨S1x1024, .f32⟩
  | 74 => ⟨S1024, .f32⟩
  | 75 => ⟨S1x1x1024, .f32⟩
  | 76 => ⟨S4x2048x1024, .f32⟩
  | 77 => ⟨S4x2048x1024, .f32⟩
  | 78 => ⟨S4x2048x1024, .f32⟩
  | 79 => ⟨S4x2048x1024, .f32⟩
  | 80 => ⟨S1x1024, .f32⟩
  | 81 => ⟨S1024, .f32⟩
  | 82 => ⟨S1x1x1024, .f32⟩
  | 83 => ⟨S4x2048x1024, .f32⟩
  | 84 => ⟨S4x2048x1024, .f32⟩
  | 85 => ⟨S4x2048x1024, .f32⟩
  | 86 => ⟨S4x2048x1024, .f32⟩
  | 87 => ⟨S1x1024, .f32⟩
  | 88 => ⟨S1024, .f32⟩
  | 89 => ⟨S1x1x1024, .f32⟩
  | 90 => ⟨S4x2048x1024, .f32⟩
  | 91 => ⟨S4x2048x1024, .f32⟩
  | 92 => ⟨S4x2048x1024, .f32⟩
  | 93 => ⟨S4x2048x1024, .f32⟩
  | 94 => ⟨S1x1024, .f32⟩
  | 95 => ⟨S1024, .f32⟩
  | 96 => ⟨S1x1x1024, .f32⟩
  | 97 => ⟨S4x2048x1024, .f32⟩
  | 98 => ⟨S4x2048x1024, .f32⟩
  | 99 => ⟨S4x2048x1024, .f32⟩
  | 100 => ⟨S4x2048x1024, .f32⟩
  | 101 => ⟨S1x1024, .f32⟩
  | 102 => ⟨S1024, .f32⟩
  | 103 => ⟨S1x1x1024, .f32⟩
  | 104 => ⟨S4x2048x1024, .f32⟩
  | 105 => ⟨S4x2048x1024, .f32⟩
  | 106 => ⟨S4x2048x1024, .f32⟩
  | 107 => ⟨S4x2048x1024, .f32⟩
  | 108 => ⟨S1x1024, .f32⟩
  | 109 => ⟨S1024, .f32⟩
  | 110 => ⟨S1x1x1024, .f32⟩
  | 111 => ⟨S4x2048x1024, .f32⟩
  | 112 => ⟨S4x2048x1024, .f32⟩
  | 113 => ⟨S4x2048x1024, .f32⟩
  | 114 => ⟨S4x2048x1024, .f32⟩
  | 115 => ⟨S1x1024, .f32⟩
  | 116 => ⟨S1024, .f32⟩
  | 117 => ⟨S1x1x1024, .f32⟩
  | 118 => ⟨S4x2048x1024, .f32⟩
  | 119 => ⟨S4x2048x1024, .f32⟩
  | 120 => ⟨S4x2048x1024, .f32⟩
  | 121 => ⟨S4x2048x1024, .f32⟩
  | 122 => ⟨S1x1024, .f32⟩
  | 123 => ⟨S1024, .f32⟩
  | 124 => ⟨S1x1x1024, .f32⟩
  | 125 => ⟨S4x2048x1024, .f32⟩
  | 126 => ⟨S4x2048x1024, .f32⟩
  | 127 => ⟨S4x2048x1024, .f32⟩
  | _ => ⟨S8192x5120, .bf16⟩

abbrev hbmTy0_1 (i : Nat) : BufTy := match i % 128 with
  | 0 => ⟨S4x2048x1024, .f32⟩
  | 1 => ⟨S1x1024, .f32⟩
  | 2 => ⟨S1024, .f32⟩
  | 3 => ⟨S1x1x1024, .f32⟩
  | 4 => ⟨S4x2048x1024, .f32⟩
  | 5 => ⟨S4x2048x1024, .f32⟩
  | 6 => ⟨S4x2048x1024, .f32⟩
  | 7 => ⟨S4x2048x1024, .f32⟩
  | 8 => ⟨S1x1024, .f32⟩
  | 9 => ⟨S1024, .f32⟩
  | 10 => ⟨S1x1x1024, .f32⟩
  | 11 => ⟨S4x2048x1024, .f32⟩
  | 12 => ⟨S4x2048x1024, .f32⟩
  | 13 => ⟨S4x2048x1024, .f32⟩
  | 14 => ⟨S4x2048x1024, .f32⟩
  | 15 => ⟨S1x1024, .f32⟩
  | 16 => ⟨S1024, .f32⟩
  | 17 => ⟨S1x1x1024, .f32⟩
  | 18 => ⟨S4x2048x1024, .f32⟩
  | 19 => ⟨S4x2048x1024, .f32⟩
  | 20 => ⟨S4x2048x1024, .f32⟩
  | 21 => ⟨S4x2048x1024, .f32⟩
  | 22 => ⟨S1x1024, .f32⟩
  | 23 => ⟨S1024, .f32⟩
  | 24 => ⟨S1x1x1024, .f32⟩
  | 25 => ⟨S4x2048x1024, .f32⟩
  | 26 => ⟨S4x2048x1024, .f32⟩
  | 27 => ⟨S4x2048x1024, .f32⟩
  | 28 => ⟨S4x2048x1024, .f32⟩
  | 29 => ⟨S1x1024, .f32⟩
  | 30 => ⟨S1024, .f32⟩
  | 31 => ⟨S1x1x1024, .f32⟩
  | 32 => ⟨S4x2048x1024, .f32⟩
  | 33 => ⟨S4x2048x1024, .f32⟩
  | 34 => ⟨S4x2048x1024, .f32⟩
  | 35 => ⟨S4x2048x1024, .f32⟩
  | 36 => ⟨S1x1024, .f32⟩
  | 37 => ⟨S1024, .f32⟩
  | 38 => ⟨S1x1x1024, .f32⟩
  | 39 => ⟨S4x2048x1024, .f32⟩
  | 40 => ⟨S4x2048x1024, .f32⟩
  | 41 => ⟨S4x2048x1024, .f32⟩
  | 42 => ⟨S4x2048x1024, .f32⟩
  | 43 => ⟨S1x1024, .f32⟩
  | 44 => ⟨S1024, .f32⟩
  | 45 => ⟨S1x1x1024, .f32⟩
  | 46 => ⟨S4x2048x1024, .f32⟩
  | 47 => ⟨S4x2048x1024, .f32⟩
  | 48 => ⟨S4x2048x1024, .f32⟩
  | 49 => ⟨S4x2048x1024, .f32⟩
  | 50 => ⟨S1x1024, .f32⟩
  | 51 => ⟨S1024, .f32⟩
  | 52 => ⟨S1x1x1024, .f32⟩
  | 53 => ⟨S4x2048x1024, .f32⟩
  | 54 => ⟨S4x2048x1024, .f32⟩
  | 55 => ⟨S4x2048x1024, .f32⟩
  | 56 => ⟨S4x2048x1024, .f32⟩
  | 57 => ⟨S1x1024, .f32⟩
  | 58 => ⟨S1024, .f32⟩
  | 59 => ⟨S1x1x1024, .f32⟩
  | 60 => ⟨S4x2048x1024, .f32⟩
  | 61 => ⟨S4x2048x1024, .f32⟩
  | 62 => ⟨S4x2048x1024, .f32⟩
  | 63 => ⟨S4x2048x1024, .f32⟩
  | 64 => ⟨S1x1024, .f32⟩
  | 65 => ⟨S1024, .f32⟩
  | 66 => ⟨S1x1x1024, .f32⟩
  | 67 => ⟨S4x2048x1024, .f32⟩
  | 68 => ⟨S4x2048x1024, .f32⟩
  | 69 => ⟨S4x2048x1024, .f32⟩
  | 70 => ⟨S4x2048x1024, .f32⟩
  | 71 => ⟨S1x1024, .f32⟩
  | 72 => ⟨S1024, .f32⟩
  | 73 => ⟨S1x1x1024, .f32⟩
  | 74 => ⟨S4x2048x1024, .f32⟩
  | 75 => ⟨S4x2048x1024, .f32⟩
  | 76 => ⟨S4x2048x1024, .f32⟩
  | 77 => ⟨S4x2048x1024, .f32⟩
  | 78 => ⟨S1x1024, .f32⟩
  | 79 => ⟨S1024, .f32⟩
  | 80 => ⟨S1x1x1024, .f32⟩
  | 81 => ⟨S4x2048x1024, .f32⟩
  | 82 => ⟨S4x2048x1024, .f32⟩
  | 83 => ⟨S4x2048x1024, .f32⟩
  | 84 => ⟨S4x2048x1024, .f32⟩
  | 85 => ⟨S1x1024, .f32⟩
  | 86 => ⟨S1024, .f32⟩
  | 87 => ⟨S1x1x1024, .f32⟩
  | 88 => ⟨S4x2048x1024, .f32⟩
  | 89 => ⟨S4x2048x1024, .f32⟩
  | 90 => ⟨S4x2048x1024, .f32⟩
  | 91 => ⟨S4x2048x1024, .f32⟩
  | 92 => ⟨S1x1024, .f32⟩
  | 93 => ⟨S1024, .f32⟩
  | 94 => ⟨S1x1x1024, .f32⟩
  | 95 => ⟨S4x2048x1024, .f32⟩
  | 96 => ⟨S4x2048x1024, .f32⟩
  | 97 => ⟨S4x2048x1024, .f32⟩
  | 98 => ⟨S4x2048x1024, .f32⟩
  | 99 => ⟨S1x1024, .f32⟩
  | 100 => ⟨S1024, .f32⟩
  | 101 => ⟨S1x1x1024, .f32⟩
  | 102 => ⟨S4x2048x1024, .f32⟩
  | 103 => ⟨S4x2048x1024, .f32⟩
  | 104 => ⟨S4x2048x1024, .f32⟩
  | 105 => ⟨S4x2048x1024, .f32⟩
  | 106 => ⟨S1x1024, .f32⟩
  | 107 => ⟨S1024, .f32⟩
  | 108 => ⟨S1x1x1024, .f32⟩
  | 109 => ⟨S4x2048x1024, .f32⟩
  | 110 => ⟨S4x2048x1024, .f32⟩
  | 111 => ⟨S4x2048x1024, .f32⟩
  | 112 => ⟨S_, .f32⟩
  | 113 => ⟨S4x2048, .f32⟩
  | 114 => ⟨S4x2048x1, .f32⟩
  | 115 => ⟨S_, .f32⟩
  | 116 => ⟨S4x2048x1, .f32⟩
  | 117 => ⟨S4x2048x1, .f32⟩
  | 118 => ⟨S4x2048x1024, .f32⟩
  | 119 => ⟨S4x2048x1024, .f32⟩
  | 120 => ⟨S4x2048x1024, .f32⟩
  | 121 => ⟨S_, .f32⟩
  | 122 => ⟨S4x2048, .f32⟩
  | 123 => ⟨S4x2048x1, .f32⟩
  | 124 => ⟨S_, .f32⟩
  | 125 => ⟨S4x2048x1, .f32⟩
  | 126 => ⟨S4x2048x1, .f32⟩
  | 127 => ⟨S4x2048x1024, .f32⟩
  | _ => ⟨S8192x5120, .bf16⟩

abbrev hbmTy0_2 (i : Nat) : BufTy := match i % 128 with
  | 0 => ⟨S4x2048x1024, .f32⟩
  | 1 => ⟨S_, .f32⟩
  | 2 => ⟨S4x2048x1, .f32⟩
  | 3 => ⟨S4x2048x1, .f32⟩
  | 4 => ⟨S4x2048x1, .f32⟩
  | 5 => ⟨S4x2048x1024, .f32⟩
  | 6 => ⟨S4x2048x1024, .f32⟩
  | 7 => ⟨S1x1x1024, .f32⟩
  | 8 => ⟨S4x2048x1024, .f32⟩
  | 9 => ⟨S4x2048x1024, .f32⟩
  | 10 => ⟨S1x1x1024, .f32⟩
  | 11 => ⟨S4x2048x1024, .f32⟩
  | 12 => ⟨S4x2048x1024, .f32⟩
  | 13 => ⟨S4x2048x1024, .f32⟩
  | 14 => ⟨S4x2048x1024, .f32⟩
  | 15 => ⟨S_, .f32⟩
  | 16 => ⟨S4x2048x1024, .f32⟩
  | 17 => ⟨S4x2048x1024, .f32⟩
  | 18 => ⟨S_, .f32⟩
  | 19 => ⟨S4x2048x1024, .f32⟩
  | 20 => ⟨S4x2048x1024, .f32⟩
  | 21 => ⟨S4x2048x1024, .f32⟩
  | 22 => ⟨S4x2048x1024, .f32⟩
  | 23 => ⟨S_, .i32⟩
  | 24 => ⟨S_, .f32⟩
  | 25 => ⟨S4x2050x1024, .f32⟩
  | 26 => ⟨S4x2048x1024, .f32⟩
  | 27 => ⟨S1x1024, .f32⟩
  | 28 => ⟨S1024, .f32⟩
  | 29 => ⟨S1x1x1024, .f32⟩
  | 30 => ⟨S4x2048x1024, .f32⟩
  | 31 => ⟨S4x2048x1024, .f32⟩
  | 32 => ⟨S4x2048x1024, .f32⟩
  | 33 => ⟨S1x1024, .f32⟩
  | 34 => ⟨S1024, .f32⟩
  | 35 => ⟨S1x1x1024, .f32⟩
  | 36 => ⟨S4x2048x1024, .f32⟩
  | 37 => ⟨S4x2048x1024, .f32⟩
  | 38 => ⟨S4x2048x1024, .f32⟩
  | 39 => ⟨S4x2048x1024, .f32⟩
  | 40 => ⟨S1x1024, .f32⟩
  | 41 => ⟨S1024, .f32⟩
  | 42 => ⟨S1x1x1024, .f32⟩
  | 43 => ⟨S4x2048x1024, .f32⟩
  | 44 => ⟨S4x2048x1024, .f32⟩
  | 45 => ⟨S4x2048x1024, .f32⟩
  | 46 => ⟨S4x2048x1024, .f32⟩
  | 47 => ⟨S8192x1024, .f32⟩
  | 48 => ⟨S8192x1024, .bf16⟩
  | 49 => ⟨S8192x1024, .f32⟩
  | 50 => ⟨S8192x1024, .bf16⟩
  | _ => ⟨S8192x5120, .bf16⟩

abbrev hbmTy (i : Nat) : BufTy := match i / 128 with
  | 0 => hbmTy0_0 i
  | 1 => hbmTy0_1 i
  | 2 => hbmTy0_2 i
  | _ => ⟨S8192x5120, .bf16⟩

abbrev bufTy : (tb : Table) → Fin (tcTables nBuf tb) → BufTy
  | .hbm, ⟨i, _⟩ => hbmTy i
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_cst_1 : Ref sig .tc := ⟨.hbm, 240, rfl⟩
abbrev main_v231 : Ref sig .tc := ⟨.hbm, 241, rfl⟩
abbrev main_v232 : Ref sig .tc := ⟨.hbm, 242, rfl⟩
abbrev main_cst_2 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_cst_3 : Ref sig .tc := ⟨.hbm, 249, rfl⟩
abbrev main_v238 : Ref sig .tc := ⟨.hbm, 250, rfl⟩
abbrev main_v239 : Ref sig .tc := ⟨.hbm, 251, rfl⟩
abbrev main_cst_4 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_cst_5 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_call1_v0 : Ref sig .tc := ⟨.hbm, 269, rfl⟩
abbrev main_call1_v1 : Ref sig .tc := ⟨.hbm, 270, rfl⟩
abbrev main_call1_cst : Ref sig .tc := ⟨.hbm, 271, rfl⟩
abbrev main_call1_v2 : Ref sig .tc := ⟨.hbm, 272, rfl⟩
abbrev main_call1_v3 : Ref sig .tc := ⟨.hbm, 273, rfl⟩
abbrev main_call1_cst_0 : Ref sig .tc := ⟨.hbm, 274, rfl⟩
abbrev main_call1_v4 : Ref sig .tc := ⟨.hbm, 275, rfl⟩
abbrev main_call1_v5 : Ref sig .tc := ⟨.hbm, 276, rfl⟩
abbrev main_v255 : Ref sig .tc := ⟨.hbm, 277, rfl⟩
abbrev main_v256 : Ref sig .tc := ⟨.hbm, 278, rfl⟩
abbrev main_c_6 : Ref sig .tc := ⟨.hbm, 279, rfl⟩
abbrev main_call2_v0 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩

abbrev nD : Nat := 1
abbrev τ : Topo := Topo.v7x

variable {F : FTy → Type} [FloatOps F]
-- ==== KernelMix.lean ====
abbrev S8192x1024 : Shape := ⟨2, ![8192, 1024]⟩
abbrev S8192x6144 : Shape := ⟨2, ![8192, 6144]⟩
abbrev S3x2048 : Shape := ⟨2, ![3, 2048]⟩
abbrev S8192x2048 : Shape := ⟨2, ![8192, 2048]⟩
abbrev S1024x2048 : Shape := ⟨2, ![1024, 2048]⟩
abbrev S2048x2048 : Shape := ⟨2, ![2048, 2048]⟩
abbrev S2048 : Shape := ⟨1, ![2048]⟩
abbrev S1x6144 : Shape := ⟨2, ![1, 6144]⟩
abbrev S1x2048 : Shape := ⟨2, ![1, 2048]⟩
abbrev S256x1024 : Shape := ⟨2, ![256, 1024]⟩
abbrev S256x6144 : Shape := ⟨2, ![256, 6144]⟩
abbrev S256x2048 : Shape := ⟨2, ![256, 2048]⟩
abbrev S256 : Shape := ⟨1, ![256]⟩
abbrev S256x1 : Shape := ⟨2, ![256, 1]⟩

abbrev nBuf : Space → Nat
  | .hbm => 19
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x6144, .bf16⟩
  | .hbm, ⟨4, _⟩ => ⟨S3x2048, .f32⟩
  | .hbm, ⟨5, _⟩ => ⟨S8192x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S2048, .f32⟩
  | .hbm, ⟨11, _⟩ => ⟨S1024x2048, .bf16⟩
  | .hbm, ⟨12, _⟩ => ⟨S1024x2048, .bf16⟩
  | .hbm, ⟨13, _⟩ => ⟨S1024x2048, .bf16⟩
  | .hbm, ⟨14, _⟩ => ⟨S2048x2048, .bf16⟩
  | .hbm, ⟨15, _⟩ => ⟨S1x6144, .f32⟩
  | .hbm, ⟨16, _⟩ => ⟨S1x2048, .f32⟩
  | .hbm, ⟨17, _⟩ => ⟨S8192x2048, .f32⟩
  | .hbm, ⟨18, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x6144, .bf16⟩
  | .local _ .vmem, ⟨7, _⟩ => ⟨S256x6144, .bf16⟩
  | .local _ .vmem, ⟨8, _⟩ => ⟨S1x6144, .f32⟩
  | .local _ .vmem, ⟨9, _⟩ => ⟨S256x2048, .f32⟩
  | .local _ .vmem, ⟨10, _⟩ => ⟨S256x2048, .f32⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .vmem, ⟨14, _⟩ => ⟨S2048x2048, .bf16⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceMixIdeal.lean ====
abbrev S8192x1024 : Shape := ⟨2, ![8192, 1024]⟩
abbrev S8192x6144 : Shape := ⟨2, ![8192, 6144]⟩
abbrev S3x2048 : Shape := ⟨2, ![3, 2048]⟩
abbrev S8192x2048 : Shape := ⟨2, ![8192, 2048]⟩
abbrev S1024x2048 : Shape := ⟨2, ![1024, 2048]⟩
abbrev S2048x2048 : Shape := ⟨2, ![2048, 2048]⟩
abbrev S2048 : Shape := ⟨1, ![2048]⟩
abbrev S8192x3x2048 : Shape := ⟨3, ![8192, 3, 2048]⟩
abbrev S1x3x2048 : Shape := ⟨3, ![1, 3, 2048]⟩
abbrev S_ : Shape := ⟨0, ![]⟩
abbrev S8192x1x2048 : Shape := ⟨3, ![8192, 1, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x6144, .bf16⟩
  | .hbm, ⟨4, _⟩ => ⟨S3x2048, .f32⟩
  | .hbm, ⟨5, _⟩ => ⟨S8192x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S2048, .f32⟩
  | .hbm, ⟨11, _⟩ => ⟨S8192x6144, .f32⟩
  | .hbm, ⟨12, _⟩ => ⟨S8192x3x2048, .f32⟩
  | .hbm, ⟨13, _⟩ => ⟨S1x3x2048, .f32⟩
  | .hbm, ⟨14, _⟩ => ⟨S8192x3x2048, .f32⟩
  | .hbm, ⟨15, _⟩ => ⟨S8192x3x2048, .f32⟩
  | .hbm, ⟨16, _⟩ => ⟨S8192x3x2048, .f32⟩
  | .hbm, ⟨17, _⟩ => ⟨S8192x3x2048, .f32⟩
  | .hbm, ⟨18, _⟩ => ⟨S_, .f32⟩
  | .hbm, ⟨19, _⟩ => ⟨S8192x3x2048, .f32⟩
  | .hbm, ⟨20, _⟩ => ⟨S8192x3x2048, .f32⟩
  | .hbm, ⟨21, _⟩ => ⟨S_, .f32⟩
  | .hbm, ⟨22, _⟩ => ⟨S8192x3x2048, .f32⟩
  | .hbm, ⟨23, _⟩ => ⟨S8192x3x2048, .f32⟩
  | .hbm, ⟨24, _⟩ => ⟨S8192x1024, .f32⟩
  | .hbm, ⟨25, _⟩ => ⟨S8192x2048, .f32⟩
  | .hbm, ⟨26, _⟩ => ⟨S8192x1024, .f32⟩
  | .hbm, ⟨27, _⟩ => ⟨S8192x2048, .f32⟩
  | .hbm, ⟨28, _⟩ => ⟨S8192x1024, .f32⟩
  | .hbm, ⟨29, _⟩ => ⟨S8192x2048, .f32⟩
  | .hbm, ⟨30, _⟩ => ⟨S8192x1x2048, .f32⟩
  | .hbm, ⟨31, _⟩ => ⟨S8192x2048, .f32⟩
  | .hbm, ⟨32, _⟩ => ⟨S8192x2048, .f32⟩
  | .hbm, ⟨33, _⟩ => ⟨S8192x1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x1x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S8192x2048, .f32⟩
  | .hbm, ⟨58, _⟩ => ⟨S8192x2048, .f32⟩
  | .hbm, ⟨59, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== KernelMixUp.lean ====
abbrev S8192x1024 : Shape := ⟨2, ![8192, 1024]⟩
abbrev S8192x6144 : Shape := ⟨2, ![8192, 6144]⟩
abbrev S3x2048 : Shape := ⟨2, ![3, 2048]⟩
abbrev S8192x2048 : Shape := ⟨2, ![8192, 2048]⟩
abbrev S1024x2048 : Shape := ⟨2, ![1024, 2048]⟩
abbrev S2048x2048 : Shape := ⟨2, ![2048, 2048]⟩
abbrev S2048 : Shape := ⟨1, ![2048]⟩
abbrev S2048x8192 : Shape := ⟨2, ![2048, 8192]⟩
abbrev S1x6144 : Shape := ⟨2, ![1, 6144]⟩
abbrev S1x2048 : Shape := ⟨2, ![1, 2048]⟩
abbrev S256x1024 : Shape := ⟨2, ![256, 1024]⟩
abbrev S256x6144 : Shape := ⟨2, ![256, 6144]⟩
abbrev S256x2048 : Shape := ⟨2, ![256, 2048]⟩
abbrev S256 : Shape := ⟨1, ![256]⟩
abbrev S256x1 : Shape := ⟨2, ![256, 1]⟩
abbrev S8192x8192 : Shape := ⟨2, ![8192, 8192]⟩
abbrev S2048x1024 : Shape := ⟨2, ![2048, 1024]⟩
abbrev S1024x1024 : Shape := ⟨2, ![1024, 1024]⟩

abbrev nBuf : Space → Nat
  | .hbm => 22
  | .vmem => 26
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x6144, .bf16⟩
  | .hbm, ⟨4, _⟩ => ⟨S3x2048, .f32⟩
  | .hbm, ⟨5, _⟩ => ⟨S8192x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S2048, .f32⟩
  | .hbm, ⟨11, _⟩ => ⟨S2048x8192, .f32⟩
  | .hbm, ⟨12, _⟩ => ⟨S1024x2048, .bf16⟩
  | .hbm, ⟨13, _⟩ => ⟨S1024x2048, .bf16⟩
  | .hbm, ⟨14, _⟩ => ⟨S1024x2048, .bf16⟩
  | .hbm, ⟨15, _⟩ => ⟨S2048x2048, .bf16⟩
  | .hbm, ⟨16, _⟩ => ⟨S1x6144, .f32⟩
  | .hbm, ⟨17, _⟩ => ⟨S1x2048, .f32⟩
  | .hbm, ⟨18, _⟩ => ⟨S8192x2048, .f32⟩
  | .hbm, ⟨19, _⟩ => ⟨S8192x2048, .bf16⟩
  | .hbm, ⟨20, _⟩ => ⟨S2048x8192, .bf16⟩
  | .hbm, ⟨21, _⟩ => ⟨S8192x8192, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x6144, .bf16⟩
  | .local _ .vmem, ⟨7, _⟩ => ⟨S256x6144, .bf16⟩
  | .local _ .vmem, ⟨8, _⟩ => ⟨S1x6144, .f32⟩
  | .local _ .vmem, ⟨9, _⟩ => ⟨S256x2048, .f32⟩
  | .local _ .vmem, ⟨10, _⟩ => ⟨S256x2048, .f32⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .vmem, ⟨14, _⟩ => ⟨S2048x2048, .bf16⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | .local _ .vmem, ⟨20, _⟩ => ⟨S1024x2048, .bf16⟩
  | .local _ .vmem, ⟨21, _⟩ => ⟨S1024x2048, .bf16⟩
  | .local _ .vmem, ⟨22, _⟩ => ⟨S2048x1024, .bf16⟩
  | .local _ .vmem, ⟨23, _⟩ => ⟨S2048x1024, .bf16⟩
  | .local _ .vmem, ⟨24, _⟩ => ⟨S1024x1024, .bf16⟩
  | .local _ .vmem, ⟨25, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceMixUpIdeal.lean ====
abbrev S8192x1024 : Shape := ⟨2, ![8192, 1024]⟩
abbrev S8192x6144 : Shape := ⟨2, ![8192, 6144]⟩
abbrev S3x2048 : Shape := ⟨2, ![3, 2048]⟩
abbrev S8192x2048 : Shape := ⟨2, ![8192, 2048]⟩
abbrev S1024x2048 : Shape := ⟨2, ![1024, 2048]⟩
abbrev S2048x2048 : Shape := ⟨2, ![2048, 2048]⟩
abbrev S2048 : Shape := ⟨1, ![2048]⟩
abbrev S2048x8192 : Shape := ⟨2, ![2048, 8192]⟩
abbrev S8192x3x2048 : Shape := ⟨3, ![8192, 3, 2048]⟩
abbrev S1x3x2048 : Shape := ⟨3, ![1, 3, 2048]⟩
abbrev S_ : Shape := ⟨0, ![]⟩
abbrev S8192x1x2048 : Shape := ⟨3, ![8192, 1, 2048]⟩
abbrev S8192 : Shape := ⟨1, ![8192]⟩
abbrev S8192x1 : Shape := ⟨2, ![8192, 1]⟩
abbrev S1x2048 : Shape := ⟨2, ![1, 2048]⟩
abbrev S8192x8192 : Shape := ⟨2, ![8192, 8192]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x6144, .bf16⟩
  | .hbm, ⟨4, _⟩ => ⟨S3x2048, .f32⟩
  | .hbm, ⟨5, _⟩ => ⟨S8192x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S2048, .f32⟩
  | .hbm, ⟨11, _⟩ => ⟨S2048x8192, .f32⟩
  | .hbm, ⟨12, _⟩ => ⟨S8192x6144, .f32⟩
  | .hbm, ⟨13, _⟩ => ⟨S8192x3x2048, .f32⟩
  | .hbm, ⟨14, _⟩ => ⟨S1x3x2048, .f32⟩
  | .hbm, ⟨15, _⟩ => ⟨S8192x3x2048, .f32⟩
  | .hbm, ⟨16, _⟩ => ⟨S8192x3x2048, .f32⟩
  | .hbm, ⟨17, _⟩ => ⟨S8192x3x2048, .f32⟩
  | .hbm, ⟨18, _⟩ => ⟨S8192x3x2048, .f32⟩
  | .hbm, ⟨19, _⟩ => ⟨S_, .f32⟩
  | .hbm, ⟨20, _⟩ => ⟨S8192x3x2048, .f32⟩
  | .hbm, ⟨21, _⟩ => ⟨S8192x3x2048, .f32⟩
  | .hbm, ⟨22, _⟩ => ⟨S_, .f32⟩
  | .hbm, ⟨23, _⟩ => ⟨S8192x3x2048, .f32⟩
  | .hbm, ⟨24, _⟩ => ⟨S8192x3x2048, .f32⟩
  | .hbm, ⟨25, _⟩ => ⟨S8192x1024, .f32⟩
  | .hbm, ⟨26, _⟩ => ⟨S8192x2048, .f32⟩
  | .hbm, ⟨27, _⟩ => ⟨S8192x1024, .f32⟩
  | .hbm, ⟨28, _⟩ => ⟨S8192x2048, .f32⟩
  | .hbm, ⟨29, _⟩ => ⟨S8192x1024, .f32⟩
  | .hbm, ⟨30, _⟩ => ⟨S8192x2048, .f32⟩
  | .hbm, ⟨31, _⟩ => ⟨S8192x1x2048, .f32⟩
  | .hbm, ⟨32, _⟩ => ⟨S8192x2048, .f32⟩
  | .hbm, ⟨33, _⟩ => ⟨S8192x2048, .f32⟩
  | .hbm, ⟨34, _⟩ => ⟨S8192x1x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x1x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S8192x8192, .f32⟩
  | .hbm, ⟨61, _⟩ => ⟨S_, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S8192x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_1 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== KernelProj.lean ====
abbrev S4x2048x2048 : Shape := ⟨3, ![4, 2048, 2048]⟩
abbrev S2048 : Shape := ⟨1, ![2048]⟩
abbrev S2048x12800 : Shape := ⟨2, ![2048, 12800]⟩
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x5120 : Shape := ⟨2, ![2048, 5120]⟩
abbrev S8192x5120 : Shape := ⟨2, ![8192, 5120]⟩
abbrev S1024x2048 : Shape := ⟨2, ![1024, 2048]⟩
abbrev S2048x1280 : Shape := ⟨2, ![2048, 1280]⟩
abbrev S1024x1280 : Shape := ⟨2, ![1024, 1280]⟩
abbrev S2048x1536 : Shape := ⟨2, ![2048, 1536]⟩
abbrev S8192x1536 : Shape := ⟨2, ![8192, 1536]⟩
abbrev S1024x1536 : Shape := ⟨2, ![1024, 1536]⟩
abbrev S2048x6144 : Shape := ⟨2, ![2048, 6144]⟩
abbrev S8192x6144 : Shape := ⟨2, ![8192, 6144]⟩
abbrev S2048x1024 : Shape := ⟨2, ![2048, 1024]⟩
abbrev S1024x1024 : Shape := ⟨2, ![1024, 1024]⟩

abbrev nBuf : Space → Nat
  | .hbm => 13
  | .vmem => 22
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x12800, .f32⟩
  | .hbm, ⟨3, _⟩ => ⟨S8192x2048, .f32⟩
  | .hbm, ⟨4, _⟩ => ⟨S1x2048, .f32⟩
  | .hbm, ⟨5, _⟩ => ⟨S8192x2048, .bf16⟩
  | .hbm, ⟨6, _⟩ => ⟨S2048x12800, .bf16⟩
  | .hbm, ⟨7, _⟩ => ⟨S2048x5120, .bf16⟩
  | .hbm, ⟨8, _⟩ => ⟨S8192x5120, .bf16⟩
  | .hbm, ⟨9, _⟩ => ⟨S2048x1536, .bf16⟩
  | .hbm, ⟨10, _⟩ => ⟨S8192x1536, .bf16⟩
  | .hbm, ⟨11, _⟩ => ⟨S2048x6144, .bf16⟩
  | .hbm, ⟨12, _⟩ => ⟨S8192x6144, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1280, .bf16⟩
  | .local _ .vmem, ⟨8, _⟩ => ⟨S2048x1280, .bf16⟩
  | .local _ .vmem, ⟨9, _⟩ => ⟨S1024x1280, .bf16⟩
  | .local _ .vmem, ⟨10, _⟩ => ⟨S1024x1280, .bf16⟩
  | .local _ .vmem, ⟨11, _⟩ => ⟨S1024x2048, .bf16⟩
  | .local _ .vmem, ⟨12, _⟩ => ⟨S1024x2048, .bf16⟩
  | .local _ .vmem, ⟨13, _⟩ => ⟨S2048x1536, .bf16⟩
  | .local _ .vmem, ⟨14, _⟩ => ⟨S1024x1536, .bf16⟩
  | .local _ .vmem, ⟨15, _⟩ => ⟨S1024x1536, .bf16⟩
  | .local _ .vmem, ⟨16, _⟩ => ⟨S1024x2048, .bf16⟩
  | .local _ .vmem, ⟨17, _⟩ => ⟨S1024x2048, .bf16⟩
  | .local _ .vmem, ⟨18, _⟩ => ⟨S2048x1024, .bf16⟩
  | .local _ .vmem, ⟨19, _⟩ => ⟨S2048x1024, .bf16⟩
  | .local _ .vmem, ⟨20, _⟩ => ⟨S1024x1024, .bf16⟩
  | .local _ .vmem, ⟨21, _⟩ => ⟨S1024x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1280 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x1536 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1536 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 6], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== ReferenceProjIdeal.lean ====
abbrev S4x2048x2048 : Shape := ⟨3, ![4, 2048, 2048]⟩
abbrev S2048 : Shape := ⟨1, ![2048]⟩
abbrev S2048x12800 : Shape := ⟨2, ![2048, 12800]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x12800 : Shape := ⟨3, ![4, 2048, 12800]⟩
abbrev S8192x12800 : Shape := ⟨2, ![8192, 12800]⟩
abbrev S8192x5120 : Shape := ⟨2, ![8192, 5120]⟩
abbrev S8192x1536 : Shape := ⟨2, ![8192, 1536]⟩
abbrev S8192x6144 : Shape := ⟨2, ![8192, 6144]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x12800, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S4x2048x12800, .f32⟩
  | .hbm, ⟨20, _⟩ => ⟨S8192x12800, .f32⟩
  | .hbm, ⟨21, _⟩ => ⟨S8192x5120, .f32⟩
  | .hbm, ⟨22, _⟩ => ⟨S8192x5120, .bf16⟩
  | .hbm, ⟨23, _⟩ => ⟨S8192x1536, .f32⟩
  | .hbm, ⟨24, _⟩ => ⟨S8192x1536, .bf16⟩
  | .hbm, ⟨25, _⟩ => ⟨S8192x6144, .f32⟩
  | .hbm, ⟨26, _⟩ => ⟨S8192x6144, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== KernelUp.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S2048x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUpIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelDown.lean ====
abbrev S8192x8192 : Shape := ⟨2, ![8192, 8192]⟩
abbrev S8192x2048 : Shape := ⟨2, ![8192, 2048]⟩
abbrev S2048 : Shape := ⟨1, ![2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S8192x2048, .bf16⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceDownIdeal.lean ====
abbrev S8192x8192 : Shape := ⟨2, ![8192, 8192]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S8192x8192, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelLast.lean ====
abbrev S8192x8192 : Shape := ⟨2, ![8192, 8192]⟩
abbrev S8192x2048 : Shape := ⟨2, ![8192, 2048]⟩
abbrev S2048 : Shape := ⟨1, ![2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S4x2048x2048 : Shape := ⟨3, ![4, 2048, 2048]⟩

abbrev nBuf : Space → Nat
  | .hbm => 8
  | .vmem => 10
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S8192x2048, .bf16⟩
  | .hbm, ⟨5, _⟩ => ⟨S1x2048, .f32⟩
  | .hbm, ⟨6, _⟩ => ⟨S8192x2048, .f32⟩
  | .hbm, ⟨7, _⟩ => ⟨S4x2048x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceLastIdeal.lean ====
abbrev S8192x8192 : Shape := ⟨2, ![8192, 8192]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S4x2048x2048 : Shape := ⟨3, ![4, 2048, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S8192x8192, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S4x2048x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelInC.lean ====
abbrev S8192x2048 : Shape := ⟨2, ![8192, 2048]⟩
abbrev S2048x12800 : Shape := ⟨2, ![2048, 12800]⟩
abbrev S2048x5120 : Shape := ⟨2, ![2048, 5120]⟩
abbrev S8192x5120 : Shape := ⟨2, ![8192, 5120]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x12800, .f32⟩
  | .hbm, ⟨2, _⟩ => ⟨S2048x12800, .bf16⟩
  | .hbm, ⟨3, _⟩ => ⟨S2048x5120, .bf16⟩
  | .hbm, ⟨4, _⟩ => ⟨S8192x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .bf16⟩
  | .local _ .vmem, ⟨5, _⟩ => ⟨S1024x1280, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInCIdeal.lean ====
abbrev S8192x2048 : Shape := ⟨2, ![8192, 2048]⟩
abbrev S2048x12800 : Shape := ⟨2, ![2048, 12800]⟩
abbrev S8192x12800 : Shape := ⟨2, ![8192, 12800]⟩
abbrev S8192x5120 : Shape := ⟨2, ![8192, 5120]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12800, .f32⟩
  | .hbm, ⟨2, _⟩ => ⟨S8192x2048, .f32⟩
  | .hbm, ⟨3, _⟩ => ⟨S8192x12800, .f32⟩
  | .hbm, ⟨4, _⟩ => ⟨S8192x5120, .f32⟩
  | .hbm, ⟨5, _⟩ => ⟨S8192x5120, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelInQ.lean ====
abbrev S8192x2048 : Shape := ⟨2, ![8192, 2048]⟩
abbrev S2048x12800 : Shape := ⟨2, ![2048, 12800]⟩
abbrev S2048x1536 : Shape := ⟨2, ![2048, 1536]⟩
abbrev S8192x1536 : Shape := ⟨2, ![8192, 1536]⟩
abbrev S1024x2048 : Shape := ⟨2, ![1024, 2048]⟩
abbrev S1024x1536 : Shape := ⟨2, ![1024, 1536]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x12800, .f32⟩
  | .hbm, ⟨2, _⟩ => ⟨S2048x12800, .bf16⟩
  | .hbm, ⟨3, _⟩ => ⟨S2048x1536, .bf16⟩
  | .hbm, ⟨4, _⟩ => ⟨S8192x1536, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S1024x1536, .bf16⟩
  | .local _ .vmem, ⟨4, _⟩ => ⟨S1024x1536, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInQIdeal.lean ====
abbrev S8192x2048 : Shape := ⟨2, ![8192, 2048]⟩
abbrev S2048x12800 : Shape := ⟨2, ![2048, 12800]⟩
abbrev S8192x12800 : Shape := ⟨2, ![8192, 12800]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12800, .f32⟩
  | .hbm, ⟨2, _⟩ => ⟨S8192x2048, .f32⟩
  | .hbm, ⟨3, _⟩ => ⟨S8192x12800, .f32⟩
  | .hbm, ⟨4, _⟩ => ⟨S8192x1536, .f32⟩
  | .hbm, ⟨5, _⟩ => ⟨S8192x1536, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelInG.lean ====
abbrev S8192x2048 : Shape := ⟨2, ![8192, 2048]⟩
abbrev S2048x12800 : Shape := ⟨2, ![2048, 12800]⟩
abbrev S2048x6144 : Shape := ⟨2, ![2048, 6144]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x12800, .f32⟩
  | .hbm, ⟨2, _⟩ => ⟨S2048x12800, .bf16⟩
  | .hbm, ⟨3, _⟩ => ⟨S2048x6144, .bf16⟩
  | .hbm, ⟨4, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInGIdeal.lean ====
abbrev S8192x2048 : Shape := ⟨2, ![8192, 2048]⟩
abbrev S2048x12800 : Shape := ⟨2, ![2048, 12800]⟩
abbrev S8192x12800 : Shape := ⟨2, ![8192, 12800]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12800, .f32⟩
  | .hbm, ⟨2, _⟩ => ⟨S8192x2048, .f32⟩
  | .hbm, ⟨3, _⟩ => ⟨S8192x12800, .f32⟩
  | .hbm, ⟨4, _⟩ => ⟨S8192x6144, .f32⟩
  | .hbm, ⟨5, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelNorm.lean ====
abbrev S4x2048x2048 : Shape := ⟨3, ![4, 2048, 2048]⟩
abbrev S2048 : Shape := ⟨1, ![2048]⟩
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S4x2048x2048 : Shape := ⟨3, ![4, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x2048x2048, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x2048, .f32⟩
  | .hbm, ⟨14, _⟩ => ⟨S4x2048x2048, .f32⟩
  | .hbm, ⟨15, _⟩ => ⟨S1x1x2048, .f32⟩
  | .hbm, ⟨16, _⟩ => ⟨S4x2048x2048, .f32⟩
  | .hbm, ⟨17, _⟩ => ⟨S4x2048x2048, .f32⟩
  | .hbm, ⟨18, _⟩ => ⟨S8192x2048, .f32⟩
  | .hbm, ⟨19, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Attend.lean ====
module

public import proofs.«01_k».proof.Defs
public import Idealize.ShloMosaic.Lib.Pipeline.ValueKit
public import Idealize.ShloMosaic.Lib.Pointwise

@[expose] public section

noncomputable section

open Idealize.ShloMosaic

namespace Cert.Attend

/-- The largest of a query's scores and its head's sink. -/
def peak (s : Fin 256 → EReal) (b : EReal) : EReal := max ((Finset.univ : Finset (Fin 256)).fold max ⊥ s) b

/-- The exponentials' sum, the sink's among them. -/
def total (s : Fin 256 → EReal) (b : EReal) : EReal := ∑ k, Ideal.exp (s k - peak s b) + Ideal.exp (b - peak s b)

/-- One query's attention: its values under the softmax weights of its scores. -/
def attend (s v : Fin 256 → EReal) (b : EReal) : EReal :=
  ∑ k, Ideal.div (Ideal.exp (s k - peak s b)) (total s b) * v k

theorem exp_nonneg (x : EReal) : 0 ≤ Ideal.exp x := by
  induction x using EReal.rec with
  | bot => exact le_rfl
  | top => exact le_top
  | coe r => rw [Ideal.exp_coe]; exact_mod_cast (Real.exp_pos r).le

theorem zero_div_zero : Ideal.div 0 0 = ⊥ := by simp [Ideal.div]

/-- Scores of minus infinity leave their values out, where each such value is also one that is kept: with a
    total of zero every weight is minus infinity, and adding a term of that kind twice changes nothing. -/
theorem attend_pad (s v w : Fin 256 → EReal) (b : EReal)
    (hs : ∀ k : Fin 256, k.val < 128 → s k = ⊥)
    (hv : ∀ k : Fin 128, v ⟨k.val, by omega⟩ = v ⟨128 + k.val, by omega⟩)
    (hw : ∀ k : Fin 128, w ⟨128 + k.val, by omega⟩ = v ⟨128 + k.val, by omega⟩)
    (h0 : ∀ k : Fin 128, w ⟨k.val, by omega⟩ = 0) : attend s v b = attend s w b := by
  have split : ∀ f : Fin 256 → EReal, ∑ k, f k = ∑ k : Fin 128, f ⟨k.val, by omega⟩ + ∑ k : Fin 128, f ⟨128 + k.val, by omega⟩ :=
    fun f => Fin.sum_univ_add (a := 128) (b := 128) f
  have hp : ∀ k : Fin 128, Ideal.exp (s ⟨k.val, by omega⟩ - peak s b) = 0 := by
    intro k
    rw [hs _ k.isLt, EReal.bot_sub, Ideal.exp_bot]
  unfold attend
  rw [split, split]
  simp only [hp, hv, hw, h0, mul_zero, Finset.sum_const_zero, zero_add]
  by_cases ht : total s b = 0
  · have hz : ∀ k : Fin 256, Ideal.exp (s k - peak s b) = 0 := by
      intro k
      refine le_antisymm ?_ (exp_nonneg _)
      have h1 : ∑ k, Ideal.exp (s k - peak s b) ≤ total s b :=
        le_add_of_nonneg_right (exp_nonneg _)
      exact ((Finset.single_le_sum (fun k _ => exp_nonneg _) (Finset.mem_univ k)).trans h1).trans ht.le
    simp only [hz, ht, zero_div_zero]
    rw [← Finset.sum_add_distrib]
    refine Finset.sum_congr rfl fun k _ => ?_
    induction v ⟨128 + k.val, by omega⟩ using EReal.rec with
    | bot => rfl
    | top => rfl
    | coe x =>
      rcases lt_trichotomy x 0 with h | h | h
      · rw [EReal.bot_mul_coe_of_neg h]; rfl
      · subst h; simp
      · rw [EReal.bot_mul_coe_of_pos h]; rfl
  · have : Ideal.div 0 (total s b) = 0 := by
      unfold Ideal.div; rw [if_neg ht, zero_mul]
    simp only [this, zero_mul, Finset.sum_const_zero, zero_add]

end Cert.Attend

end
-- ==== Proof.AttnHead.lean ====
module

public import proofs.«01_k».proof.Defs
public import proofs.«01_k».proof.Proof.Gen.KernelAttnIdeal.Frame
public import Idealize.ShloMosaic.Lib.Pipeline.ValueKit
public import Idealize.ShloMosaic.Lib.Pipeline.ReadBack
public import Idealize.ShloMosaic.Lib.Pointwise
public import proofs.«01_k».proof.Proof.Attend

@[expose] public section

set_option maxRecDepth 16384

noncomputable section

open Idealize.ShloMosaic Idealize.ShloMosaic.TcCoe Idealize.SL.Sem
open Idealize.ShloMosaic.Pipeline (Dat)

namespace Cert.KernelAttnIdeal.Heads
open Cert.KernelAttnIdeal Cert.KernelAttnIdeal.Gen

/-- One head's masked scores. -/
def scores (q : FVec Ideal S128x64 .bf16) (k : FVec Ideal S256x64 .bf16) (mask : IVec S128x256 1) : FVec Ideal S128x256 .f32 :=
  select mask (mulf (matmul dot_S128x64_S256x64_S128x256_1_1_0_0_n_n none q k (constant S128x256 .f32 0x00000000#32))
    (broadcast S128x256 (Scalar.ofBits .f32 0x3E000000#32))) (broadcast S128x256 (Scalar.ofBits .f32 0xFF800000#32))

/-- One head's largest scores, the sink among them. -/
def peak (x : FVec Ideal S128x256 .f32) (b : Elt Ideal .f32) : FVec Ideal S128x1 .f32 :=
  maximumf (shapeCast S128x1 (multiReduction .maximumf [1] S128 x 0xFF800000#32 reduces_S128x256_S128 (.inl rfl) rfl) shapeCasts_S128_S128x1)
    (broadcast S128x1 b)

/-- One head's exponentials. -/
def expo (x : FVec Ideal S128x256 .f32) (b : Elt Ideal .f32) : FVec Ideal S128x256 .f32 :=
  exp (subf x (broadcastTo S128x256 (peak x b) broadcasts_S128x1_S128x256))

/-- One head's totals. -/
def total (x : FVec Ideal S128x256 .f32) (b : Elt Ideal .f32) : FVec Ideal S128x1 .f32 :=
  addf (shapeCast S128x1 (multiReduction .add [1] S128 (expo x b) 0x00000000#32 reduces_S128x256_S128 (.inl rfl) rfl) shapeCasts_S128_S128x1)
    (exp (subf (broadcast S128x1 b) (peak x b)))

/-- One head of the kernel's attention on a block of queries. -/
def head (q : FVec Ideal S128x64 .bf16) (k v : FVec Ideal S256x64 .bf16) (mask : IVec S128x256 1) (b : Elt Ideal .f32) : FVec Ideal S128x64 .f32 :=
  matmul dot_S128x256_S256x64_S128x64_1_0_0_1_n_n none
    (truncf .bf16 (divf (expo (scores q k mask) b) (broadcastTo S128x256 (total (scores q k mask) b) broadcasts_S128x1_S128x256)) bitsLt_bf16_f32) v
    (constant S128x64 .f32 0x00000000#32)

theorem scores_apply (q : FVec Ideal S128x64 .bf16) (k : FVec Ideal S256x64 .bf16) (mask : IVec S128x256 1) (r : Fin 128) (i : Fin 256) :
    scores q k mask (ix2 r i) = Scalar.select (mask (ix2 r i)) ((∑ x : Fin 64, q (ix2 r x) * k (ix2 i x))
      * Ideal.ofBits FTy.f32 0x3E000000#32) (⊥ : EReal) := by
  pointwise [scores]
  rw [show Ideal.ofBits FTy.f32 4286578688#32 = (⊥ : EReal) from by simp [Ideal.ofBits, Ideal.ieee]]

theorem peak_apply (x : FVec Ideal S128x256 .f32) (b : Elt Ideal .f32) (r : Fin 128) :
    peak x b (ix2 r 0) = Cert.Attend.peak (fun k => x (ix2 r k)) b := by
  pointwise [peak]
  rw [show Ideal.ofBits FTy.f32 4286578688#32 = (⊥ : EReal) from by simp [Ideal.ofBits, Ideal.ieee]]
  rfl

theorem expo_apply (x : FVec Ideal S128x256 .f32) (b : Elt Ideal .f32) (r : Fin 128) (k : Fin 256) :
    expo x b (ix2 r k) = Ideal.exp (x (ix2 r k) - Cert.Attend.peak (fun k => x (ix2 r k)) b) := by
  rw [← peak_apply]
  pointwise [expo]

theorem total_apply (x : FVec Ideal S128x256 .f32) (b : Elt Ideal .f32) (r : Fin 128) :
    total x b (ix2 r 0) = Cert.Attend.total (fun k => x (ix2 r k)) b := by
  pointwise [total]
  simp only [expo_apply, peak_apply]
  rfl

theorem head_apply (q : FVec Ideal S128x64 .bf16) (k v : FVec Ideal S256x64 .bf16) (mask : IVec S128x256 1) (b : Elt Ideal .f32) (r : Fin 128) (d : Fin 64) :
    head q k v mask b (ix2 r d) = Cert.Attend.attend
      (fun i => Scalar.select (mask (ix2 r i)) ((∑ x : Fin 64, q (ix2 r x) * k (ix2 i x)) * Ideal.ofBits FTy.f32 0x3E000000#32) (⊥ : EReal))
      (fun i => v (ix2 i d)) b := by
  simp only [← scores_apply]
  pointwise [head]
  simp only [expo_apply, total_apply]
  rfl

theorem q_slice (h : Fin 16) : S128x1024.Slices ![0, h.val * 64] S128x64 := by
  revert h; decide

theorem kv_slice (h : Fin 16) : S256x256.Slices ![0, h.val / 4 * 64] S256x64 := by
  revert h; decide

/-- A head of the block, on its columns of the queries and its group's columns of the keys and values. -/
def blockHead (i : grid0.Coords) (v0 : Vec Ideal S128x1024 .bf16) (v1 v2 v4 v5 : Vec Ideal S128x256 .bf16) (b : Fin 16 → Elt Ideal .f32)
    (h : Fin 16) : FVec Ideal S128x64 .f32 :=
  head (extractStridedSlice S128x64 ![0, h.val * 64] v0 (q_slice h))
    (extractStridedSlice S256x64 ![0, h.val / 4 * 64] (k0_pay3 v1 v2) (kv_slice h))
    (extractStridedSlice S256x64 ![0, h.val / 4 * 64] (k0_pay4 v4 v5) (kv_slice h)) (k0_pay5 i) (b h)

theorem side_wf (f : Fin 16 → (S128x64.Idx → EReal)) :
    Shape.Concatenates ((List.ofFn fun h : Fin 16 => (⟨S128x64, f h⟩ : (s : Shape) × (s.Idx → EReal))).map (·.1)) S128x1024 1 := by
  have e : (List.ofFn fun h : Fin 16 => (⟨S128x64, f h⟩ : (s : Shape) × (s.Idx → EReal))).map (·.1)
      = [S128x64, S128x64, S128x64, S128x64, S128x64, S128x64, S128x64, S128x64, S128x64, S128x64, S128x64, S128x64, S128x64, S128x64, S128x64, S128x64] := by
    simp [List.ofFn_succ]
  rw [e]
  exact concatenates_S128x64_S128x64_S128x64_S128x64_S128x64_S128x64_S128x64_S128x64_S128x64_S128x64_S128x64_S128x64_S128x64_S128x64_S128x64_S128x64_S128x1024_d1

/-- Sixteen heads side by side. -/
def side (f : Fin 16 → (S128x64.Idx → EReal)) : FVec Ideal S128x1024 .bf16 :=
  concatenate S128x1024 1 (List.ofFn fun h : Fin 16 => (⟨S128x64, f h⟩ : (s : Shape) × (s.Idx → EReal))) (side_wf f)

/-- What a grid point stores: the sixteen heads side by side. -/
theorem store_eq (i : grid0.Coords) (v0 : Vec Ideal S128x1024 .bf16) (v1 v2 v4 v5 : Vec Ideal S128x256 .bf16) (b : Fin 16 → Elt Ideal .f32) :
    k0_pay2
      (k0_pay10 (k0_pay6 v4 v5) (b 0) (k0_pay8 i v0 v1 v2 (b 0)) (k0_pay9 i v0 v1 v2 (b 0)))
      (k0_pay11 v0 (k0_pay3 v1 v2) (k0_pay4 v4 v5) (k0_pay5 i) (b 1))
      (k0_pay14 (k0_pay12 (k0_pay4 v4 v5)) (k0_pay13 v0 (k0_pay3 v1 v2) (k0_pay5 i)) (b 2))
      (k0_pay15 v0 (k0_pay3 v1 v2) (k0_pay4 v4 v5) (k0_pay5 i) (b 3))
      (k0_pay18 (k0_pay5 i) (k0_pay16 (k0_pay4 v4 v5)) (k0_pay17 v0 (k0_pay3 v1 v2)) (b 4))
      (k0_pay19 v0 (k0_pay3 v1 v2) (k0_pay4 v4 v5) (k0_pay5 i) (b 5))
      (k0_pay22 (k0_pay4 v4 v5) (k0_pay5 i) (k0_pay20 v0) (k0_pay21 (k0_pay3 v1 v2)) (b 6))
      (k0_pay28 (k0_pay23 (k0_pay4 v4 v5)) (k0_pay26 v0 (k0_pay3 v1 v2) (k0_pay5 i) (b 7)) (k0_pay27 v0 (k0_pay3 v1 v2) (k0_pay5 i) (b 7)))
      (k0_pay29 v0 (k0_pay3 v1 v2) (k0_pay4 v4 v5) (k0_pay5 i) (b 8))
      (k0_pay35 (k0_pay30 (k0_pay4 v4 v5)) (b 9) (k0_pay32 v0 (k0_pay3 v1 v2) (k0_pay5 i) (b 9)) (k0_pay33 v0 (k0_pay3 v1 v2) (k0_pay5 i) (b 9)) (k0_pay34 v0 (k0_pay3 v1 v2) (k0_pay5 i) (b 9)))
      (k0_pay36 v0 (k0_pay3 v1 v2) (k0_pay4 v4 v5) (k0_pay5 i) (b 10))
      (k0_pay41 (k0_pay37 (k0_pay4 v4 v5)) (k0_pay38 v0 (k0_pay3 v1 v2) (k0_pay5 i)) (b 11) (k0_pay39 v0 (k0_pay3 v1 v2) (k0_pay5 i)) (k0_pay40 (b 11)))
      (k0_pay42 v0 (k0_pay3 v1 v2) (k0_pay4 v4 v5) (k0_pay5 i) (b 12))
      (k0_pay45 (k0_pay43 (k0_pay4 v4 v5)) (k0_pay44 v0 (k0_pay3 v1 v2) (k0_pay5 i)) (b 13))
      (k0_pay46 v0 (k0_pay3 v1 v2) (k0_pay4 v4 v5) (k0_pay5 i) (b 14))
      (k0_pay1 (k0_pay5 i) (k0_pay47 (k0_pay4 v4 v5)) (k0_pay48 v0 (k0_pay3 v1 v2)) (b 15))
      = side (blockHead i v0 v1 v2 v4 v5 b) := rfl

theorem side_apply (f : Fin 16 → (S128x64.Idx → EReal)) (r : Fin 128) (h : Fin 16) (j : Fin 64) :
    side f (ix2 r ⟨h.val * 64 + j.val, by omega⟩) = f h (ix2 r j) := by
  refine concatenate_ofFn_apply (t := S128x1024) (s₁ := S128x64) 1 f (side_wf f) rfl 64 rfl _ h ?_ _ ?_ ?_
  · show (h.val * 64 + j.val) / 64 = h.val; omega
  · show j.val = (h.val * 64 + j.val) % 64; omega
  · intro a ha
    match a with
    | ⟨0, _⟩ => rfl
    | ⟨1, _⟩ => exact absurd rfl ha

theorem blockHead_apply (i : grid0.Coords) (v0 : Vec Ideal S128x1024 .bf16) (v1 v2 v4 v5 : Vec Ideal S128x256 .bf16) (b : Fin 16 → Elt Ideal .f32)
    (h : Fin 16) (r : Fin 128) (j : Fin 64) :
    blockHead i v0 v1 v2 v4 v5 b h (ix2 r j) = Cert.Attend.attend
      (fun k => Scalar.select (k0_pay5 i (ix2 r k)) ((∑ x : Fin 64, v0 (ix2 r ⟨h.val * 64 + x.val, by omega⟩)
        * k0_pay3 v1 v2 (ix2 k ⟨h.val / 4 * 64 + x.val, by omega⟩)) * Ideal.ofBits FTy.f32 0x3E000000#32) (⊥ : EReal))
      (fun k => k0_pay4 v4 v5 (ix2 k ⟨h.val / 4 * 64 + j.val, by omega⟩)) (b h) := by
  unfold blockHead
  rw [head_apply]
  generalize k0_pay3 v1 v2 = kk
  generalize k0_pay4 v4 v5 = vv
  have hq : ∀ x : Fin 64, extractStridedSlice S128x64 ![0, h.val * 64] v0 (q_slice h) (ix2 r x) = v0 (ix2 r ⟨h.val * 64 + x.val, by omega⟩) := by
    intro x; exact congrArg v0 (by idx_ext)
  have hk : ∀ (w : FVec Ideal S256x256 .bf16) (k : Fin 256) (x : Fin 64), extractStridedSlice S256x64 ![0, h.val / 4 * 64] w (kv_slice h) (ix2 k x)
      = w (ix2 k ⟨h.val / 4 * 64 + x.val, by omega⟩) := by
    intro w k x; exact congrArg w (by idx_ext)
  simp only [hq, hk]

theorem cat_low (x y : Vec Ideal S128x256 .bf16) (k : Fin 128) (a : Fin 256) : k0_pay3 x y (ix2 ⟨k.val, by omega⟩ a) = x (ix2 k a) := by
  pointwise [k0_pay3]

theorem cat_high (x y : Vec Ideal S128x256 .bf16) (k : Fin 128) (a : Fin 256) : k0_pay3 x y (ix2 ⟨128 + k.val, by omega⟩ a) = y (ix2 k a) := by
  pointwise [k0_pay3]

theorem sink_word (x : Vec Ideal S16 .f32) :
    (∀ h, View.ld (Val := Elt Ideal) x (Rect.unit ![0] ![1] inb_S16_S1_0) (Shape.Idx.first h) = x (ix1 0))
    ∧ (∀ h, View.ld (Val := Elt Ideal) x (Rect.unit ![1] ![1] inb_S16_S1_1) (Shape.Idx.first h) = x (ix1 1))
    ∧ (∀ h, View.ld (Val := Elt Ideal) x (Rect.unit ![2] ![1] inb_S16_S1_2) (Shape.Idx.first h) = x (ix1 2))
    ∧ (∀ h, View.ld (Val := Elt Ideal) x (Rect.unit ![3] ![1] inb_S16_S1_3) (Shape.Idx.first h) = x (ix1 3))
    ∧ (∀ h, View.ld (Val := Elt Ideal) x (Rect.unit ![4] ![1] inb_S16_S1_4) (Shape.Idx.first h) = x (ix1 4))
    ∧ (∀ h, View.ld (Val := Elt Ideal) x (Rect.unit ![5] ![1] inb_S16_S1_5) (Shape.Idx.first h) = x (ix1 5))
    ∧ (∀ h, View.ld (Val := Elt Ideal) x (Rect.unit ![6] ![1] inb_S16_S1_6) (Shape.Idx.first h) = x (ix1 6))
    ∧ (∀ h, View.ld (Val := Elt Ideal) x (Rect.unit ![7] ![1] inb_S16_S1_7) (Shape.Idx.first h) = x (ix1 7))
    ∧ (∀ h, View.ld (Val := Elt Ideal) x (Rect.unit ![8] ![1] inb_S16_S1_8) (Shape.Idx.first h) = x (ix1 8))
    ∧ (∀ h, View.ld (Val := Elt Ideal) x (Rect.unit ![9] ![1] inb_S16_S1_9) (Shape.Idx.first h) = x (ix1 9))
    ∧ (∀ h, View.ld (Val := Elt Ideal) x (Rect.unit ![10] ![1] inb_S16_S1_10) (Shape.Idx.first h) = x (ix1 10))
    ∧ (∀ h, View.ld (Val := Elt Ideal) x (Rect.unit ![11] ![1] inb_S16_S1_11) (Shape.Idx.first h) = x (ix1 11))
    ∧ (∀ h, View.ld (Val := Elt Ideal) x (Rect.unit ![12] ![1] inb_S16_S1_12) (Shape.Idx.first h) = x (ix1 12))
    ∧ (∀ h, View.ld (Val := Elt Ideal) x (Rect.unit ![13] ![1] inb_S16_S1_13) (Shape.Idx.first h) = x (ix1 13))
    ∧ (∀ h, View.ld (Val := Elt Ideal) x (Rect.unit ![14] ![1] inb_S16_S1_14) (Shape.Idx.first h) = x (ix1 14))
    ∧ (∀ h, View.ld (Val := Elt Ideal) x (Rect.unit ![15] ![1] inb_S16_S1_15) (Shape.Idx.first h) = x (ix1 15)) := by
  refine ⟨?_, ?_, ?_, ?_, ?_, ?_, ?_, ?_, ?_, ?_, ?_, ?_, ?_, ?_, ?_, ?_⟩ <;> exact fun h => congrArg x (by idx_ext)

variable (m : (ℓ : Loc nD τ sig) → Buf (Elt Ideal) ℓ)

/-- What the body leaves in the output's block. -/
theorem after_block (c : Dev nD) (t : Fin cfg0.N) (r : Fin 128) (h : Fin 16) (j : Fin 64) :
    (dats m 0 c).after 6 t (ix2 r ⟨h.val * 64 + j.val, by omega⟩)
      = blockHead (grid0.coords t) (X0_1 m c t) (iblk m c 2 t) (iblk m c 3 t) (iblk m c 4 t) (iblk m c 5 t) (fun h => iblk m c 0 t (ix1 h)) h (ix2 r j) := by
  rw [after0_6]; unfold outsAt0; frame_out
  obtain ⟨e0, e1, e2, e3, e4, e5, e6, e7, e8, e9, e10, e11, e12, e13, e14, e15⟩ := sink_word (iblk m c 0 t)
  rw [e0, e1, e2, e3, e4, e5, e6, e7, e8, e9, e10, e11, e12, e13, e14, e15]
  generalize X0_1 m c t = v0
  generalize iblk m c 2 t = v1
  generalize iblk m c 3 t = v2
  generalize iblk m c 4 t = v4
  generalize iblk m c 5 t = v5
  generalize iblk m c 0 t = x
  refine Eq.trans ?_ (side_apply _ r h j)
  exact congrFun (store_eq (grid0.coords t) v0 v1 v2 v4 v5 (fun h => x (ix1 h))) _

end Cert.KernelAttnIdeal.Heads

end
-- ==== Proof.AttnRef.lean ====
module

public import proofs.«01_k».proof.Defs
public import proofs.«01_k».proof.Proof.Gen.ReferenceAttnIdeal.Run
public import Idealize.ShloMosaic.Lib.Pipeline.ValueKit
public import Idealize.ShloMosaic.Lib.Pointwise
public import Idealize.ShloMosaic.Lib.Claim
public import Mathlib.Data.BitVec
public import Mathlib.Tactic.Ring
public import proofs.«01_k».proof.Proof.Attend

@[expose] public section

set_option maxRecDepth 16384

noncomputable section

open Idealize.ShloMosaic Idealize.ShloMosaic.TcCoe Idealize.SL.Sem
open Idealize.ShloMosaic.Pipeline (Dat)

namespace Cert.ReferenceAttnIdeal.Plain
open Cert.ReferenceAttnIdeal Cert.ReferenceAttnIdeal.Gen

/-- The projections, a sequence at a time. -/
def proj (A0 : FVec Ideal S8192x1536 .bf16) : FVec Ideal S4x2048x1536 .f32 :=
  shapeCast _ (extf .f32 A0 bitsLt_bf16_f32) shapeCasts_S8192x1536_S4x2048x1536

/-- The queries by block, key head and head of the group. -/
def queries (A0 : FVec Ideal S8192x1536 .bf16) : FVec Ideal S4x16x128x4x4x64 .f32 :=
  shapeCast _ (extractStridedSlice S4x2048x1024 ![0, 0, 0] (proj A0) slices_S4x2048x1536_S4x2048x1024_0_0_0)
    shapeCasts_S4x2048x1024_S4x16x128x4x4x64

/-- The keys by head. -/
def keys (A0 : FVec Ideal S8192x1536 .bf16) : FVec Ideal S4x2048x4x64 .f32 :=
  shapeCast _ (extractStridedSlice S4x2048x256 ![0, 0, 1024] (proj A0) slices_S4x2048x1536_S4x2048x256_0_0_1024)
    shapeCasts_S4x2048x256_S4x2048x4x64

/-- The values by head. -/
def vals (A0 : FVec Ideal S8192x1536 .bf16) : FVec Ideal S4x2048x4x64 .f32 :=
  shapeCast _ (extractStridedSlice S4x2048x256 ![0, 0, 1280] (proj A0) slices_S4x2048x1536_S4x2048x256_0_0_1280)
    shapeCasts_S4x2048x256_S4x2048x4x64

/-- The block before each block, zeros before the first. -/
def before (y : FVec Ideal S4x2048x4x64 .f32) : FVec Ideal S4x16x128x4x64 .f32 :=
  shapeCast _ (extractStridedSlice S4x2048x4x64 ![0, 0, 0, 0]
    (pad S4x2176x4x64 ![0, 128, 0, 0] ![0, 0, 0, 0] ![0, 0, 0, 0] y (sitofp .f32 (constantI S_ 32 0#32))
      pads_S4x2048x4x64_S4x2176x4x64_000_12800_000_000 h_S_)
    slices_S4x2176x4x64_S4x2048x4x64_0_0_0_0) shapeCasts_S4x2048x4x64_S4x16x128x4x64

/-- Each block with the one before it. -/
def banded (y : FVec Ideal S4x2048x4x64 .f32) : FVec Ideal S4x16x256x4x64 .f32 :=
  concatenate S4x16x256x4x64 2 [⟨S4x16x128x4x64, before y⟩,
    ⟨S4x16x128x4x64, shapeCast _ y shapeCasts_S4x2048x4x64_S4x16x128x4x64⟩]
    concatenates_S4x16x128x4x64_S4x16x128x4x64_S4x16x256x4x64_d2

/-- The scaled products of queries and keys. -/
def scaled (A0 : FVec Ideal S8192x1536 .bf16) : FVec Ideal S4x16x4x4x128x256 .f32 :=
  mulf (transpose S4x16x4x4x128x256 [0, 1, 2, 5, 4, 3]
    (Host.dotGeneral dot_S4x16x256x4x64_S4x16x128x4x4x64_S4x16x4x256x128x4_4_5_2_24_013_013 none (banded (keys A0)) (queries A0))
    transposes_S4x16x4x256x128x4_S4x16x4x4x128x256_0_1_2_5_4_3)
    (broadcastInDim S4x16x4x4x128x256 ![] bcast_S_S4x16x4x4x128x256 (constant S_ .f32 0x3E000000#32))

/-- The queries' positions in the sequence. -/
def qpos : IVec S16x128x1 32 :=
  addi (broadcastInDim S16x128x1 ![0, 1, 2] bcast_S16x1x1_S16x128x1_0_1_2
    (muli (broadcastInDim S16x1x1 ![0] bcast_S16_S16x1x1_0 (iotaInDim S16 32 0))
      (broadcastInDim S16x1x1 ![] bcast_S_S16x1x1 (constantI S_ 32 128#32))))
    (broadcastInDim S16x128x1 ![0, 1, 2] bcast_S1x128x1_S16x128x1_0_1_2
      (broadcastInDim S1x128x1 ![1] bcast_S128_S1x128x1_1 (iotaInDim S128 32 0)))

/-- The keys' positions in the sequence. -/
def kpos : IVec S16x1x256 32 :=
  addi (broadcastInDim S16x1x256 ![0, 1, 2] bcast_S16x1x1_S16x1x256_0_1_2
    (muli (subi (broadcastInDim S16x1x1 ![0] bcast_S16_S16x1x1_0 (iotaInDim S16 32 0))
      (broadcastInDim S16x1x1 ![] bcast_S_S16x1x1 (constantI S_ 32 1#32)))
      (broadcastInDim S16x1x1 ![] bcast_S_S16x1x1 (constantI S_ 32 128#32))))
    (broadcastInDim S16x1x256 ![0, 1, 2] bcast_S1x1x256_S16x1x256_0_1_2
      (broadcastInDim S1x1x256 ![2] bcast_S256_S1x1x256_2 (iotaInDim S256 32 0)))

/-- The distance from key to query. -/
def dist : IVec S16x128x256 32 :=
  subi (broadcastInDim S16x128x256 ![0, 1, 2] bcast_S16x128x1_S16x128x256_0_1_2 qpos)
    (broadcastInDim S16x128x256 ![0, 1, 2] bcast_S16x1x256_S16x128x256_0_1_2 kpos)

/-- Which keys a query may see. -/
def valid : IVec S16x128x256 1 :=
  andi (andi (cmpi .sge dist (broadcastInDim S16x128x256 ![] bcast_S_S16x128x256 (constantI S_ 32 0#32)))
    (cmpi .slt dist (broadcastInDim S16x128x256 ![] bcast_S_S16x128x256 (constantI S_ 32 128#32))))
    (broadcastInDim S16x128x256 ![0, 1, 2] bcast_S16x1x256_S16x128x256_0_1_2
      (cmpi .sge kpos (broadcastInDim S16x1x256 ![] bcast_S_S16x1x256 (constantI S_ 32 0#32))))

/-- The scores: what a query may not see is minus infinity. -/
def scores (A0 : FVec Ideal S8192x1536 .bf16) : FVec Ideal S4x16x4x4x128x256 .f32 :=
  select (broadcastInDim S4x16x4x4x128x256 ![0, 1, 2, 3, 4, 5] bcast_S1x16x1x1x128x256_S4x16x4x4x128x256_0_1_2_3_4_5
    (broadcastInDim S1x16x1x1x128x256 ![1, 4, 5] bcast_S16x128x256_S1x16x1x1x128x256_1_4_5 valid))
    (scaled A0) (broadcastInDim S4x16x4x4x128x256 ![] bcast_S_S4x16x4x4x128x256 (constant S_ .f32 0xFF800000#32))

/-- The heads' sinks. -/
def sinks (A1 : FVec Ideal S16 .f32) : FVec Ideal S4x16x4x4x128x1 .f32 :=
  broadcastInDim S4x16x4x4x128x1 ![0, 1, 2, 3, 4, 5] bcast_S1x1x4x4x1x1_S4x16x4x4x128x1_0_1_2_3_4_5
    (shapeCast _ A1 shapeCasts_S16_S1x1x4x4x1x1)

/-- The largest score of a query, the sink among them. -/
def peak (x : FVec Ideal S4x16x4x4x128x256 .f32) (A1 : FVec Ideal S16 .f32) : FVec Ideal S4x16x4x4x128x1 .f32 :=
  maximumf (broadcastInDim S4x16x4x4x128x1 ![0, 1, 2, 3, 4] bcast_S4x16x4x4x128_S4x16x4x4x128x1_0_1_2_3_4
    (Host.reduce FloatOps.maximumf x (constant S_ .f32 0xFF800000#32) reducesTo_S4x16x4x4x128x256_S4x16x4x4x128_d5 h_S_))
    (sinks A1)

/-- The exponentials of the scores below the peak. -/
def expo (x : FVec Ideal S4x16x4x4x128x256 .f32) (A1 : FVec Ideal S16 .f32) : FVec Ideal S4x16x4x4x128x256 .f32 :=
  Host.exp (subf x (broadcastInDim S4x16x4x4x128x256 ![0, 1, 2, 3, 4, 5]
    bcast_S4x16x4x4x128x1_S4x16x4x4x128x256_0_1_2_3_4_5 (peak x A1)))

/-- The exponentials' sum, the sink's among them. -/
def total (x : FVec Ideal S4x16x4x4x128x256 .f32) (A1 : FVec Ideal S16 .f32) : FVec Ideal S4x16x4x4x128x1 .f32 :=
  addf (broadcastInDim S4x16x4x4x128x1 ![0, 1, 2, 3, 4] bcast_S4x16x4x4x128_S4x16x4x4x128x1_0_1_2_3_4
    (Host.reduceAdd (expo x A1) (constant S_ .f32 0x00000000#32) reducesTo_S4x16x4x4x128x256_S4x16x4x4x128_d5 h_S_))
    (Host.exp (subf (sinks A1) (peak x A1)))

/-- The weights of the softmax. -/
def probs (x : FVec Ideal S4x16x4x4x128x256 .f32) (A1 : FVec Ideal S16 .f32) : FVec Ideal S4x16x4x4x128x256 .f32 :=
  Host.divf (expo x A1) (broadcastInDim S4x16x4x4x128x256 ![0, 1, 2, 3, 4, 5]
    bcast_S4x16x4x4x128x1_S4x16x4x4x128x256_0_1_2_3_4_5 (total x A1))

/-- The values under the weights. -/
def mixed (A0 : FVec Ideal S8192x1536 .bf16) (A1 : FVec Ideal S16 .f32) : FVec Ideal S4x16x128x4x4x64 .f32 :=
  transpose S4x16x128x4x4x64 [0, 1, 5, 2, 4, 3]
    (Host.dotGeneral dot_S4x16x256x4x64_S4x16x4x4x128x256_S4x16x4x64x4x128_2_5_4_34_013_012 none (banded (vals A0)) (probs (scores A0) A1))
    transposes_S4x16x4x64x4x128_S4x16x128x4x4x64_0_1_5_2_4_3

/-- Windowed attention with sinks, of the projections. -/
def attention (A0 : FVec Ideal S8192x1536 .bf16) (A1 : FVec Ideal S16 .f32) : FVec Ideal S8192x1024 .bf16 :=
  truncf .bf16 (shapeCast S8192x1024 (shapeCast S4x2048x1024 (mixed A0 A1) shapeCasts_S4x16x128x4x4x64_S4x2048x1024)
    shapeCasts_S4x2048x1024_S8192x1024) bitsLt_bf16_f32

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v75)
        = attention (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceAttnIdeal.Value.run m ρ

/-- The row of a sequence's position among all rows. -/
abbrev rowOf (b : Fin 4) (n : Fin 16) (r : Fin 128) : Fin 8192 := ⟨b.val * 2048 + n.val * 128 + r.val, by omega⟩

theorem queries_apply (A0 : FVec Ideal S8192x1536 .bf16) (b : Fin 4) (n : Fin 16) (r : Fin 128) (h g : Fin 4) (j : Fin 64) :
    queries A0 (ix6 b n r h g j) = A0 (ix2 (rowOf b n r) ⟨h.val * 256 + g.val * 64 + j.val, by omega⟩) := by
  pointwise [queries, proj]
  exact congrArg A0 (by idx_ext)

theorem keys_apply (A0 : FVec Ideal S8192x1536 .bf16) (b : Fin 4) (p : Fin 2048) (h : Fin 4) (j : Fin 64) :
    keys A0 (ix4 b p h j) = A0 (ix2 ⟨b.val * 2048 + p.val, by omega⟩ ⟨1024 + h.val * 64 + j.val, by omega⟩) := by
  pointwise [keys, proj]
  exact congrArg A0 (by idx_ext)

theorem vals_apply (A0 : FVec Ideal S8192x1536 .bf16) (b : Fin 4) (p : Fin 2048) (h : Fin 4) (j : Fin 64) :
    vals A0 (ix4 b p h j) = A0 (ix2 ⟨b.val * 2048 + p.val, by omega⟩ ⟨1280 + h.val * 64 + j.val, by omega⟩) := by
  pointwise [vals, proj]
  exact congrArg A0 (by idx_ext)

theorem before_apply (y : FVec Ideal S4x2048x4x64 .f32) (b : Fin 4) (n : Fin 16) (r : Fin 128) (h : Fin 4) (j : Fin 64) :
    before y (ix5 b n r h j) = if hn : n.val = 0 then (0 : EReal)
      else y (ix4 b ⟨n.val * 128 + r.val - 128, by omega⟩ h j) := by
  pointwise [before]
  by_cases hn : n.val = 0
  · rw [dif_neg (by omega), dif_pos hn]
    show (((0#32 : BitVec 32).toInt : ℝ) : EReal) = 0
    simp
  · rw [dif_pos (by omega), dif_neg hn]

theorem banded_low (y : FVec Ideal S4x2048x4x64 .f32) (b : Fin 4) (n : Fin 16) (k : Fin 128) (h : Fin 4) (j : Fin 64) :
    banded y (ix5 b n ⟨k.val, by omega⟩ h j) = before y (ix5 b n k h j) := by
  pointwise [banded]

theorem banded_high (y : FVec Ideal S4x2048x4x64 .f32) (b : Fin 4) (n : Fin 16) (k : Fin 128) (h : Fin 4) (j : Fin 64) :
    banded y (ix5 b n ⟨128 + k.val, by omega⟩ h j) = y (ix4 b ⟨n.val * 128 + k.val, by omega⟩ h j) := by
  pointwise [banded]

/-- Whether a query of block `n` at `r` sees the key at `k` of its band, in the kernel's words. -/
def sees (n : Fin 16) (r : Fin 128) (k : Fin 256) : BitVec 1 :=
  IntOp.andi
    (IntOp.andi
      (IntOp.cmpi .sge (IntOp.subi (IntOp.addi 128#32 (BitVec.ofNat 32 r.val)) (BitVec.ofNat 32 k.val)) 0#32)
      (IntOp.cmpi .slt (IntOp.subi (IntOp.addi 128#32 (BitVec.ofNat 32 r.val)) (BitVec.ofNat 32 k.val)) 128#32))
    (IntOp.ori (IntOp.cmpi .sge (BitVec.ofNat 32 k.val) 128#32) (IntOp.cmpi .sgt (BitVec.ofNat 32 n.val) 0#32))

theorem kpos_word : ∀ (n : Fin 16) (k : Fin 256),
    IntOp.cmpi CmpIPredicate.sge
        (IntOp.addi (IntOp.muli (IntOp.subi (BitVec.ofNat 32 n.val) 1#32) 128#32) (BitVec.ofNat 32 k.val)) 0#32
      = IntOp.ori (IntOp.cmpi .sge (BitVec.ofNat 32 k.val) 128#32) (IntOp.cmpi .sgt (BitVec.ofNat 32 n.val) 0#32) := by
  decide +kernel

theorem dist_word (n r k : BitVec 32) :
    IntOp.subi (IntOp.addi (IntOp.muli n 128#32) r) (IntOp.addi (IntOp.muli (IntOp.subi n 1#32) 128#32) k)
      = IntOp.subi (IntOp.addi 128#32 r) k := by
  show n * 128#32 + r - ((n - (1 : BitVec 32)) * 128#32 + k) = 128#32 + r - k
  ring

theorem valid_apply (n : Fin 16) (r : Fin 128) (k : Fin 256) : valid (ix3 n r k) = sees n r k := by
  pointwise [valid, dist, qpos, kpos]
  rw [kpos_word, dist_word]
  rfl

theorem scaled_apply (A0 : FVec Ideal S8192x1536 .bf16) (b : Fin 4) (n : Fin 16) (h g : Fin 4) (r : Fin 128) (k : Fin 256) :
    scaled A0 (ix6 b n h g r k) = (∑ x, banded (keys A0) (ix5 b n k h x) * queries A0 (ix6 b n r h g x))
      * Ideal.ofBits FTy.f32 0x3E000000#32 := by
  pointwise [scaled]

theorem scores_apply (A0 : FVec Ideal S8192x1536 .bf16) (b : Fin 4) (n : Fin 16) (h g : Fin 4) (r : Fin 128) (k : Fin 256) :
    scores A0 (ix6 b n h g r k) = Scalar.select (sees n r k) ((∑ x, banded (keys A0) (ix5 b n k h x) * queries A0 (ix6 b n r h g x))
      * Ideal.ofBits FTy.f32 0x3E000000#32) (⊥ : EReal) := by
  rw [← scaled_apply, ← valid_apply]
  pointwise [scores]
  rw [show Ideal.ofBits FTy.f32 4286578688#32 = (⊥ : EReal) from by simp [Ideal.ofBits, Ideal.ieee]]

theorem drop_iff (b : Fin 4) (n : Fin 16) (h g : Fin 4) (r : Fin 128) (i : S4x16x4x4x128x256.Idx) :
    reducesTo_S4x16x4x4x128x256_S4x16x4x4x128_d5.drop i = ix5 b n h g r ↔ ∃ k : Fin 256, ix6 b n h g r k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

theorem rowSum_apply (x : FVec Ideal S4x16x4x4x128x256 .f32) (b : Fin 4) (n : Fin 16) (h g : Fin 4) (r : Fin 128) :
    Host.reduceAdd x (constant S_ .f32 0x00000000#32) reducesTo_S4x16x4x4x128x256_S4x16x4x4x128_d5 h_S_ (ix5 b n h g r)
      = ∑ k : Fin 256, x (ix6 b n h g r k) := by
  rw [Host.reduceAdd_apply]
  show Ideal.ofBits FTy.f32 0#32 + ∑ i ∈ Finset.univ.filter (fun i => reducesTo_S4x16x4x4x128x256_S4x16x4x4x128_d5.drop i = ix5 b n h g r), x i = _
  rw [show Ideal.ofBits FTy.f32 0#32 = (0 : EReal) from by simp [Ideal.ofBits, Ideal.ieee], zero_add]
  exact Finset.sum_filter_eq_sum_of_fiber _ (fun k : Fin 256 => ix6 b n h g r k) (fun _ _ e => congrFun e 5) (drop_iff b n h g r) x

theorem rowMax_apply (x : FVec Ideal S4x16x4x4x128x256 .f32) (b : Fin 4) (n : Fin 16) (h g : Fin 4) (r : Fin 128) :
    Host.reduce FloatOps.maximumf x (constant S_ .f32 0xFF800000#32) reducesTo_S4x16x4x4x128x256_S4x16x4x4x128_d5 h_S_ (ix5 b n h g r)
      = (Finset.univ : Finset (Fin 256)).fold max (⊥ : EReal) (fun k => x (ix6 b n h g r k)) := by
  pointwise
  rw [show Ideal.ofBits FTy.f32 4286578688#32 = (⊥ : EReal) from by simp [Ideal.ofBits, Ideal.ieee]]
  exact Finset.fold_filter_eq_fold_of_fiber max _ (fun k : Fin 256 => ix6 b n h g r k) (fun _ _ e => congrFun e 5) (drop_iff b n h g r) _ x

theorem sinks_apply (A1 : FVec Ideal S16 .f32) (b : Fin 4) (n : Fin 16) (h g : Fin 4) (r : Fin 128) (z : Fin 1) :
    sinks A1 (ix6 b n h g r z) = A1 (ix1 ⟨h.val * 4 + g.val, by omega⟩) := by
  pointwise [sinks]

theorem peak_read (y : FVec Ideal S4x16x4x4x128 .f32) (w : FVec Ideal S4x16x4x4x128x1 .f32) (b : Fin 4) (n : Fin 16) (h g : Fin 4) (r : Fin 128) :
    maximumf (broadcastInDim S4x16x4x4x128x1 ![0, 1, 2, 3, 4] bcast_S4x16x4x4x128_S4x16x4x4x128x1_0_1_2_3_4 y) w (ix6 b n h g r 0)
      = max (y (ix5 b n h g r)) (w (ix6 b n h g r 0)) := by
  pointwise

theorem peak_apply (x : FVec Ideal S4x16x4x4x128x256 .f32) (A1 : FVec Ideal S16 .f32) (b : Fin 4) (n : Fin 16) (h g : Fin 4) (r : Fin 128) :
    peak x A1 (ix6 b n h g r 0) = Cert.Attend.peak (fun k => x (ix6 b n h g r k)) (A1 (ix1 ⟨h.val * 4 + g.val, by omega⟩)) :=
  (peak_read _ _ b n h g r).trans (congrArg₂ max (rowMax_apply x b n h g r) (sinks_apply A1 b n h g r 0))

theorem expo_read (x : FVec Ideal S4x16x4x4x128x256 .f32) (y : FVec Ideal S4x16x4x4x128x1 .f32) (b : Fin 4) (n : Fin 16) (h g : Fin 4) (r : Fin 128) (k : Fin 256) :
    Host.exp (subf x (broadcastInDim S4x16x4x4x128x256 ![0, 1, 2, 3, 4, 5] bcast_S4x16x4x4x128x1_S4x16x4x4x128x256_0_1_2_3_4_5 y)) (ix6 b n h g r k)
      = Ideal.exp (x (ix6 b n h g r k) - y (ix6 b n h g r 0)) := by
  pointwise

theorem expo_apply (x : FVec Ideal S4x16x4x4x128x256 .f32) (A1 : FVec Ideal S16 .f32) (b : Fin 4) (n : Fin 16) (h g : Fin 4) (r : Fin 128) (k : Fin 256) :
    expo x A1 (ix6 b n h g r k) = Ideal.exp (x (ix6 b n h g r k)
      - Cert.Attend.peak (fun k => x (ix6 b n h g r k)) (A1 (ix1 ⟨h.val * 4 + g.val, by omega⟩))) :=
  (expo_read x _ b n h g r k).trans (congrArg (fun z => Ideal.exp (x (ix6 b n h g r k) - z)) (peak_apply x A1 b n h g r))

theorem total_read (y : FVec Ideal S4x16x4x4x128 .f32) (w v : FVec Ideal S4x16x4x4x128x1 .f32) (b : Fin 4) (n : Fin 16) (h g : Fin 4) (r : Fin 128) :
    addf (broadcastInDim S4x16x4x4x128x1 ![0, 1, 2, 3, 4] bcast_S4x16x4x4x128_S4x16x4x4x128x1_0_1_2_3_4 y) (Host.exp (subf w v)) (ix6 b n h g r 0)
      = y (ix5 b n h g r) + Ideal.exp (w (ix6 b n h g r 0) - v (ix6 b n h g r 0)) := by
  pointwise

theorem total_apply (x : FVec Ideal S4x16x4x4x128x256 .f32) (A1 : FVec Ideal S16 .f32) (b : Fin 4) (n : Fin 16) (h g : Fin 4) (r : Fin 128) :
    total x A1 (ix6 b n h g r 0) = Cert.Attend.total (fun k => x (ix6 b n h g r k)) (A1 (ix1 ⟨h.val * 4 + g.val, by omega⟩)) := by
  refine (total_read _ _ _ b n h g r).trans ?_
  refine congrArg₂ (· + ·) ((rowSum_apply _ b n h g r).trans (Finset.sum_congr rfl fun k _ => expo_apply x A1 b n h g r k)) ?_
  rw [sinks_apply, peak_apply]

theorem probs_read (x : FVec Ideal S4x16x4x4x128x256 .f32) (y : FVec Ideal S4x16x4x4x128x1 .f32) (b : Fin 4) (n : Fin 16) (h g : Fin 4) (r : Fin 128) (k : Fin 256) :
    Host.divf x (broadcastInDim S4x16x4x4x128x256 ![0, 1, 2, 3, 4, 5] bcast_S4x16x4x4x128x1_S4x16x4x4x128x256_0_1_2_3_4_5 y) (ix6 b n h g r k)
      = Ideal.div (x (ix6 b n h g r k)) (y (ix6 b n h g r 0)) := by
  pointwise

theorem probs_apply (x : FVec Ideal S4x16x4x4x128x256 .f32) (A1 : FVec Ideal S16 .f32) (b : Fin 4) (n : Fin 16) (h g : Fin 4) (r : Fin 128) (k : Fin 256) :
    probs x A1 (ix6 b n h g r k) = Ideal.div (Ideal.exp (x (ix6 b n h g r k)
        - Cert.Attend.peak (fun k => x (ix6 b n h g r k)) (A1 (ix1 ⟨h.val * 4 + g.val, by omega⟩))))
      (Cert.Attend.total (fun k => x (ix6 b n h g r k)) (A1 (ix1 ⟨h.val * 4 + g.val, by omega⟩))) :=
  (probs_read _ _ b n h g r k).trans (congrArg₂ Ideal.div (expo_apply x A1 b n h g r k) (total_apply x A1 b n h g r))

theorem mixed_apply (A0 : FVec Ideal S8192x1536 .bf16) (A1 : FVec Ideal S16 .f32) (b : Fin 4) (n : Fin 16) (r : Fin 128) (h g : Fin 4) (j : Fin 64) :
    mixed A0 A1 (ix6 b n r h g j) = Cert.Attend.attend (fun k => scores A0 (ix6 b n h g r k))
      (fun k => banded (vals A0) (ix5 b n k h j)) (A1 (ix1 ⟨h.val * 4 + g.val, by omega⟩)) := by
  pointwise [mixed]
  unfold Cert.Attend.attend
  refine Finset.sum_congr rfl fun k _ => ?_
  rw [probs_apply, mul_comm]

theorem attention_read (y : FVec Ideal S4x16x128x4x4x64 .f32) (b : Fin 4) (n : Fin 16) (r : Fin 128) (h g : Fin 4) (j : Fin 64) :
    (truncf .bf16 (shapeCast S8192x1024 (shapeCast S4x2048x1024 y shapeCasts_S4x16x128x4x4x64_S4x2048x1024)
      shapeCasts_S4x2048x1024_S8192x1024) bitsLt_bf16_f32 : FVec Ideal S8192x1024 .bf16)
      (ix2 (rowOf b n r) ⟨h.val * 256 + g.val * 64 + j.val, by omega⟩) = y (ix6 b n r h g j) := by
  pointwise
  exact congrArg y (by idx_ext)

/-- The reference at a row and a column. -/
theorem attention_apply (A0 : FVec Ideal S8192x1536 .bf16) (A1 : FVec Ideal S16 .f32) (b : Fin 4) (n : Fin 16) (r : Fin 128) (h g : Fin 4) (j : Fin 64) :
    attention A0 A1 (ix2 (rowOf b n r) ⟨h.val * 256 + g.val * 64 + j.val, by omega⟩)
      = Cert.Attend.attend (fun k => scores A0 (ix6 b n h g r k))
          (fun k => banded (vals A0) (ix5 b n k h j)) (A1 (ix1 ⟨h.val * 4 + g.val, by omega⟩)) := by
  rw [← mixed_apply]
  exact attention_read (mixed A0 A1) b n r h g j

end Cert.ReferenceAttnIdeal.Plain

end
-- ==== Proof.Attn.lean ====
module

public import proofs.«01_k».proof.Defs
public import proofs.«01_k».proof.Proof.Gen.KernelAttnIdeal.Frame
public import proofs.«01_k».proof.Proof.Gen.ReferenceAttnIdeal.Run
public import Idealize.ShloMosaic.Lib.Pipeline.ValueKit
public import Idealize.ShloMosaic.Lib.Pointwise
public import Idealize.ShloMosaic.Lib.Claim
public import proofs.«01_k».proof.Proof.AttnHead
public import proofs.«01_k».proof.Proof.AttnRef

@[expose] public section

set_option maxRecDepth 16384

noncomputable section

open Idealize.ShloMosaic Idealize.ShloMosaic.TcCoe Idealize.SL.Sem
open Idealize.ShloMosaic.Pipeline (Dat)

namespace Cert.KernelAttnIdeal.Heads
open Cert.KernelAttnIdeal Cert.KernelAttnIdeal.Gen
open Cert.ReferenceAttnIdeal.Plain (sees rowOf)

variable (m : (ℓ : Loc nD τ sig) → Buf (Elt Ideal) ℓ)

/-- The projections and the sinks. -/
abbrev U (c : Dev nD) : FVec Ideal S8192x1536 .bf16 := m ((c : Thread nD τ).loc main_arg0)
abbrev B (c : Dev nD) : FVec Ideal S16 .f32 := m ((c : Thread nD τ).loc main_arg1)

/-- The windows' block indices over the grid's points; before a sequence's first block stands that block itself. -/
theorem idx : ∀ t : Fin cfg0.N, win0_0.index t = ![0] ∧ win0_1.index t = ![t.val, 0]
    ∧ win0_2.index t = ![t.val / 16 * 16 + (t.val % 16 - 1), 4] ∧ win0_3.index t = ![t.val, 4]
    ∧ win0_4.index t = ![t.val / 16 * 16 + (t.val % 16 - 1), 5] ∧ win0_5.index t = ![t.val, 5] ∧ win0_6.index t = ![t.val, 0] :=
  (by decide +kernel : ∀ t : Fin grid0.N, _)

theorem coord1 : ∀ t : Fin cfg0.N, ((grid0.coords t) 1).val = t.val % 16 :=
  (by decide +kernel : ∀ t : Fin grid0.N, _)

theorem sink_read (c : Dev nD) (t : Fin cfg0.N) (h : Fin 16) : iblk m c 0 t (ix1 h) = B m c (ix1 h) := by
  blk_point [iblk, idx t]

theorem q_read (c : Dev nD) (t : Fin cfg0.N) (r : Fin 128) (a : Fin 1024) :
    X0_1 m c t (ix2 r a) = U m c (ix2 ⟨t.val * 128 + r.val, by have : t.val < 64 := t.isLt; omega⟩ ⟨a.val, by omega⟩) := by
  unfold X0_1 Pipeline.Window.fill
  rw [dif_pos (moved0_1 t (ix2 r a))]
  blk_point [iblk, idx t]

theorem kprev_read (c : Dev nD) (t : Fin cfg0.N) (r : Fin 128) (a : Fin 256) :
    iblk m c 2 t (ix2 r a) = U m c (ix2 ⟨(t.val / 16 * 16 + (t.val % 16 - 1)) * 128 + r.val, by have : t.val < 64 := t.isLt; omega⟩
      ⟨1024 + a.val, by omega⟩) := by
  blk_point [iblk, idx t]

theorem kcur_read (c : Dev nD) (t : Fin cfg0.N) (r : Fin 128) (a : Fin 256) :
    iblk m c 3 t (ix2 r a) = U m c (ix2 ⟨t.val * 128 + r.val, by have : t.val < 64 := t.isLt; omega⟩ ⟨1024 + a.val, by omega⟩) := by
  blk_point [iblk, idx t]

theorem vprev_read (c : Dev nD) (t : Fin cfg0.N) (r : Fin 128) (a : Fin 256) :
    iblk m c 4 t (ix2 r a) = U m c (ix2 ⟨(t.val / 16 * 16 + (t.val % 16 - 1)) * 128 + r.val, by have : t.val < 64 := t.isLt; omega⟩
      ⟨1280 + a.val, by omega⟩) := by
  blk_point [iblk, idx t]

theorem vcur_read (c : Dev nD) (t : Fin cfg0.N) (r : Fin 128) (a : Fin 256) :
    iblk m c 5 t (ix2 r a) = U m c (ix2 ⟨t.val * 128 + r.val, by have : t.val < 64 := t.isLt; omega⟩ ⟨1280 + a.val, by omega⟩) := by
  blk_point [iblk, idx t]

theorem mask_apply (b : Fin 4) (n : Fin 16) (t : Fin cfg0.N) (ht : t.val = b.val * 16 + n.val) (r : Fin 128) (k : Fin 256) :
    k0_pay5 (grid0.coords t) (ix2 r k) = sees n r k := by
  have e : ((grid0.coords t) 1).val = n.val := by rw [coord1]; omega
  pointwise [k0_pay5]
  rw [e]
  rfl

theorem first_unseen : ∀ (r : Fin 128) (k : Fin 128), sees 0 r ⟨k.val, by omega⟩ = 0#1 := by
  decide +kernel

theorem unseen (r k : Fin 128) (a : EReal) : Scalar.select (sees 0 r ⟨k.val, by omega⟩) a (⊥ : EReal) = ⊥ := by
  rw [first_unseen]; rfl

/-- One head's row in a block is the reference's. -/
theorem head_row (c : Dev nD) (b : Fin 4) (n : Fin 16) (t : Fin cfg0.N) (ht : t.val = b.val * 16 + n.val) (r : Fin 128) (h g : Fin 4) (j : Fin 64) :
    blockHead (grid0.coords t) (X0_1 m c t) (iblk m c 2 t) (iblk m c 3 t) (iblk m c 4 t) (iblk m c 5 t) (fun h => iblk m c 0 t (ix1 h))
        ⟨h.val * 4 + g.val, by omega⟩ (ix2 r j)
      = Cert.ReferenceAttnIdeal.Plain.attention (U m c) (B m c) (ix2 (rowOf b n r) ⟨h.val * 256 + g.val * 64 + j.val, by omega⟩) := by
  rw [Cert.ReferenceAttnIdeal.Plain.attention_apply, blockHead_apply, sink_read]
  have hlt : t.val < 64 := t.isLt
  have hd : (h.val * 4 + g.val) / 4 = h.val := by omega
  simp only [mask_apply b n t ht, Cert.ReferenceAttnIdeal.Plain.scores_apply, q_read, Cert.ReferenceAttnIdeal.Plain.queries_apply]
  have hq : ∀ x : Fin 64, U m c (ix2 ⟨t.val * 128 + r.val, by omega⟩ ⟨(h.val * 4 + g.val) * 64 + x.val, by omega⟩)
      = U m c (ix2 (rowOf b n r) ⟨h.val * 256 + g.val * 64 + x.val, by omega⟩) := fun x => congrArg (U m c) (by idx_ext)
  -- the keys and values of the band's second half
  have k2 : ∀ (k : Fin 128) (x : Fin 64), k0_pay3 (iblk m c 2 t) (iblk m c 3 t) (ix2 ⟨128 + k.val, by omega⟩ ⟨(h.val * 4 + g.val) / 4 * 64 + x.val, by omega⟩)
      = Cert.ReferenceAttnIdeal.Plain.banded (Cert.ReferenceAttnIdeal.Plain.keys (U m c)) (ix5 b n ⟨128 + k.val, by omega⟩ h x) := by
    intro k x
    rw [cat_high, kcur_read, Cert.ReferenceAttnIdeal.Plain.banded_high, Cert.ReferenceAttnIdeal.Plain.keys_apply]
    exact congrArg (U m c) (by idx_ext)
  have v2 : ∀ k : Fin 128, k0_pay4 (iblk m c 4 t) (iblk m c 5 t) (ix2 ⟨128 + k.val, by omega⟩ ⟨(h.val * 4 + g.val) / 4 * 64 + j.val, by omega⟩)
      = Cert.ReferenceAttnIdeal.Plain.banded (Cert.ReferenceAttnIdeal.Plain.vals (U m c)) (ix5 b n ⟨128 + k.val, by omega⟩ h j) := by
    intro k
    refine (cat_high (iblk m c 4 t) (iblk m c 5 t) k _).trans ?_
    rw [vcur_read, Cert.ReferenceAttnIdeal.Plain.banded_high, Cert.ReferenceAttnIdeal.Plain.vals_apply]
    exact congrArg (U m c) (by idx_ext)
  -- every key is in the first half of the band or in the second
  have half : ∀ {P : Fin 256 → Prop}, (∀ k : Fin 128, P ⟨k.val, by omega⟩) → (∀ k : Fin 128, P ⟨128 + k.val, by omega⟩) → ∀ k, P k := by
    intro P p q k
    by_cases hk : k.val < 128
    · exact p ⟨k.val, hk⟩
    · have e : k = ⟨128 + (k.val - 128), by omega⟩ := Fin.ext (by show k.val = 128 + (k.val - 128); omega)
      rw [e]; exact q ⟨k.val - 128, by omega⟩
  by_cases hn : n.val = 0
  · obtain rfl : n = 0 := Fin.ext hn
    refine (congrArg (fun s => Cert.Attend.attend s _ _) (funext (half ?_ ?_))).trans (Cert.Attend.attend_pad _ _ _ _ ?_ ?_ ?_ ?_)
    · intro k
      exact (unseen r k _).trans (unseen r k _).symm
    · intro k
      exact congrArg (fun z => Scalar.select _ (z * Ideal.ofBits FTy.f32 0x3E000000#32) (⊥ : EReal))
        (Finset.sum_congr rfl fun x _ => by rw [k2 k x, mul_comm, hq x])
    · intro k hk
      exact unseen r ⟨k.val, hk⟩ _
    · intro k
      refine (cat_low (iblk m c 4 t) (iblk m c 5 t) k _).trans (Eq.trans ?_ (cat_high (iblk m c 4 t) (iblk m c 5 t) k _).symm)
      rw [vprev_read, vcur_read]
      exact congrArg (U m c) (by idx_ext)
    · intro k; exact (v2 k).symm
    · intro k; rw [Cert.ReferenceAttnIdeal.Plain.banded_low, Cert.ReferenceAttnIdeal.Plain.before_apply, dif_pos hn]
  · have k1 : ∀ (k : Fin 128) (x : Fin 64), k0_pay3 (iblk m c 2 t) (iblk m c 3 t) (ix2 ⟨k.val, by omega⟩ ⟨(h.val * 4 + g.val) / 4 * 64 + x.val, by omega⟩)
        = Cert.ReferenceAttnIdeal.Plain.banded (Cert.ReferenceAttnIdeal.Plain.keys (U m c)) (ix5 b n ⟨k.val, by omega⟩ h x) := by
      intro k x
      rw [cat_low, kprev_read, Cert.ReferenceAttnIdeal.Plain.banded_low, Cert.ReferenceAttnIdeal.Plain.before_apply, dif_neg hn,
        Cert.ReferenceAttnIdeal.Plain.keys_apply]
      exact congrArg (U m c) (by idx_ext)
    have v1 : ∀ k : Fin 128, k0_pay4 (iblk m c 4 t) (iblk m c 5 t) (ix2 ⟨k.val, by omega⟩ ⟨(h.val * 4 + g.val) / 4 * 64 + j.val, by omega⟩)
        = Cert.ReferenceAttnIdeal.Plain.banded (Cert.ReferenceAttnIdeal.Plain.vals (U m c)) (ix5 b n ⟨k.val, by omega⟩ h j) := by
      intro k
      refine (cat_low (iblk m c 4 t) (iblk m c 5 t) k _).trans ?_
      rw [vprev_read, Cert.ReferenceAttnIdeal.Plain.banded_low, Cert.ReferenceAttnIdeal.Plain.before_apply, dif_neg hn,
        Cert.ReferenceAttnIdeal.Plain.vals_apply]
      exact congrArg (U m c) (by idx_ext)
    refine congrArg₂ (fun s v => Cert.Attend.attend s v _) (funext (half ?_ ?_)) (funext (half v1 v2))
    · intro k
      exact congrArg (fun z => Scalar.select _ (z * Ideal.ofBits FTy.f32 0x3E000000#32) (⊥ : EReal))
        (Finset.sum_congr rfl fun x _ => by rw [k1 k x, mul_comm, hq x])
    · intro k
      exact congrArg (fun z => Scalar.select _ (z * Ideal.ofBits FTy.f32 0x3E000000#32) (⊥ : EReal))
        (Finset.sum_congr rfl fun x _ => by rw [k2 k x, mul_comm, hq x])

/-- The whole output array is the reference's. -/
theorem final (c : Dev nD) : (dats m 0 c).arrAt 6 (cfgs 0).N = Cert.ReferenceAttnIdeal.Plain.attention (U m c) (B m c) := by
  refine (dats m 0 c).arrAt_eq_of_covers 6 _ (by decide +kernel) fun t hf y => ?_
  blk_simp
  have hlt : t.val < 64 := t.isLt
  have h0 : (y 0).val < 128 := (y 0).isLt
  have h1 : (y 1).val < 1024 := (y 1).isLt
  have ey : y = ix2 ⟨(y 0).val, h0⟩ ⟨(⟨(y 1).val / 256 * 4 + (y 1).val % 256 / 64, by omega⟩ : Fin 16).val * 64 + (y 1).val % 64, by show _ < 1024; omega⟩ := by
    funext a
    match a with
    | ⟨0, _⟩ => rfl
    | ⟨1, _⟩ => exact Fin.ext (by show (y 1).val = ((y 1).val / 256 * 4 + (y 1).val % 256 / 64) * 64 + (y 1).val % 64; omega)
  refine (congrArg ((dats m 0 c).after 6 t) ey).trans ((after_block m c t ⟨(y 0).val, h0⟩ ⟨(y 1).val / 256 * 4 + (y 1).val % 256 / 64, by omega⟩ ⟨(y 1).val % 64, by omega⟩).trans
    ((head_row m c ⟨t.val / 16, by omega⟩ ⟨t.val % 16, by omega⟩ t (by show t.val = t.val / 16 * 16 + t.val % 16; omega)
      ⟨(y 0).val, h0⟩ ⟨(y 1).val / 256, by omega⟩ ⟨(y 1).val % 256 / 64, by omega⟩ ⟨(y 1).val % 64, by omega⟩).trans ?_))
  generalize Cert.ReferenceAttnIdeal.Plain.attention (U m c) (B m c) = z
  blk_point [idx t]

end Cert.KernelAttnIdeal.Heads

namespace Cert.Proof

theorem algebraic_Attn : Cert.algebraic_KernelAttnIdeal_ReferenceAttnIdeal (hKernelAttnIdeal := Cert.KernelAttnIdeal.Gen.facts)
    (hReferenceAttnIdeal := Cert.ReferenceAttnIdeal.Gen.facts) := by
  pair_intro
  · run_from Cert.KernelAttnIdeal.Gen.run_main m g
  · run_from Cert.ReferenceAttnIdeal.Plain.run m' g'
    exact (Cert.KernelAttnIdeal.Heads.final m c).symm

end Cert.Proof
end
-- ==== Proof.ConvRef.lean ====
module

public import proofs.«01_k».proof.Defs
public import proofs.«01_k».proof.Proof.Gen.ReferenceConvIdeal.Run
public import Idealize.ShloMosaic.Lib.Pointwise

@[expose] public section

set_option maxRecDepth 16384

noncomputable section

open Idealize.ShloMosaic Idealize.ShloMosaic.TcCoe Idealize.SL.Sem

namespace Cert.ConvMath

/-- The logistic function. -/
def sigm (z : EReal) : EReal := Ideal.div 1 (1 + Ideal.exp (-z))

/-- The mean of a row. -/
def mean (y : Fin 1024 → EReal) : EReal := Ideal.div (∑ k, y k) (Ideal.ofBits FTy.f32 0x44800000#32)

/-- A row less its mean. -/
def centred (y : Fin 1024 → EReal) (ch : Fin 1024) : EReal := y ch - mean y

/-- Layer normalisation of a row, with its weight and bias. -/
def layerNorm (y g b : Fin 1024 → EReal) (ch : Fin 1024) : EReal :=
  centred y ch * Ideal.rsqrt (mean (fun k => centred y k * centred y k) + Ideal.ofBits FTy.f32 0x3727C5AC#32) * g ch + b ch

/-- The normalised row through its smooth gate. -/
def swish (z : EReal) : EReal := z * sigm z

/-- Thirty-one summands, one after another. -/
theorem sum_taps (f : Fin 31 → EReal) : ∑ j, f j = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [Fin.sum_univ_castSucc, Fin.sum_univ_zero, zero_add]
  rfl

end Cert.ConvMath

namespace Cert.ReferenceConvIdeal.Plain
open Cert.ReferenceConvIdeal Cert.ReferenceConvIdeal.Gen Cert.ConvMath

/-- The projected values, by sequence. -/
def seqs (A0 : FVec Ideal S8192x5120 .bf16) : FVec Ideal S4x2048x5120 .f32 :=
  shapeCast _ (extf .f32 A0 bitsLt_bf16_f32) shapeCasts_S8192x5120_S4x2048x5120

/-- The gated linear unit of the first two channel groups, with thirty empty positions before a sequence. -/
def glued (A0 : FVec Ideal S8192x5120 .bf16) : FVec Ideal S4x2078x1024 .f32 :=
  pad S4x2078x1024 ![0, 30, 0] ![0, 0, 0] ![0, 0, 0] (mulf (extractStridedSlice S4x2048x1024 ![0, 0, 0] (seqs A0) slices_S4x2048x5120_S4x2048x1024_0_0_0)
    (Host.divf (broadcastInDim S4x2048x1024 ![] bcast_S_S4x2048x1024 (constant S_ .f32 0x3F800000#32))
      (addf (broadcastInDim S4x2048x1024 ![] bcast_S_S4x2048x1024 (constant S_ .f32 0x3F800000#32))
        (Host.exp (Host.negf (extractStridedSlice S4x2048x1024 ![0, 0, 1024] (seqs A0) slices_S4x2048x5120_S4x2048x1024_0_0_1024))))))
    (sitofp .f32 (constantI S_ 32 0#32)) pads_S4x2048x1024_S4x2078x1024_000_3000_000 h_S_

theorem tap_slice (j : Fin 31) : S4x2078x1024.Slices ![0, j.val, 0] S4x2048x1024 := by
  revert j; decide

theorem weight_slice (j : Fin 31) : S31x1024.Slices ![j.val, 0] S1x1024 := by
  revert j; decide

/-- The sequence shifted by `j`, times the weights of that tap. -/
abbrev tap (xp : FVec Ideal S4x2078x1024 .f32) (w : FVec Ideal S31x1024 .f32) (j : Fin 31) : FVec Ideal S4x2048x1024 .f32 :=
  mulf (extractStridedSlice S4x2048x1024 ![0, j.val, 0] xp (tap_slice j))
    (broadcastInDim S4x2048x1024 ![0, 1, 2] bcast_S1x1x1024_S4x2048x1024_0_1_2 (broadcastInDim S1x1x1024 ![2] bcast_S1024_S1x1x1024_2
      (shapeCast _ (extractStridedSlice S1x1024 ![j.val, 0] w (weight_slice j)) shapeCasts_S1x1024_S1024)))

/-- The depthwise convolution over thirty-one positions. -/
def conv (xp : FVec Ideal S4x2078x1024 .f32) (w : FVec Ideal S31x1024 .f32) : FVec Ideal S4x2048x1024 .f32 :=
  addf (addf (addf (addf (addf (addf (addf (addf (addf (addf (addf (addf (addf (addf (addf (addf (addf (addf (addf (addf (addf (addf (addf (addf (addf (addf (addf (addf (addf (addf (tap xp w 0) (tap xp w 1))
    (tap xp w 2))
    (tap xp w 3))
    (tap xp w 4))
    (tap xp w 5))
    (tap xp w 6))
    (tap xp w 7))
    (tap xp w 8))
    (tap xp w 9))
    (tap xp w 10))
    (tap xp w 11))
    (tap xp w 12))
    (tap xp w 13))
    (tap xp w 14))
    (tap xp w 15))
    (tap xp w 16))
    (tap xp w 17))
    (tap xp w 18))
    (tap xp w 19))
    (tap xp w 20))
    (tap xp w 21))
    (tap xp w 22))
    (tap xp w 23))
    (tap xp w 24))
    (tap xp w 25))
    (tap xp w 26))
    (tap xp w 27))
    (tap xp w 28))
    (tap xp w 29))
    (tap xp w 30)

/-- Each position's mean over the channels. -/
def means (y : FVec Ideal S4x2048x1024 .f32) : FVec Ideal S4x2048x1 .f32 :=
  Host.divf (broadcastInDim S4x2048x1 ![0, 1] bcast_S4x2048_S4x2048x1_0_1
    (Host.reduceAdd y (constant S_ .f32 0x00000000#32) reducesTo_S4x2048x1024_S4x2048_d2 h_S_))
    (broadcastInDim S4x2048x1 ![] bcast_S_S4x2048x1 (constant S_ .f32 0x44800000#32))

/-- The values less their mean. -/
def less (y : FVec Ideal S4x2048x1024 .f32) : FVec Ideal S4x2048x1024 .f32 :=
  subf y (broadcastInDim S4x2048x1024 ![0, 1, 2] bcast_S4x2048x1_S4x2048x1024_0_1_2 (means y))

/-- Layer normalisation over the channels. -/
def normed (y : FVec Ideal S4x2048x1024 .f32) (g b : FVec Ideal S1024 .f32) : FVec Ideal S4x2048x1024 .f32 :=
  addf (mulf (mulf (less y) (broadcastInDim S4x2048x1024 ![0, 1, 2] bcast_S4x2048x1_S4x2048x1024_0_1_2
      (Host.rsqrt (addf (means (mulf (less y) (less y))) (broadcastInDim S4x2048x1 ![] bcast_S_S4x2048x1 (constant S_ .f32 0x3727C5AC#32))))))
    (broadcastInDim S4x2048x1024 ![0, 1, 2] bcast_S1x1x1024_S4x2048x1024_0_1_2 (broadcastInDim S1x1x1024 ![2] bcast_S1024_S1x1x1024_2 g)))
    (broadcastInDim S4x2048x1024 ![0, 1, 2] bcast_S1x1x1024_S4x2048x1024_0_1_2 (broadcastInDim S1x1x1024 ![2] bcast_S1024_S1x1x1024_2 b))

/-- A value times its own logistic. -/
def swished (y : FVec Ideal S4x2048x1024 .f32) : FVec Ideal S8192x1024 .bf16 :=
  truncf .bf16 (shapeCast _ (mulf y (Host.divf (broadcastInDim S4x2048x1024 ![] bcast_S_S4x2048x1024 (constant S_ .f32 0x3F800000#32))
    (addf (broadcastInDim S4x2048x1024 ![] bcast_S_S4x2048x1024 (constant S_ .f32 0x3F800000#32)) (Host.exp (Host.negf y)))))
    shapeCasts_S4x2048x1024_S8192x1024) bitsLt_bf16_f32

/-- The first result: the gated values convolved, normalised and gated again. -/
def first (A0 : FVec Ideal S8192x5120 .bf16) (dw : FVec Ideal S31x1024 .f32) (g b : FVec Ideal S1024 .f32) : FVec Ideal S8192x1024 .bf16 :=
  swished (normed (conv (glued A0) dw) g b)

/-- The product of the last two channel groups, with two empty positions before a sequence. -/
def products (A0 : FVec Ideal S8192x5120 .bf16) : FVec Ideal S4x2050x1024 .f32 :=
  pad S4x2050x1024 ![0, 2, 0] ![0, 0, 0] ![0, 0, 0] (mulf (extractStridedSlice S4x2048x1024 ![0, 0, 3072] (seqs A0) slices_S4x2048x5120_S4x2048x1024_0_0_3072)
    (extractStridedSlice S4x2048x1024 ![0, 0, 4096] (seqs A0) slices_S4x2048x5120_S4x2048x1024_0_0_4096))
    (sitofp .f32 (constantI S_ 32 0#32)) pads_S4x2048x1024_S4x2050x1024_000_200_000 h_S_

theorem short_slice (j : Fin 3) : S4x2050x1024.Slices ![0, j.val, 0] S4x2048x1024 := by
  revert j; decide

theorem short_weight (j : Fin 3) : S3x1024.Slices ![j.val, 0] S1x1024 := by
  revert j; decide

/-- The products shifted by `j`, times the weights of that tap. -/
abbrev shortTap (xp : FVec Ideal S4x2050x1024 .f32) (w : FVec Ideal S3x1024 .f32) (j : Fin 3) : FVec Ideal S4x2048x1024 .f32 :=
  mulf (extractStridedSlice S4x2048x1024 ![0, j.val, 0] xp (short_slice j))
    (broadcastInDim S4x2048x1024 ![0, 1, 2] bcast_S1x1x1024_S4x2048x1024_0_1_2 (broadcastInDim S1x1x1024 ![2] bcast_S1024_S1x1x1024_2
      (shapeCast _ (extractStridedSlice S1x1024 ![j.val, 0] w (short_weight j)) shapeCasts_S1x1024_S1024)))

/-- The second result: the products convolved over three positions, times the third channel group. -/
def second (A0 : FVec Ideal S8192x5120 .bf16) (sw : FVec Ideal S3x1024 .f32) : FVec Ideal S8192x1024 .bf16 :=
  truncf .bf16 (shapeCast _ (mulf (extractStridedSlice S4x2048x1024 ![0, 0, 2048] (seqs A0) slices_S4x2048x5120_S4x2048x1024_0_0_2048)
    (addf (addf (shortTap (products A0) sw 0) (shortTap (products A0) sw 1)) (shortTap (products A0) sw 2)))
    shapeCasts_S4x2048x1024_S8192x1024) bitsLt_bf16_f32

/-- The reference's run, its two results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v280) = first (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v282) = second (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceConvIdeal.Value.run m ρ

theorem tap_apply (xp : FVec Ideal S4x2078x1024 .f32) (w : FVec Ideal S31x1024 .f32) (j : Fin 31) (b : Fin 4) (s : Fin 2048) (ch : Fin 1024) :
    tap xp w j (ix3 b s ch) = xp (ix3 b ⟨s.val + j.val, by omega⟩ ch) * w (ix2 j ch) := by
  pointwise [tap]
  exact congrArg₂ (· * ·) (congrArg xp (by idx_ext)) (congrArg w (by idx_ext))

theorem conv_apply (xp : FVec Ideal S4x2078x1024 .f32) (w : FVec Ideal S31x1024 .f32) (b : Fin 4) (s : Fin 2048) (ch : Fin 1024) :
    conv xp w (ix3 b s ch) = ∑ j : Fin 31, xp (ix3 b ⟨s.val + j.val, by omega⟩ ch) * w (ix2 j ch) := by
  rw [Finset.sum_congr rfl fun j _ => (tap_apply xp w j b s ch).symm, sum_taps]
  rfl

theorem shortTap_apply (xp : FVec Ideal S4x2050x1024 .f32) (w : FVec Ideal S3x1024 .f32) (j : Fin 3) (b : Fin 4) (s : Fin 2048) (ch : Fin 1024) :
    shortTap xp w j (ix3 b s ch) = xp (ix3 b ⟨s.val + j.val, by omega⟩ ch) * w (ix2 j ch) := by
  pointwise [shortTap]
  exact congrArg₂ (· * ·) (congrArg xp (by idx_ext)) (congrArg w (by idx_ext))

theorem means_apply (y : FVec Ideal S4x2048x1024 .f32) (b : Fin 4) (s : Fin 2048) :
    means y (ix3 b s 0) = mean (fun k => y (ix3 b s k)) := by
  pointwise [means, mean]

theorem less_apply (y : FVec Ideal S4x2048x1024 .f32) (b : Fin 4) (s : Fin 2048) (ch : Fin 1024) :
    less y (ix3 b s ch) = centred (fun k => y (ix3 b s k)) ch := by
  pointwise [less, centred]
  exact congrArg (y (ix3 b s ch) - ·) (means_apply y b s)

theorem normed_apply (y : FVec Ideal S4x2048x1024 .f32) (g b : FVec Ideal S1024 .f32) (q : Fin 4) (s : Fin 2048) (ch : Fin 1024) :
    normed y g b (ix3 q s ch) = layerNorm (fun k => y (ix3 q s k)) (fun k => g (ix1 k)) (fun k => b (ix1 k)) ch := by
  have h : means (mulf (less y) (less y)) (ix3 q s 0)
      = mean (fun k => centred (fun k => y (ix3 q s k)) k * centred (fun k => y (ix3 q s k)) k) := by
    rw [means_apply]
    exact congrArg mean (funext fun k => congrArg₂ (· * ·) (less_apply y q s k) (less_apply y q s k))
  unfold layerNorm
  rw [← h, ← less_apply]
  pointwise [normed]

theorem first_apply (A0 : FVec Ideal S8192x5120 .bf16) (dw : FVec Ideal S31x1024 .f32) (g b : FVec Ideal S1024 .f32) (q : Fin 4) (s : Fin 2048)
    (R : Fin 8192) (ch : Fin 1024) (hR : R.val = q.val * 2048 + s.val) :
    first A0 dw g b (ix2 R ch) = swish (layerNorm (fun k => ∑ j : Fin 31, glued A0 (ix3 q ⟨s.val + j.val, by omega⟩ k) * dw (ix2 j k))
      (fun k => g (ix1 k)) (fun k => b (ix1 k)) ch) := by
  have hb : q.val * 2048 + s.val < 8192 := by clear hR; omega
  obtain rfl : R = ⟨_, hb⟩ := Fin.ext hR
  rw [← congrArg (fun y => layerNorm y _ _ ch) (funext fun k => conv_apply (glued A0) dw q s k), ← normed_apply]
  unfold first
  generalize normed _ g b = z
  unfold swish sigm
  pointwise [swished]

/-- Inside a sequence the padded array is the gated linear unit of that row. -/
theorem glued_in (A0 : FVec Ideal S8192x5120 .bf16) (q : Fin 4) (p : Fin 2078) (ch : Fin 1024) (R : Fin 8192) (h : 30 ≤ p.val)
    (hR : R.val + 30 = q.val * 2048 + p.val) :
    glued A0 (ix3 q p ch) = A0 (ix2 R ⟨ch.val, by omega⟩) * sigm (A0 (ix2 R ⟨1024 + ch.val, by omega⟩)) := by
  have hb : q.val * 2048 + (p.val - 30) < 8192 := by clear hR; omega
  obtain rfl : R = ⟨_, hb⟩ := Fin.ext (by show R.val = q.val * 2048 + (p.val - 30); omega)
  unfold sigm
  pointwise [glued, seqs]
  rw [dif_pos ⟨h, by omega⟩]

/-- Before a sequence it is zero. -/
theorem glued_out (A0 : FVec Ideal S8192x5120 .bf16) (q : Fin 4) (p : Fin 2078) (ch : Fin 1024) (h : p.val < 30) :
    glued A0 (ix3 q p ch) = 0 := by
  pointwise [glued, seqs]
  rw [dif_neg (by omega)]
  show (((0#32 : BitVec 32).toInt : ℝ) : EReal) = 0
  simp

theorem products_in (A0 : FVec Ideal S8192x5120 .bf16) (q : Fin 4) (p : Fin 2050) (ch : Fin 1024) (R : Fin 8192) (h : 2 ≤ p.val)
    (hR : R.val + 2 = q.val * 2048 + p.val) :
    products A0 (ix3 q p ch) = A0 (ix2 R ⟨3072 + ch.val, by omega⟩) * A0 (ix2 R ⟨4096 + ch.val, by omega⟩) := by
  have hb : q.val * 2048 + (p.val - 2) < 8192 := by clear hR; omega
  obtain rfl : R = ⟨_, hb⟩ := Fin.ext (by show R.val = q.val * 2048 + (p.val - 2); omega)
  pointwise [products, seqs]
  rw [dif_pos ⟨h, by omega⟩]

theorem products_out (A0 : FVec Ideal S8192x5120 .bf16) (q : Fin 4) (p : Fin 2050) (ch : Fin 1024) (h : p.val < 2) :
    products A0 (ix3 q p ch) = 0 := by
  pointwise [products, seqs]
  rw [dif_neg (by omega)]
  show (((0#32 : BitVec 32).toInt : ℝ) : EReal) = 0
  simp

theorem second_apply (A0 : FVec Ideal S8192x5120 .bf16) (sw : FVec Ideal S3x1024 .f32) (q : Fin 4) (s : Fin 2048)
    (R : Fin 8192) (ch : Fin 1024) (hR : R.val = q.val * 2048 + s.val) :
    second A0 sw (ix2 R ch) = A0 (ix2 R ⟨2048 + ch.val, by omega⟩) * ∑ j : Fin 3, products A0 (ix3 q ⟨s.val + j.val, by omega⟩ ch) * sw (ix2 j ch) := by
  have hb : q.val * 2048 + s.val < 8192 := by clear hR; omega
  obtain rfl : R = ⟨_, hb⟩ := Fin.ext hR
  rw [Finset.sum_congr rfl fun j _ => (shortTap_apply (products A0) sw j q s ch).symm, Fin.sum_univ_three]
  unfold second
  generalize shortTap _ sw 0 = z0
  generalize shortTap _ sw 1 = z1
  generalize shortTap _ sw 2 = z2
  pointwise [seqs]

end Cert.ReferenceConvIdeal.Plain
end
-- ==== Proof.ConvHead.lean ====
module

public import proofs.«01_k».proof.Defs
public import proofs.«01_k».proof.Proof.Gen.KernelConvIdeal.Frame
public import proofs.«01_k».proof.Proof.ConvRef
public import Idealize.ShloMosaic.Lib.Pipeline.ValueKit
public import Idealize.ShloMosaic.Lib.Pipeline.ReadBack
public import Idealize.ShloMosaic.Lib.Pointwise
public import Idealize.ShloMosaic.Lib.Routing.OpsSet
public import Idealize.ShloMosaic.Lib.Routing.OpsOne

@[expose] public section

set_option maxRecDepth 16384

noncomputable section

open Idealize.ShloMosaic Idealize.ShloMosaic.TcCoe Idealize.SL.Sem
open Idealize.ShloMosaic.Pipeline (Dat)

namespace Cert.KernelConvIdeal.Convs
open Cert.KernelConvIdeal Cert.KernelConvIdeal.Gen Cert.ConvMath

/-- The thirty-one taps at a row of the block, over the buffer that begins with the halo. -/
def taps (A : FVec Ideal S288x1024 .f32) (w : FVec Ideal S32x1024 .f32) (y : S256x1024.Idx) : EReal :=
  ∑ j : Fin 31, w (ix2 ⟨j.val, by omega⟩ (y 1)) * A (ix2 ⟨2 + j.val + (y 0).val, by have := (y 0).isLt; simp at this; omega⟩ (y 1))

/-- The three taps, times the block's third channel group. -/
def gated (u : FVec Ideal S256x5120 .bf16) (B : FVec Ideal S288x1024 .f32) (w : FVec Ideal S8x1024 .f32) (y : S256x1024.Idx) : EReal :=
  u (ix2 (y 0) ⟨2048 + (y 1).val, by have := (y 1).isLt; simp at this; omega⟩)
    * ∑ j : Fin 3, w (ix2 ⟨j.val, by omega⟩ (y 1)) * B (ix2 ⟨30 + j.val + (y 0).val, by have := (y 0).isLt; simp at this; omega⟩ (y 1))

/-- What a trip stores, at a row of its sixteen. -/
theorem taps_pay (A : FVec Ideal S48x1024 .f32) (W : Fin 31 → FVec Ideal S1x1024 .f32) (r : Fin 16) (ch : Fin 1024) :
    k0_pay8 A (k0_pay6 A (k0_pay5 A (k0_pay3 A (k0_pay2 A (W 0) (W 1) (W 2) (W 3) (W 4) (W 5)) (W 6) (W 7) (W 8) (W 9) (W 10) (W 11) (W 12)) (k0_pay4 A (W 13)) (W 14) (W 15) (W 16) (W 17) (W 18) (W 19) (W 20)) (W 21) (W 22) (W 23) (W 24) (W 25) (W 26) (W 27)) (k0_pay7 A (W 28)) (W 29) (W 30) (ix2 r ch)
      = ∑ j : Fin 31, W j (ix2 0 ch) * A (ix2 ⟨2 + j.val + r.val, by omega⟩ ch) := by
  rw [sum_taps]
  pointwise [k0_pay2, k0_pay3, k0_pay4, k0_pay5, k0_pay6, k0_pay7, k0_pay8]

theorem gated_pay (B : FVec Ideal S48x1024 .f32) (W : Fin 3 → FVec Ideal S1x1024 .f32) (u : FVec Ideal S16x1024 .bf16) (r : Fin 16) (ch : Fin 1024) :
    k0_pay9 B (W 0) (W 1) (W 2) u (ix2 r ch)
      = u (ix2 r ch) * ∑ j : Fin 3, W j (ix2 0 ch) * B (ix2 ⟨30 + j.val + r.val, by omega⟩ ch) := by
  rw [Fin.sum_univ_three]
  pointwise [k0_pay9]

theorem lands_long (idx : IVec S1 32) (hidx : (idx (ix1 0)).toInt = 0) (a : Fin 31) (b : Fin 1024) (w : Fin 32) (e : Fin 1024) :
    scatter_S32x1024_S1_S31x1024_01_n_0_0.resultIdx? (ix2 a b) idx = some (ix2 w e) ↔ a.val = w.val ∧ b = e := by
  have hw0 : scatter_S32x1024_S1_S31x1024_01_n_0_0.window (ix2 a b) 0 = a.val := by rfl
  have hw1 : scatter_S32x1024_S1_S31x1024_01_n_0_0.window (ix2 a b) 1 = b.val := by rfl
  have hs1 : scatter_S32x1024_S1_S31x1024_01_n_0_0.start (ix2 a b) idx 1 = 0 := by rfl
  have hs0 : scatter_S32x1024_S1_S31x1024_01_n_0_0.start (ix2 a b) idx 0 = 0 := by
    refine Eq.trans ?_ hidx
    refine congrArg (fun z => (idx z).toInt) ?_
    funext z
    match z with
    | ⟨0, _⟩ => exact Subsingleton.elim (α := Fin 1) _ _
  refine (Routing.resultIdx?_ix2 (R := 32) (C := 1024) _ (ix2 a b) idx w e).trans ?_
  rw [Fin.ext_iff, hs0, hw0, hs1, hw1]
  omega

/-- The thirty-one rows of weights, laid over thirty-two, read back. -/
theorem padded_long (x : FVec Ideal S32x1024 .f32) (idx : IVec S1 32) (hidx : (idx (ix1 0)).toInt = 0) (u : FVec Ideal S31x1024 .f32) (j : Fin 31) (ch : Fin 1024) :
    Host.scatter scatter_S32x1024_S1_S31x1024_01_n_0_0 (fun _ b => b) x idx u (ix2 ⟨j.val, by omega⟩ ch) = u (ix2 j ch) := by
  refine Routing.scatter_set_hit _ x idx u _ _ (fun k hk => ?_) (ix2 j ch) ((lands_long idx hidx j ch _ ch).2 ⟨rfl, rfl⟩)
  obtain ⟨h1, h2⟩ := (lands_long idx hidx (k 0) (k 1) _ ch).1 ((congrArg (fun z => ScatterDims.resultIdx? _ z idx) (eq_ix2 k).symm).trans hk)
  exact congrArg u ((eq_ix2 k).trans (congrArg₂ ix2 (Fin.ext h1) h2))

theorem lands_short (idx : IVec S1 32) (hidx : (idx (ix1 0)).toInt = 0) (a : Fin 3) (b : Fin 1024) (w : Fin 8) (e : Fin 1024) :
    scatter_S8x1024_S1_S3x1024_01_n_0_0.resultIdx? (ix2 a b) idx = some (ix2 w e) ↔ a.val = w.val ∧ b = e := by
  have hw0 : scatter_S8x1024_S1_S3x1024_01_n_0_0.window (ix2 a b) 0 = a.val := by rfl
  have hw1 : scatter_S8x1024_S1_S3x1024_01_n_0_0.window (ix2 a b) 1 = b.val := by rfl
  have hs1 : scatter_S8x1024_S1_S3x1024_01_n_0_0.start (ix2 a b) idx 1 = 0 := by rfl
  have hs0 : scatter_S8x1024_S1_S3x1024_01_n_0_0.start (ix2 a b) idx 0 = 0 := by
    refine Eq.trans ?_ hidx
    refine congrArg (fun z => (idx z).toInt) ?_
    funext z
    match z with
    | ⟨0, _⟩ => exact Subsingleton.elim (α := Fin 1) _ _
  refine (Routing.resultIdx?_ix2 (R := 8) (C := 1024) _ (ix2 a b) idx w e).trans ?_
  rw [Fin.ext_iff, hs0, hw0, hs1, hw1]
  omega

/-- The three rows of weights, laid over eight, read back. -/
theorem padded_short (x : FVec Ideal S8x1024 .f32) (idx : IVec S1 32) (hidx : (idx (ix1 0)).toInt = 0) (u : FVec Ideal S3x1024 .f32) (j : Fin 3) (ch : Fin 1024) :
    Host.scatter scatter_S8x1024_S1_S3x1024_01_n_0_0 (fun _ b => b) x idx u (ix2 ⟨j.val, by omega⟩ ch) = u (ix2 j ch) := by
  refine Routing.scatter_set_hit _ x idx u _ _ (fun k hk => ?_) (ix2 j ch) ((lands_short idx hidx j ch _ ch).2 ⟨rfl, rfl⟩)
  obtain ⟨h1, h2⟩ := (lands_short idx hidx (k 0) (k 1) _ ch).1 ((congrArg (fun z => ScatterDims.resultIdx? _ z idx) (eq_ix2 k).symm).trans hk)
  exact congrArg u ((eq_ix2 k).trans (congrArg₂ ix2 (Fin.ext h1) h2))

theorem off12 : ∀ k : Fin k0_t1_loop.trips, k0_off1 k = ![16 * k.val, 0] ∧ k0_off2 k = ![16 * k.val, 0] ∧ k0_off3 k = ![16 * k.val, 2048] := by
  decide +kernel

theorem idx_row {R n : Nat} (j : Fin n) (inb : ∀ a, (![j.val, 0] : Fin 2 → Nat) a + (![1, 1024] : Fin 2 → Nat) a ≤ (⟨2, ![R, 1024]⟩ : Shape).size a)
    {k : Nat} (o2 : Fin 2 → Nat) (h2 : o2 = ![16 * k, 0])
    (inb2 : ∀ a, o2 a + S16x1024.size a ≤ S256x1024.size a) (x : S16x1024.Idx) :
    (Rect.unit (s := ⟨2, ![R, 1024]⟩) ![j.val, 0] ![1, 1024] inb).emb (ix2 0 (x 1))
      = ix2 ⟨j.val, by have := inb 0; simp at this; omega⟩ ((Rect.unit (s := S256x1024) o2 S16x1024.size inb2).emb x 1) := by
  subst h2
  funext a
  refine Fin.ext ((ValueKit.rect_emb_unit_val _ _ _ _ a).trans ?_)
  match a with
  | ⟨0, _⟩ => rfl
  | ⟨1, _⟩ => exact (ValueKit.rect_emb_unit_val (s := S256x1024) ![16 * k, 0] S16x1024.size inb2 x 1).symm

theorem idx_buf {d n : Nat} (j : Fin n) (hd : d + n ≤ 33) {k : Nat} (o1 : Fin 2 → Nat) (h1 : o1 = ![16 * k, 0])
    (inb1 : ∀ a, o1 a + (![48, 1024] : Fin 2 → Nat) a ≤ S288x1024.size a) (o2 : Fin 2 → Nat) (h2 : o2 = ![16 * k, 0])
    (inb2 : ∀ a, o2 a + S16x1024.size a ≤ S256x1024.size a) (x : S16x1024.Idx) (hx : d + j.val + (x 0).val < 48)
    (hy : d + j.val + ((Rect.unit (s := S256x1024) o2 S16x1024.size inb2).emb x 0).val < 288) :
    (Rect.unit (s := S288x1024) o1 ![48, 1024] inb1).emb (ix2 ⟨d + j.val + (x 0).val, hx⟩ (x 1))
      = ix2 ⟨d + j.val + ((Rect.unit (s := S256x1024) o2 S16x1024.size inb2).emb x 0).val, hy⟩
          ((Rect.unit (s := S256x1024) o2 S16x1024.size inb2).emb x 1) := by
  subst h1 h2
  funext a
  refine Fin.ext ((ValueKit.rect_emb_unit_val _ _ _ _ a).trans ?_)
  match a with
  | ⟨0, _⟩ =>
    show 16 * k + (d + j.val + (x 0).val) = d + j.val + _
    rw [ValueKit.rect_emb_unit_val (s := S256x1024) ![16 * k, 0] S16x1024.size inb2 x 0]
    show _ = d + j.val + (16 * k + (x 0).val)
    omega
  | ⟨1, _⟩ => exact (ValueKit.rect_emb_unit_val (s := S256x1024) ![16 * k, 0] S16x1024.size inb2 x 1).symm

theorem row_inb (j : Fin 31) : ∀ a, (![j.val, 0] : Fin 2 → Nat) a + (![1, 1024] : Fin 2 → Nat) a ≤ S32x1024.size a := by
  revert j; decide

theorem trip_taps (𝒱 : Variants) (c : Dev nD) (bd : Option 𝒱.V) (i : grid0.Coords) (arg2 : Memref sig .tc .vmem S256x5120 .bf16) (harg2 : arg2.IsWhole) (arg3 : Memref sig .tc .vmem S32x5120 .bf16) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S288x1024 .f32) (harg10 : arg10.IsWhole) (arg11 : Memref sig .tc .vmem S288x1024 .f32) (harg11 : arg11.IsWhole) (arg12 : Memref sig .tc .vmem S256x1024 .f32) (harg12 : arg12.IsWhole) (v30 : Vec Ideal S256x5120 .bf16) (v32 : FVec Ideal S256x1024 .f32) (v39 : FVec Ideal S256x1024 .f32) (X_arg2 : BufTy.Contents (Elt Ideal) arg2.view.ty) (X_arg4 : BufTy.Contents (Elt Ideal) arg4.view.ty) (X_arg7 : BufTy.Contents (Elt Ideal) arg7.view.ty) (X_arg10 : BufTy.Contents (Elt Ideal) arg10.view.ty) (X_arg11 : BufTy.Contents (Elt Ideal) arg11.view.ty) (k : Fin k0_t1_loop.trips) :
    ∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 v30 v32 v39 X_arg2 X_arg4 X_arg7 X_arg10 X_arg11 k).2, ∀ x : p.1.shape.Idx, p.2 x = taps (View.read (Elt Ideal) arg10.view X_arg10) (View.read (Elt Ideal) arg4.view X_arg4) (p.1.emb x) := by
  unfold tripL_k0_t1 trip_k0_t1
  frame_out
  intro p hp x
  obtain rfl := List.mem_singleton.1 hp
  refine (congrArg _ (eq_ix2 x)).trans ((taps_pay (View.ld (View.read (Elt Ideal) arg10.view X_arg10) (Rect.unit (k0_off1 k) ![48, 1024] (k0_off1_inb k)))
    (fun j => View.ld (View.read (Elt Ideal) arg4.view X_arg4) (Rect.unit ![j.val, 0] ![1, 1024] (row_inb j))) (x 0) (x 1)).trans ?_)
  obtain ⟨h1, h2, h3⟩ := off12 k
  refine Finset.sum_congr rfl fun j _ => congrArg₂ (· * ·) (congrArg (View.read (Elt Ideal) arg4.view X_arg4) ?_)
    (congrArg (View.read (Elt Ideal) arg10.view X_arg10) ?_)
  · exact idx_row j (row_inb j) _ h2 (k0_off2_inb k) x
  · exact idx_buf (d := 2) j (by omega) _ h1 (k0_off1_inb k) _ h2 (k0_off2_inb k) x _ _

theorem short_inb (j : Fin 3) : ∀ a, (![j.val, 0] : Fin 2 → Nat) a + (![1, 1024] : Fin 2 → Nat) a ≤ S8x1024.size a := by
  revert j; decide

theorem idx_group {k : Nat} (o3 : Fin 2 → Nat) (h3 : o3 = ![16 * k, 2048]) (inb3 : ∀ a, o3 a + S16x1024.size a ≤ S256x5120.size a)
    (o2 : Fin 2 → Nat) (h2 : o2 = ![16 * k, 0]) (inb2 : ∀ a, o2 a + S16x1024.size a ≤ S256x1024.size a) (x : S16x1024.Idx)
    (hy : 2048 + ((Rect.unit (s := S256x1024) o2 S16x1024.size inb2).emb x 1).val < 5120) :
    (Rect.unit (s := S256x5120) o3 S16x1024.size inb3).emb (ix2 (x 0) (x 1))
      = ix2 ((Rect.unit (s := S256x1024) o2 S16x1024.size inb2).emb x 0) ⟨2048 + ((Rect.unit (s := S256x1024) o2 S16x1024.size inb2).emb x 1).val, hy⟩ := by
  subst h2 h3
  funext a
  refine Fin.ext ((ValueKit.rect_emb_unit_val _ _ _ _ a).trans ?_)
  match a with
  | ⟨0, _⟩ => exact (ValueKit.rect_emb_unit_val (s := S256x1024) ![16 * k, 0] S16x1024.size inb2 x 0).symm
  | ⟨1, _⟩ =>
    show 2048 + (x 1).val = 2048 + _
    rw [ValueKit.rect_emb_unit_val (s := S256x1024) ![16 * k, 0] S16x1024.size inb2 x 1]
    show _ = 2048 + (0 + (x 1).val)
    omega

theorem trip_gated (𝒱 : Variants) (c : Dev nD) (bd : Option 𝒱.V) (i : grid0.Coords) (arg2 : Memref sig .tc .vmem S256x5120 .bf16) (harg2 : arg2.IsWhole) (arg3 : Memref sig .tc .vmem S32x5120 .bf16) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S288x1024 .f32) (harg10 : arg10.IsWhole) (arg11 : Memref sig .tc .vmem S288x1024 .f32) (harg11 : arg11.IsWhole) (arg12 : Memref sig .tc .vmem S256x1024 .f32) (harg12 : arg12.IsWhole) (v30 : Vec Ideal S256x5120 .bf16) (v32 : FVec Ideal S256x1024 .f32) (v39 : FVec Ideal S256x1024 .f32) (X_arg2 : BufTy.Contents (Elt Ideal) arg2.view.ty) (X_arg4 : BufTy.Contents (Elt Ideal) arg4.view.ty) (X_arg7 : BufTy.Contents (Elt Ideal) arg7.view.ty) (X_arg10 : BufTy.Contents (Elt Ideal) arg10.view.ty) (X_arg11 : BufTy.Contents (Elt Ideal) arg11.view.ty) (k : Fin k0_t1_loop.trips) :
    ∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 v30 v32 v39 X_arg2 X_arg4 X_arg7 X_arg10 X_arg11 k).1, ∀ x : p.1.shape.Idx, p.2 x = gated (View.read (Elt Ideal) arg2.view X_arg2) (View.read (Elt Ideal) arg11.view X_arg11) (View.read (Elt Ideal) arg7.view X_arg7) (p.1.emb x) := by
  unfold tripL_k0_t1 trip_k0_t1
  frame_out
  intro p hp x
  obtain rfl := List.mem_singleton.1 hp
  refine (congrArg _ (eq_ix2 x)).trans ((gated_pay (View.ld (View.read (Elt Ideal) arg11.view X_arg11) (Rect.unit (k0_off1 k) ![48, 1024] (k0_off1_inb k)))
    (fun j => View.ld (View.read (Elt Ideal) arg7.view X_arg7) (Rect.unit ![j.val, 0] ![1, 1024] (short_inb j)))
    (View.ld (View.read (Elt Ideal) arg2.view X_arg2) (Rect.unit (k0_off3 k) ![16, 1024] (k0_off3_inb k))) (x 0) (x 1)).trans ?_)
  obtain ⟨h1, h2, h3⟩ := off12 k
  refine congrArg₂ (· * ·) (congrArg (View.read (Elt Ideal) arg2.view X_arg2) (idx_group _ h3 (k0_off3_inb k) _ h2 (k0_off2_inb k) x _))
    (Finset.sum_congr rfl fun j _ => congrArg₂ (· * ·) (congrArg (View.read (Elt Ideal) arg7.view X_arg7) ?_)
      (congrArg (View.read (Elt Ideal) arg11.view X_arg11) ?_))
  · exact idx_row j (short_inb j) _ h2 (k0_off2_inb k) x
  · exact idx_buf (d := 30) j (by omega) _ h1 (k0_off1_inb k) _ h2 (k0_off2_inb k) x _ _

/-- Every store of the loop, up to any trip, is of these two functions. -/
theorem loop_pieces (𝒱 : Variants) (c : Dev nD) (bd : Option 𝒱.V) (i : grid0.Coords) (arg2 : Memref sig .tc .vmem S256x5120 .bf16) (harg2 : arg2.IsWhole) (arg3 : Memref sig .tc .vmem S32x5120 .bf16) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S288x1024 .f32) (harg10 : arg10.IsWhole) (arg11 : Memref sig .tc .vmem S288x1024 .f32) (harg11 : arg11.IsWhole) (arg12 : Memref sig .tc .vmem S256x1024 .f32) (harg12 : arg12.IsWhole) (v30 : Vec Ideal S256x5120 .bf16) (v32 : FVec Ideal S256x1024 .f32) (v39 : FVec Ideal S256x1024 .f32) (X_arg2 : BufTy.Contents (Elt Ideal) arg2.view.ty) (X_arg4 : BufTy.Contents (Elt Ideal) arg4.view.ty) (X_arg7 : BufTy.Contents (Elt Ideal) arg7.view.ty) (X_arg10 : BufTy.Contents (Elt Ideal) arg10.view.ty) (X_arg11 : BufTy.Contents (Elt Ideal) arg11.view.ty) (n : Nat) (hn : n ≤ k0_t1_loop.trips) :
    (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 v30 v32 v39 X_arg2 X_arg4 X_arg7 X_arg10 X_arg11 n).1, ∀ x : p.1.shape.Idx, p.2 x = gated (View.read (Elt Ideal) arg2.view X_arg2) (View.read (Elt Ideal) arg11.view X_arg11) (View.read (Elt Ideal) arg7.view X_arg7) (p.1.emb x))
    ∧ (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 v30 v32 v39 X_arg2 X_arg4 X_arg7 X_arg10 X_arg11 n).2, ∀ x : p.1.shape.Idx, p.2 x = taps (View.read (Elt Ideal) arg10.view X_arg10) (View.read (Elt Ideal) arg4.view X_arg4) (p.1.emb x)) := by
  induction n with
  | zero => exact ⟨fun p hp => absurd hp List.not_mem_nil, fun p hp => absurd hp List.not_mem_nil⟩
  | succ n ih =>
    obtain ⟨ih1, ih2⟩ := ih (by omega)
    rw [pb_k0_t1_succ 𝒱 c bd i arg2 harg2 arg3 harg3 arg4 harg4 arg5 harg5 arg6 harg6 arg7 harg7 arg8 harg8 arg9 harg9 arg10 harg10 arg11 harg11 arg12 harg12 v30 v32 v39 X_arg2 X_arg4 X_arg7 X_arg10 X_arg11 ⟨n, hn⟩]
    exact ⟨fun p hp => (List.mem_append.1 hp).elim (trip_gated 𝒱 c bd i arg2 harg2 arg3 harg3 arg4 harg4 arg5 harg5 arg6 harg6 arg7 harg7 arg8 harg8 arg9 harg9 arg10 harg10 arg11 harg11 arg12 harg12 v30 v32 v39 X_arg2 X_arg4 X_arg7 X_arg10 X_arg11 ⟨n, hn⟩ p) (ih1 p),
      fun p hp => (List.mem_append.1 hp).elim (trip_taps 𝒱 c bd i arg2 harg2 arg3 harg3 arg4 harg4 arg5 harg5 arg6 harg6 arg7 harg7 arg8 harg8 arg9 harg9 arg10 harg10 arg11 harg11 arg12 harg12 v30 v32 v39 X_arg2 X_arg4 X_arg7 X_arg10 X_arg11 ⟨n, hn⟩ p) (ih2 p)⟩

theorem cover_gated (𝒱 : Variants) (c : Dev nD) (bd : Option 𝒱.V) (i : grid0.Coords) (arg2 : Memref sig .tc .vmem S256x5120 .bf16) (harg2 : arg2.IsWhole) (arg3 : Memref sig .tc .vmem S32x5120 .bf16) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S288x1024 .f32) (harg10 : arg10.IsWhole) (arg11 : Memref sig .tc .vmem S288x1024 .f32) (harg11 : arg11.IsWhole) (arg12 : Memref sig .tc .vmem S256x1024 .f32) (harg12 : arg12.IsWhole) (v30 : Vec Ideal S256x5120 .bf16) (v32 : FVec Ideal S256x1024 .f32) (v39 : FVec Ideal S256x1024 .f32) (X_arg2 : BufTy.Contents (Elt Ideal) arg2.view.ty) (X_arg4 : BufTy.Contents (Elt Ideal) arg4.view.ty) (X_arg7 : BufTy.Contents (Elt Ideal) arg7.view.ty) (X_arg10 : BufTy.Contents (Elt Ideal) arg10.view.ty) (X_arg11 : BufTy.Contents (Elt Ideal) arg11.view.ty) (y : S256x1024.Idx) :
    ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 v30 v32 v39 X_arg2 X_arg4 X_arg7 X_arg10 X_arg11 (Scf.trips (0#32) (Scalar.addi 0#32 16#32) 1#32)).1, y ∈ p.1.set :=
  View.cover_of_tiledL (pb_k0_t1 (F := Ideal) 𝒱 c bd i arg2 harg2 arg3 harg3 arg4 harg4 arg5 harg5 arg6 harg6 arg7 harg7 arg8 harg8 arg9 harg9 arg10 harg10 arg11 harg11 arg12 harg12 v30 v32 v39 X_arg2 X_arg4 X_arg7 X_arg10 X_arg11 (Scf.trips (0#32) (Scalar.addi 0#32 16#32) 1#32)).1 S16x1024.size (by sl_kernel_rfl) y

theorem cover_taps (𝒱 : Variants) (c : Dev nD) (bd : Option 𝒱.V) (i : grid0.Coords) (arg2 : Memref sig .tc .vmem S256x5120 .bf16) (harg2 : arg2.IsWhole) (arg3 : Memref sig .tc .vmem S32x5120 .bf16) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S288x1024 .f32) (harg10 : arg10.IsWhole) (arg11 : Memref sig .tc .vmem S288x1024 .f32) (harg11 : arg11.IsWhole) (arg12 : Memref sig .tc .vmem S256x1024 .f32) (harg12 : arg12.IsWhole) (v30 : Vec Ideal S256x5120 .bf16) (v32 : FVec Ideal S256x1024 .f32) (v39 : FVec Ideal S256x1024 .f32) (X_arg2 : BufTy.Contents (Elt Ideal) arg2.view.ty) (X_arg4 : BufTy.Contents (Elt Ideal) arg4.view.ty) (X_arg7 : BufTy.Contents (Elt Ideal) arg7.view.ty) (X_arg10 : BufTy.Contents (Elt Ideal) arg10.view.ty) (X_arg11 : BufTy.Contents (Elt Ideal) arg11.view.ty) (y : S256x1024.Idx) :
    ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 v30 v32 v39 X_arg2 X_arg4 X_arg7 X_arg10 X_arg11 (Scf.trips (0#32) (Scalar.addi 0#32 16#32) 1#32)).2, y ∈ p.1.set :=
  View.cover_of_tiledL (pb_k0_t1 (F := Ideal) 𝒱 c bd i arg2 harg2 arg3 harg3 arg4 harg4 arg5 harg5 arg6 harg6 arg7 harg7 arg8 harg8 arg9 harg9 arg10 harg10 arg11 harg11 arg12 harg12 v30 v32 v39 X_arg2 X_arg4 X_arg7 X_arg10 X_arg11 (Scf.trips (0#32) (Scalar.addi 0#32 16#32) 1#32)).2 S16x1024.size (by sl_kernel_rfl) y

end Cert.KernelConvIdeal.Convs
end
-- ==== Proof.Conv.lean ====
module

public import proofs.«01_k».proof.Defs
public import proofs.«01_k».proof.Proof.Gen.KernelConvIdeal.Frame
public import proofs.«01_k».proof.Proof.ConvHead
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelConvIdeal.Convs
open Cert.KernelConvIdeal Cert.KernelConvIdeal.Gen Cert.ConvMath
open Cert.ReferenceConvIdeal.Plain (glued products first second)

variable (m : (ℓ : Loc nD τ sig) → Buf (Elt Ideal) ℓ)

/-- The reference's two results on the kernel's own arguments. -/
def firstR (c : Dev nD) := first (m ((c : Thread nD τ).loc main_arg0)) (m ((c : Thread nD τ).loc main_arg1)) (m ((c : Thread nD τ).loc main_arg2)) (m ((c : Thread nD τ).loc main_arg3))
def secondR (c : Dev nD) := second (m ((c : Thread nD τ).loc main_arg0)) (m ((c : Thread nD τ).loc main_arg4))

/-- Which block each window reads or writes at a grid point. -/
theorem idx : ∀ t : Fin cfg0.N, win0_0.index t = ![t.val, 0] ∧ win0_1.index t = ![8 * t.val - 1, 0] ∧ win0_2.index t = ![0, 0] ∧ win0_3.index t = ![0, 0] ∧
    win0_4.index t = ![0, 0] ∧ win0_5.index t = ![0, 0] ∧ win0_6.index t = ![t.val, 0] ∧ win0_7.index t = ![t.val, 0] :=
  (by decide +kernel : ∀ t : Fin grid0.N, _)

theorem first_block : ∀ t : Fin cfg0.N, Scalar.cmpi .eq (BitVec.ofNat 32 (grid0.coords t 1).val) 0#32 = if t.val % 8 = 0 then 1#1 else 0#1 :=
  (by decide +kernel : ∀ t : Fin grid0.N, _)

/-- The halo's mask: zero at a sequence's first block, one elsewhere. -/
theorem mask (t : Fin cfg0.N) : k0_pay10 (F := Ideal) (grid0.coords t) = if t.val % 8 = 0 then (0 : EReal) else 1 := by
  unfold k0_pay10
  dsimp only
  rw [first_block t]
  split
  · show Ideal.ofBits FTy.f32 0x00000000#32 = 0
    simp
  · show Ideal.ofBits FTy.f32 0x3F800000#32 = 1
    simp

/-- The prepared weights' rows are the arguments'. -/
theorem dw_row (c : Dev nD) (j : Fin 31) (ch : Fin 1024) :
    V m c main_v2 (ix2 ⟨j.val, by omega⟩ ch) = m ((c : Thread nD τ).loc main_arg1) (ix2 j ch) := by
  unfold V; after_results
  exact padded_long _ _ rfl _ j ch

theorem sw_row (c : Dev nD) (j : Fin 3) (ch : Fin 1024) :
    V m c main_v5 (ix2 ⟨j.val, by omega⟩ ch) = m ((c : Thread nD τ).loc main_arg4) (ix2 j ch) := by
  unfold V; after_results
  exact padded_short _ _ rfl _ j ch

theorem V_g (c : Dev nD) : V m c main_v6 = shapeCast S1x1024 (m ((c : Thread nD τ).loc main_arg2)) shapeCasts_S1024_S1x1024 := by
  unfold V; after_results; rfl

theorem V_b (c : Dev nD) : V m c main_v7 = shapeCast S1x1024 (m ((c : Thread nD τ).loc main_arg3)) shapeCasts_S1024_S1x1024 := by
  unfold V; after_results; rfl

theorem g_read (c : Dev nD) (t : Fin cfg0.N) (y : S1x1024.Idx) : iblk m c 3 t y = m ((c : Thread nD τ).loc main_arg2) (ix1 (y 1)) := by
  show V m c main_v6 (((cfg0.win 3).blk t).view.emb y) = _
  rw [V_g]
  pointwise
  blk_point [idx t]

theorem b_read (c : Dev nD) (t : Fin cfg0.N) (y : S1x1024.Idx) : iblk m c 4 t y = m ((c : Thread nD τ).loc main_arg3) (ix1 (y 1)) := by
  show V m c main_v7 (((cfg0.win 4).blk t).view.emb y) = _
  rw [V_b]
  pointwise
  blk_point [idx t]

theorem block_long (t : Fin cfg0.N) (X : (Pipeline.arrRef spec0 2 : Ref sig .tc).ty.Contents (Elt Ideal)) (y : S32x1024.Idx) :
    ((cfg0.win 2).blk t).view.read (Elt Ideal) X y = X y := by
  show X (((cfg0.win 2).blk t).view.emb y) = _
  exact congrArg X (by blk_ext [idx t])

theorem dw_read (c : Dev nD) (t : Fin cfg0.N) (j : Fin 31) (ch : Fin 1024) :
    iblk m c 2 t (ix2 ⟨j.val, by omega⟩ ch) = m ((c : Thread nD τ).loc main_arg1) (ix2 j ch) :=
  (block_long t (V m c (Pipeline.arrRef spec0 2)) (ix2 ⟨j.val, by omega⟩ ch)).trans (dw_row m c j ch)

theorem block_short (t : Fin cfg0.N) (X : (Pipeline.arrRef spec0 5 : Ref sig .tc).ty.Contents (Elt Ideal)) (y : S8x1024.Idx) :
    ((cfg0.win 5).blk t).view.read (Elt Ideal) X y = X y := by
  show X (((cfg0.win 5).blk t).view.emb y) = _
  exact congrArg X (by blk_ext [idx t])

theorem sw_read (c : Dev nD) (t : Fin cfg0.N) (j : Fin 3) (ch : Fin 1024) :
    iblk m c 5 t (ix2 ⟨j.val, by omega⟩ ch) = m ((c : Thread nD τ).loc main_arg4) (ix2 j ch) :=
  (block_short t (V m c (Pipeline.arrRef spec0 5)) (ix2 ⟨j.val, by omega⟩ ch)).trans (sw_row m c j ch)

/-- A block's rows and its halo's rows are rows of the argument. -/
theorem own_read (c : Dev nD) (t : Fin cfg0.N) (r : Fin 256) (k : Fin 5120) (R : Fin 8192) (h : R.val = t.val * 256 + r.val) :
    iblk m c 0 t (ix2 r k) = m ((c : Thread nD τ).loc main_arg0) (ix2 R k) := by
  blk_point [iblk, V, idx t]

theorem halo_read (c : Dev nD) (t : Fin cfg0.N) (q : Fin 32) (k : Fin 5120) (R : Fin 8192) (ht : 0 < t.val) (h : R.val + 32 = t.val * 256 + q.val) :
    iblk m c 1 t (ix2 q k) = m ((c : Thread nD τ).loc main_arg0) (ix2 R k) := by
  blk_point [iblk, V, idx t]

/-- A buffer filled in two parts: its first thirty-two rows and the rest. -/
def twoParts (hi : FVec Ideal S256x1024 .f32) (lo : FVec Ideal S32x1024 .f32) : FVec Ideal S288x1024 .f32 := fun y =>
  if h : 32 ≤ (y 0).val then hi (ix2 ⟨(y 0).val - 32, by have := (y 0).isLt; simp at this; omega⟩ (y 1))
    else lo (ix2 ⟨(y 0).val, by omega⟩ (y 1))

theorem twoParts_hi (hi : FVec Ideal S256x1024 .f32) (lo : FVec Ideal S32x1024 .f32) (y : S288x1024.Idx) (x : S256x1024.Idx)
    (h0 : (y 0).val = 32 + (x 0).val) (h1 : (y 1).val = (x 1).val) : twoParts hi lo y = hi x :=
  (dif_pos (by omega)).trans (congrArg hi (Eq.trans (congrArg₂ ix2 (Fin.ext (by show (y 0).val - 32 = _; omega)) (Fin.ext h1)) (eq_ix2 x).symm))

theorem twoParts_lo (hi : FVec Ideal S256x1024 .f32) (lo : FVec Ideal S32x1024 .f32) (y : S288x1024.Idx) (x : S32x1024.Idx)
    (h0 : (y 0).val = (x 0).val) (h1 : (y 1).val = (x 1).val) : twoParts hi lo y = lo x := by
  have hx : (x 0).val < 32 := (x 0).isLt
  exact (dif_neg (by omega)).trans (congrArg lo (Eq.trans (congrArg₂ ix2 (Fin.ext h0) (Fin.ext h1)) (eq_ix2 x).symm))

theorem canon_parts (hi : FVec Ideal S256x1024 .f32) (lo : FVec Ideal S32x1024 .f32) :
    View.canon (Val := Elt Ideal) (s := S288x1024) (e := .f32) [⟨Rect.unit ![32, 0] ![256, 1024] inb_S288x1024_S256x1024_32_0, hi⟩,
      ⟨Rect.unit ![0, 0] ![32, 1024] inb_S288x1024_S32x1024_0_0, lo⟩] = twoParts hi lo := by
  funext y
  refine View.canon_apply_of_pieces (Val := Elt Ideal) (e := .f32) (twoParts hi lo) _ (fun p hp x => ?_) y ?_
  · rcases List.mem_cons.1 hp with rfl | hp
    · exact (twoParts_hi hi lo _ x (ValueKit.rect_emb_unit_val (s := S288x1024) ![32, 0] ![256, 1024] inb_S288x1024_S256x1024_32_0 x 0)
        ((ValueKit.rect_emb_unit_val (s := S288x1024) ![32, 0] ![256, 1024] inb_S288x1024_S256x1024_32_0 x 1).trans (Nat.zero_add _))).symm
    · obtain rfl := List.mem_singleton.1 hp
      exact (twoParts_lo hi lo _ x ((ValueKit.rect_emb_unit_val (s := S288x1024) ![0, 0] ![32, 1024] inb_S288x1024_S32x1024_0_0 x 0).trans (Nat.zero_add _))
        ((ValueKit.rect_emb_unit_val (s := S288x1024) ![0, 0] ![32, 1024] inb_S288x1024_S32x1024_0_0 x 1).trans (Nat.zero_add _))).symm
  · have h0 : (y 0).val < 288 := (y 0).isLt
    have h1 : (y 1).val < 1024 := (y 1).isLt
    by_cases h : 32 ≤ (y 0).val
    · refine ⟨⟨Rect.unit ![32, 0] ![256, 1024] inb_S288x1024_S256x1024_32_0, hi⟩, List.mem_cons_self, ?_⟩
      show y ∈ (Rect.unit (s := S288x1024) ![32, 0] ![256, 1024] inb_S288x1024_S256x1024_32_0).set
      refine Rect.mem_set_unit.2 fun a => ?_
      match a with
      | ⟨0, _⟩ => exact ⟨h, h0⟩
      | ⟨1, _⟩ => exact ⟨Nat.zero_le _, by show (y 1).val < 0 + 1024; omega⟩
    · refine ⟨⟨Rect.unit ![0, 0] ![32, 1024] inb_S288x1024_S32x1024_0_0, lo⟩, List.mem_cons_of_mem _ List.mem_cons_self, ?_⟩
      show y ∈ (Rect.unit (s := S288x1024) ![0, 0] ![32, 1024] inb_S288x1024_S32x1024_0_0).set
      refine Rect.mem_set_unit.2 fun a => ?_
      match a with
      | ⟨0, _⟩ => exact ⟨Nat.zero_le _, by show (y 0).val < 0 + 32; omega⟩
      | ⟨1, _⟩ => exact ⟨Nat.zero_le _, by show (y 1).val < 0 + 1024; omega⟩

/-- The gated linear unit's buffer at a block: rows of the padded array the reference convolves. -/
theorem abuf_row (c : Dev nD) (t : Fin cfg0.N) (q : Fin 4) (Q : Fin 288) (p : Fin 2078) (ch : Fin 1024) (hq : q.val = t.val / 8)
    (hp : p.val + 2 = t.val % 8 * 256 + Q.val) :
    twoParts (k0_pay15 (k0_pay13 (iblk m c 0 t)) (k0_pay14 (iblk m c 0 t))) (k0_pay11 (grid0.coords t) (iblk m c 1 t)) (ix2 Q ch)
      = glued (m ((c : Thread nD τ).loc main_arg0)) (ix3 q p ch) := by
  have ht : t.val < 32 := t.isLt
  by_cases h : 32 ≤ Q.val
  · rw [twoParts_hi _ _ _ (ix2 ⟨Q.val - 32, by omega⟩ ch) (by show Q.val = 32 + (Q.val - 32); omega) rfl,
      Cert.ReferenceConvIdeal.Plain.glued_in _ q p ch ⟨t.val * 256 + (Q.val - 32), by omega⟩ (by omega) (by show t.val * 256 + (Q.val - 32) + 30 = _; omega),
      ← own_read m c t ⟨Q.val - 32, by omega⟩ _ _ rfl, ← own_read m c t ⟨Q.val - 32, by omega⟩ _ _ rfl]
    generalize iblk m c 0 t = X
    unfold sigm
    pointwise [k0_pay13, k0_pay14, k0_pay15]
    rw [zero_sub]
  · rw [twoParts_lo _ _ _ (ix2 ⟨Q.val, by omega⟩ ch) rfl rfl]
    by_cases h8 : t.val % 8 = 0
    · rw [Cert.ReferenceConvIdeal.Plain.glued_out _ q p ch (by omega)]
      pointwise [k0_pay11]
      rw [mask, if_pos h8, mul_zero]
    · have hR : t.val * 256 + Q.val - 32 < 8192 := by omega
      rw [Cert.ReferenceConvIdeal.Plain.glued_in _ q p ch ⟨t.val * 256 + Q.val - 32, hR⟩ (by omega) (by show t.val * 256 + Q.val - 32 + 30 = _; omega),
        ← halo_read m c t ⟨Q.val, by omega⟩ _ _ (by omega) (by show t.val * 256 + Q.val - 32 + 32 = t.val * 256 + Q.val; omega),
        ← halo_read m c t ⟨Q.val, by omega⟩ _ _ (by omega) (by show t.val * 256 + Q.val - 32 + 32 = t.val * 256 + Q.val; omega)]
      generalize iblk m c 1 t = X
      unfold sigm
      pointwise [k0_pay11]
      rw [mask, if_neg h8, mul_one, zero_sub]

/-- The products' buffer likewise. -/
theorem bbuf_row (c : Dev nD) (t : Fin cfg0.N) (q : Fin 4) (Q : Fin 288) (p : Fin 2050) (ch : Fin 1024) (hq : q.val = t.val / 8)
    (hp : p.val + 30 = t.val % 8 * 256 + Q.val) :
    twoParts (k0_pay16 (iblk m c 0 t)) (k0_pay12 (grid0.coords t) (iblk m c 1 t)) (ix2 Q ch)
      = products (m ((c : Thread nD τ).loc main_arg0)) (ix3 q p ch) := by
  have ht : t.val < 32 := t.isLt
  by_cases h : 32 ≤ Q.val
  · rw [twoParts_hi _ _ _ (ix2 ⟨Q.val - 32, by omega⟩ ch) (by show Q.val = 32 + (Q.val - 32); omega) rfl,
      Cert.ReferenceConvIdeal.Plain.products_in _ q p ch ⟨t.val * 256 + (Q.val - 32), by omega⟩ (by omega) (by show t.val * 256 + (Q.val - 32) + 2 = _; omega),
      ← own_read m c t ⟨Q.val - 32, by omega⟩ _ _ rfl, ← own_read m c t ⟨Q.val - 32, by omega⟩ _ _ rfl]
    generalize iblk m c 0 t = X
    pointwise [k0_pay16]
  · rw [twoParts_lo _ _ _ (ix2 ⟨Q.val, by omega⟩ ch) rfl rfl]
    by_cases h8 : t.val % 8 = 0
    · rw [Cert.ReferenceConvIdeal.Plain.products_out _ q p ch (by omega)]
      pointwise [k0_pay12]
      rw [mask, if_pos h8, mul_zero]
    · have hR : t.val * 256 + Q.val - 32 < 8192 := by omega
      rw [Cert.ReferenceConvIdeal.Plain.products_in _ q p ch ⟨t.val * 256 + Q.val - 32, hR⟩ (by omega) (by show t.val * 256 + Q.val - 32 + 2 = _; omega),
        ← halo_read m c t ⟨Q.val, by omega⟩ _ _ (by omega) (by show t.val * 256 + Q.val - 32 + 32 = t.val * 256 + Q.val; omega),
        ← halo_read m c t ⟨Q.val, by omega⟩ _ _ (by omega) (by show t.val * 256 + Q.val - 32 + 32 = t.val * 256 + Q.val; omega)]
      generalize iblk m c 1 t = X
      pointwise [k0_pay12]
      rw [mask, if_neg h8, mul_one]

/-- A row through the normalisation and the gate. -/
theorem swish_row (C : FVec Ideal S256x1024 .f32) (g b : FVec Ideal S1x1024 .f32) (r : Fin 256) (ch : Fin 1024) :
    k0_pay1 (F := Ideal) (k0_pay17 C g) b (ix2 r ch) = swish (layerNorm (fun k => C (ix2 r k)) (fun k => g (ix2 0 k)) (fun k => b (ix2 0 k)) ch) := by
  unfold swish sigm layerNorm centred mean
  pointwise [k0_pay1, k0_pay17]
  simp only [zero_sub]

/-- The reference's first result, at an element of a block of the kernel's. -/
theorem first_point (c : Dev nD) (t : Fin cfg0.N) (y : S256x1024.Idx) :
    k0_pay1 (k0_pay17 (taps (twoParts (k0_pay15 (k0_pay13 (iblk m c 0 t)) (k0_pay14 (iblk m c 0 t))) (k0_pay11 (grid0.coords t) (iblk m c 1 t))) (iblk m c 2 t)) (iblk m c 3 t)) (iblk m c 4 t) y
      = firstR m c (((cfg0.win 6).blk t).view.emb y) := by
  have ht : t.val < 32 := t.isLt
  obtain ⟨r, ch, rfl⟩ : ∃ (r : Fin 256) (ch : Fin 1024), y = ix2 r ch := ⟨y 0, y 1, eq_ix2 y⟩
  have hR : t.val * 256 + r.val < 8192 := by omega
  have he : ((cfg0.win 6).blk t).view.emb (ix2 r ch) = (ix2 ⟨t.val * 256 + r.val, hR⟩ ch : S8192x1024.Idx) := by blk_ext [idx t]
  rw [he, swish_row]
  unfold firstR
  rw [Cert.ReferenceConvIdeal.Plain.first_apply _ _ _ _ ⟨t.val / 8, by omega⟩ ⟨t.val % 8 * 256 + r.val, by omega⟩ ⟨t.val * 256 + r.val, hR⟩ ch
    (by show t.val * 256 + r.val = t.val / 8 * 2048 + (t.val % 8 * 256 + r.val); omega)]
  have hg : (fun k => iblk m c 3 t (ix2 0 k)) = fun k => m ((c : Thread nD τ).loc main_arg2) (ix1 k) := funext fun k => g_read m c t _
  have hb : (fun k => iblk m c 4 t (ix2 0 k)) = fun k => m ((c : Thread nD τ).loc main_arg3) (ix1 k) := funext fun k => b_read m c t _
  rw [hg, hb]
  refine congrArg (fun f => swish (layerNorm f _ _ ch)) (funext fun k => Finset.sum_congr rfl fun j _ => ?_)
  rw [mul_comm]
  refine congrArg₂ (· * ·) ?_ (dw_read m c t j k)
  exact abuf_row m c t _ _ _ k rfl (by show t.val % 8 * 256 + r.val + j.val + 2 = t.val % 8 * 256 + (2 + j.val + r.val); omega)

/-- The reference's second result, likewise. -/
theorem second_point (c : Dev nD) (t : Fin cfg0.N) (y : S256x1024.Idx) :
    gated (iblk m c 0 t) (twoParts (k0_pay16 (iblk m c 0 t)) (k0_pay12 (grid0.coords t) (iblk m c 1 t))) (iblk m c 5 t) y
      = secondR m c (((cfg0.win 7).blk t).view.emb y) := by
  have ht : t.val < 32 := t.isLt
  obtain ⟨r, ch, rfl⟩ : ∃ (r : Fin 256) (ch : Fin 1024), y = ix2 r ch := ⟨y 0, y 1, eq_ix2 y⟩
  have hR : t.val * 256 + r.val < 8192 := by omega
  have he : ((cfg0.win 7).blk t).view.emb (ix2 r ch) = (ix2 ⟨t.val * 256 + r.val, hR⟩ ch : S8192x1024.Idx) := by blk_ext [idx t]
  rw [he]
  unfold secondR
  rw [Cert.ReferenceConvIdeal.Plain.second_apply _ _ ⟨t.val / 8, by omega⟩ ⟨t.val % 8 * 256 + r.val, by omega⟩ ⟨t.val * 256 + r.val, hR⟩ ch
    (by show t.val * 256 + r.val = t.val / 8 * 2048 + (t.val % 8 * 256 + r.val); omega)]
  refine congrArg₂ (· * ·) (own_read m c t r _ _ rfl) (Finset.sum_congr rfl fun j _ => ?_)
  rw [mul_comm]
  refine congrArg₂ (· * ·) ?_ (sw_read m c t j ch)
  exact bbuf_row m c t _ _ _ ch rfl (by show t.val % 8 * 256 + r.val + j.val + 30 = t.val % 8 * 256 + (30 + j.val + r.val); omega)

/-- What the loop leaves of the second result. -/
theorem all_gated (𝒱 : Variants) (c : Dev nD) (bd : Option 𝒱.V) (i : grid0.Coords) (arg2 : Memref sig .tc .vmem S256x5120 .bf16) (harg2 : arg2.IsWhole) (arg3 : Memref sig .tc .vmem S32x5120 .bf16) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S288x1024 .f32) (harg10 : arg10.IsWhole) (arg11 : Memref sig .tc .vmem S288x1024 .f32) (harg11 : arg11.IsWhole) (arg12 : Memref sig .tc .vmem S256x1024 .f32) (harg12 : arg12.IsWhole) (v30 : Vec Ideal S256x5120 .bf16) (v32 : FVec Ideal S256x1024 .f32) (v39 : FVec Ideal S256x1024 .f32) (X_arg10 : BufTy.Contents (Elt Ideal) arg10.view.ty) (X_arg11 : BufTy.Contents (Elt Ideal) arg11.view.ty) (W : FVec Ideal S32x1024 .f32) (S : FVec Ideal S8x1024 .f32) (y : S256x1024.Idx) :
    View.canon (pb_k0_t1 (F := Ideal) 𝒱 c bd i arg2 harg2 arg3 harg3 arg4 harg4 arg5 harg5 arg6 harg6 arg7 harg7 arg8 harg8 arg9 harg9 arg10 harg10 arg11 harg11 arg12 harg12 v30 v32 v39 (harg2.unread v30) (harg4.unread W) (harg7.unread S) X_arg10 X_arg11 (Scf.trips (0#32) (Scalar.addi 0#32 16#32) 1#32)).1 y = gated v30 (View.read (Elt Ideal) arg11.view X_arg11) S y := by
  refine (View.canon_apply_of_pieces _ _ (loop_pieces 𝒱 c bd i arg2 harg2 arg3 harg3 arg4 harg4 arg5 harg5 arg6 harg6 arg7 harg7 arg8 harg8 arg9 harg9 arg10 harg10 arg11 harg11 arg12 harg12 v30 v32 v39 (harg2.unread v30) (harg4.unread W) (harg7.unread S) X_arg10 X_arg11 _ le_rfl).1 y (cover_gated 𝒱 c bd i arg2 harg2 arg3 harg3 arg4 harg4 arg5 harg5 arg6 harg6 arg7 harg7 arg8 harg8 arg9 harg9 arg10 harg10 arg11 harg11 arg12 harg12 v30 v32 v39 (harg2.unread v30) (harg4.unread W) (harg7.unread S) X_arg10 X_arg11 y)).trans ?_
  simp only [Memref.IsWhole.read_unread]

/-- What it leaves of the sums of thirty-one taps. -/
theorem all_taps (𝒱 : Variants) (c : Dev nD) (bd : Option 𝒱.V) (i : grid0.Coords) (arg2 : Memref sig .tc .vmem S256x5120 .bf16) (harg2 : arg2.IsWhole) (arg3 : Memref sig .tc .vmem S32x5120 .bf16) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S8x1024 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S288x1024 .f32) (harg10 : arg10.IsWhole) (arg11 : Memref sig .tc .vmem S288x1024 .f32) (harg11 : arg11.IsWhole) (arg12 : Memref sig .tc .vmem S256x1024 .f32) (harg12 : arg12.IsWhole) (v30 : Vec Ideal S256x5120 .bf16) (v32 : FVec Ideal S256x1024 .f32) (v39 : FVec Ideal S256x1024 .f32) (X_arg10 : BufTy.Contents (Elt Ideal) arg10.view.ty) (X_arg11 : BufTy.Contents (Elt Ideal) arg11.view.ty) (W : FVec Ideal S32x1024 .f32) (S : FVec Ideal S8x1024 .f32) (y : S256x1024.Idx) :
    View.canon (pb_k0_t1 (F := Ideal) 𝒱 c bd i arg2 harg2 arg3 harg3 arg4 harg4 arg5 harg5 arg6 harg6 arg7 harg7 arg8 harg8 arg9 harg9 arg10 harg10 arg11 harg11 arg12 harg12 v30 v32 v39 (harg2.unread v30) (harg4.unread W) (harg7.unread S) X_arg10 X_arg11 (Scf.trips (0#32) (Scalar.addi 0#32 16#32) 1#32)).2 y = taps (View.read (Elt Ideal) arg10.view X_arg10) W y := by
  refine (View.canon_apply_of_pieces _ _ (loop_pieces 𝒱 c bd i arg2 harg2 arg3 harg3 arg4 harg4 arg5 harg5 arg6 harg6 arg7 harg7 arg8 harg8 arg9 harg9 arg10 harg10 arg11 harg11 arg12 harg12 v30 v32 v39 (harg2.unread v30) (harg4.unread W) (harg7.unread S) X_arg10 X_arg11 _ le_rfl).2 y (cover_taps 𝒱 c bd i arg2 harg2 arg3 harg3 arg4 harg4 arg5 harg5 arg6 harg6 arg7 harg7 arg8 harg8 arg9 harg9 arg10 harg10 arg11 harg11 arg12 harg12 v30 v32 v39 (harg2.unread v30) (harg4.unread W) (harg7.unread S) X_arg10 X_arg11 y)).trans ?_
  simp only [Memref.IsWhole.read_unread]

theorem final7 (c : Dev nD) : (dats m 0 c).arrAt 7 (cfgs 0).N = secondR m c := by
  refine (dats m 0 c).arrAt_eq_of_covers 7 _ (by decide +kernel) fun t _ y => ?_
  blk_simp
  rw [after0_7]; unfold outsAt0; frame_out
  refine Eq.trans ?_ (second_point m c t y)
  have hb := (View.read_writes_junk_eq_canon (Val := Elt Ideal) (View.whole cc0_scratch1) _).trans
    (canon_parts (k0_pay16 (iblk m c 0 t)) (k0_pay12 (grid0.coords t) (iblk m c 1 t)))
  exact (all_gated _ _ _ _ _ _ _ _ _ _ _ _ _ _ _ _ _ _ _ _ _ _ _ _ _ _ _ _ _ _ _ _ _ y).trans (congrArg (fun B => gated (iblk m c 0 t) B (iblk m c 5 t) y) hb)

theorem final6 (c : Dev nD) : (dats m 0 c).arrAt 6 (cfgs 0).N = firstR m c := by
  refine (dats m 0 c).arrAt_eq_of_covers 6 _ (by decide +kernel) fun t _ y => ?_
  blk_simp
  rw [after0_6]; unfold outsAt0; frame_out
  refine Eq.trans ?_ (first_point m c t y)
  refine congrArg (fun v => k0_pay1 (k0_pay17 v (iblk m c 3 t)) (iblk m c 4 t) y) ?_
  rw [View.readCov_eq_canon']
  funext j
  have hj : (Rect.unit (s := S256x1024) ![0, 0] ![256, 1024] inb_S256x1024_S256x1024_0_0).idx j = j :=
    funext fun a => by match a with | ⟨0, _⟩ => exact Fin.ext ((ValueKit.rect_emb_unit_val (s := S256x1024) ![0, 0] ![256, 1024] inb_S256x1024_S256x1024_0_0 j 0).trans (Nat.zero_add _)) | ⟨1, _⟩ => exact Fin.ext ((ValueKit.rect_emb_unit_val (s := S256x1024) ![0, 0] ![256, 1024] inb_S256x1024_S256x1024_0_0 j 1).trans (Nat.zero_add _))
  rw [hj]
  have ha := (View.read_writes_junk_eq_canon (Val := Elt Ideal) (View.whole cc0_scratch0) _).trans
    (canon_parts (k0_pay15 (k0_pay13 (iblk m c 0 t)) (k0_pay14 (iblk m c 0 t))) (k0_pay11 (grid0.coords t) (iblk m c 1 t)))
  exact (all_taps _ _ _ _ _ _ _ _ _ _ _ _ _ _ _ _ _ _ _ _ _ _ _ _ _ _ _ _ _ _ _ _ _ j).trans (congrArg (fun A => taps A (iblk m c 2 t) j) ha)

end Cert.KernelConvIdeal.Convs

namespace Cert.Proof

theorem algebraic_Conv : Cert.algebraic_KernelConvIdeal_ReferenceConvIdeal (hKernelConvIdeal := Cert.KernelConvIdeal.Gen.facts)
    (hReferenceConvIdeal := Cert.ReferenceConvIdeal.Gen.facts) := by
  pair_intro
  · run_from Cert.KernelConvIdeal.Gen.run_main m g
  · run_from Cert.ReferenceConvIdeal.Plain.run m' g'
    · exact (Cert.KernelConvIdeal.Convs.final6 m c).symm
    · exact (Cert.KernelConvIdeal.Convs.final7 m c).symm

end Cert.Proof
end
-- ==== Proof.Mix.lean ====
module

public import proofs.«01_k».proof.Defs
public import proofs.«01_k».proof.Proof.Gen.KernelMixIdeal.Frame
public import proofs.«01_k».proof.Proof.Gen.ReferenceMixIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceMixIdeal.Plain
open Cert.ReferenceMixIdeal Cert.ReferenceMixIdeal.Gen

/-- The three gates: the logistic function of the projected gate values plus the bias. -/
def gates (ug : FVec Ideal S8192x6144 .bf16) (gb : FVec Ideal S3x2048 .f32) : FVec Ideal S8192x3x2048 .f32 :=
  Host.divf (broadcastInDim S8192x3x2048 ![] bcast_S_S8192x3x2048 (constant S_ .f32 0x3F800000#32))
    (addf (broadcastInDim S8192x3x2048 ![] bcast_S_S8192x3x2048 (constant S_ .f32 0x3F800000#32))
      (Host.exp (Host.negf (addf (shapeCast _ (extf .f32 ug bitsLt_bf16_f32) shapeCasts_S8192x6144_S8192x3x2048)
        (broadcastInDim S8192x3x2048 ![0, 1, 2] bcast_S1x3x2048_S8192x3x2048_0_1_2
          (broadcastInDim S1x3x2048 ![1, 2] bcast_S3x2048_S1x3x2048_1_2 gb))))))

/-- One branch's output projection. -/
def branch (z : FVec Ideal S8192x1024 .bf16) (w : FVec Ideal S1024x2048 .f32) : FVec Ideal S8192x2048 .f32 :=
  Host.dotGeneral dot_S8192x1024_S1024x2048_S8192x2048_1_0_0_1_n_n none (extf .f32 z bitsLt_bf16_f32) w

/-- The gated sum of the three branches. -/
def merged (za zb zc : FVec Ideal S8192x1024 .bf16) (ug : FVec Ideal S8192x6144 .bf16) (gb : FVec Ideal S3x2048 .f32)
    (wa wb wc : FVec Ideal S1024x2048 .f32) : FVec Ideal S8192x2048 .f32 :=
  addf (addf
    (mulf (shapeCast _ (extractStridedSlice S8192x1x2048 ![0, 0, 0] (gates ug gb) slices_S8192x3x2048_S8192x1x2048_0_0_0)
      shapeCasts_S8192x1x2048_S8192x2048) (branch za wa))
    (mulf (shapeCast _ (extractStridedSlice S8192x1x2048 ![0, 1, 0] (gates ug gb) slices_S8192x3x2048_S8192x1x2048_0_1_0)
      shapeCasts_S8192x1x2048_S8192x2048) (branch zb wb)))
    (mulf (shapeCast _ (extractStridedSlice S8192x1x2048 ![0, 2, 0] (gates ug gb) slices_S8192x3x2048_S8192x1x2048_0_2_0)
      shapeCasts_S8192x1x2048_S8192x2048) (branch zc wc))

/-- The residual plus the merged branches' output projection. -/
def xn (za zb zc : FVec Ideal S8192x1024 .bf16) (ug : FVec Ideal S8192x6144 .bf16) (gb : FVec Ideal S3x2048 .f32) (x : FVec Ideal S8192x2048 .f32)
    (wa wb wc : FVec Ideal S1024x2048 .f32) (wm : FVec Ideal S2048x2048 .f32) : FVec Ideal S8192x2048 .f32 :=
  addf x (Host.dotGeneral dot_S8192x2048_S2048x2048_S8192x2048_1_0_0_1_n_n none (merged za zb zc ug gb wa wb wc) wm)

/-- A row's scale: the reciprocal root of its mean square plus the small constant. -/
def scale (A0 : FVec Ideal S8192x2048 .f32) : FVec Ideal S8192x1 .f32 :=
  Host.rsqrt (addf (Host.divf (broadcastInDim S8192x1 ![0] bcast_S8192_S8192x1_0
    (Host.reduceAdd (mulf A0 A0) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x358637BD#32)))

/-- The normalised rows times the weights, rounded to `bf16`. -/
def rms (A0 : FVec Ideal S8192x2048 .f32) (A1 : FVec Ideal S2048 .f32) : FVec Ideal S8192x2048 .bf16 :=
  truncf .bf16 (mulf (mulf A0 (broadcastInDim S8192x2048 ![0, 1] bcast_S8192x1_S8192x2048_0_1 (scale A0)))
    (broadcastInDim S8192x2048 ![0, 1] bcast_S1x2048_S8192x2048_0_1 (broadcastInDim S1x2048 ![1] bcast_S2048_S1x2048_1 A1)))
    bitsLt_bf16_f32

/-- The reference's run, its two results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = xn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v43) = rms (xn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  Cert.ReferenceMixIdeal.Value.run m ρ

end Cert.ReferenceMixIdeal.Plain

namespace Cert.KernelMixIdeal.Mix
open Cert.KernelMixIdeal Cert.KernelMixIdeal.Gen

variable (m : (ℓ : Loc nD τ sig) → Buf (Elt Ideal) ℓ)

/-- The merged branches, the new residual and its normalised rows, as the reference has them on the kernel's own arguments. -/
def mergedR (c : Dev nD) := Cert.ReferenceMixIdeal.Plain.merged (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg6)) (m ((c : Thread nD τ).loc main_arg7)) (m ((c : Thread nD τ).loc main_arg8))
def xnR (c : Dev nD) := Cert.ReferenceMixIdeal.Plain.xn (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
def rmsR (c : Dev nD) := Cert.ReferenceMixIdeal.Plain.rms (xnR m c) (m ((c : Thread nD τ).loc main_arg10))

/-- Which block each window reads or writes at a grid point. -/
theorem idx : ∀ t : Fin cfg0.N, win0_0.index t = ![t.val, 0] ∧ win0_1.index t = ![t.val, 0] ∧ win0_2.index t = ![t.val, 0] ∧ win0_3.index t = ![t.val, 0] ∧
    win0_4.index t = ![0, 0] ∧ win0_5.index t = ![t.val, 0] ∧ win0_6.index t = ![0, 0] ∧ win0_7.index t = ![0, 0] ∧
    win0_8.index t = ![0, 0] ∧ win0_9.index t = ![0, 0] ∧ win0_10.index t = ![0, 0] ∧ win0_11.index t = ![t.val, 0] ∧ win0_12.index t = ![t.val, 0] :=
  (by decide +kernel : ∀ t : Fin grid0.N, _)

/-- What the windows over the two row vectors read. -/
theorem V_bias (c : Dev nD) : V m c main_v4 = shapeCast S1x6144 (m ((c : Thread nD τ).loc main_arg4)) shapeCasts_S3x2048_S1x6144 := by
  unfold V; after_results; rfl

theorem V_row (c : Dev nD) : V m c main_v5 = shapeCast S1x2048 (m ((c : Thread nD τ).loc main_arg10)) shapeCasts_S2048_S1x2048 := by
  unfold V; after_results; rfl

/-- What the weights' windows read: the arguments, rounded. -/
theorem V_wa (c : Dev nD) : V m c main_v0 = truncf (F := Ideal) .bf16 (m ((c : Thread nD τ).loc main_arg6)) bitsLt_bf16_f32 := by
  unfold V; after_results

theorem wa_read (c : Dev nD) (t : Fin cfg0.N) (y : S1024x2048.Idx) : iblk m c 6 t y = m ((c : Thread nD τ).loc main_arg6) y := by
  show V m c main_v0 (((cfg0.win 6).blk t).view.emb y) = _
  rw [V_wa]
  pointwise
  blk_point [idx t]

theorem V_wb (c : Dev nD) : V m c main_v1 = truncf (F := Ideal) .bf16 (m ((c : Thread nD τ).loc main_arg7)) bitsLt_bf16_f32 := by
  unfold V; after_results

theorem wb_read (c : Dev nD) (t : Fin cfg0.N) (y : S1024x2048.Idx) : iblk m c 7 t y = m ((c : Thread nD τ).loc main_arg7) y := by
  show V m c main_v1 (((cfg0.win 7).blk t).view.emb y) = _
  rw [V_wb]
  pointwise
  blk_point [idx t]

theorem V_wc (c : Dev nD) : V m c main_v2 = truncf (F := Ideal) .bf16 (m ((c : Thread nD τ).loc main_arg8)) bitsLt_bf16_f32 := by
  unfold V; after_results

theorem wc_read (c : Dev nD) (t : Fin cfg0.N) (y : S1024x2048.Idx) : iblk m c 8 t y = m ((c : Thread nD τ).loc main_arg8) y := by
  show V m c main_v2 (((cfg0.win 8).blk t).view.emb y) = _
  rw [V_wc]
  pointwise
  blk_point [idx t]

theorem V_wm (c : Dev nD) : V m c main_v3 = truncf (F := Ideal) .bf16 (m ((c : Thread nD τ).loc main_arg9)) bitsLt_bf16_f32 := by
  unfold V; after_results

theorem wm_read (c : Dev nD) (t : Fin cfg0.N) (y : S2048x2048.Idx) : iblk m c 9 t y = m ((c : Thread nD τ).loc main_arg9) y := by
  show V m c main_v3 (((cfg0.win 9).blk t).view.emb y) = _
  rw [V_wm]
  pointwise
  blk_point [idx t]

theorem row_read (c : Dev nD) (t : Fin cfg0.N) (y : S1x2048.Idx) : iblk m c 10 t y = (m ((c : Thread nD τ).loc main_arg10)) (ix1 (y 1)) := by
  show V m c main_v5 (((cfg0.win 10).blk t).view.emb y) = _
  rw [V_row]
  pointwise
  blk_point [idx t]

theorem bias_read (c : Dev nD) (t : Fin cfg0.N) (b : Fin 3) (j : Fin 2048) (k : Fin 6144) (hk : k.val = b.val * 2048 + j.val) :
    iblk m c 4 t (ix2 0 k) = (m ((c : Thread nD τ).loc main_arg4)) (ix2 b j) := by
  show V m c main_v4 (((cfg0.win 4).blk t).view.emb (ix2 0 k)) = _
  rw [V_bias, show ((cfg0.win 4).blk t).view.emb (ix2 0 k) = (ix2 0 k : S1x6144.Idx) by blk_ext [idx t]]
  refine shapeCast_apply (s := S3x2048) _ _ _ _ ?_
  rw [Shape.rowMajor_val_two, Shape.rowMajor_val_two]
  show b.val * 2048 + j.val = 0 * 6144 + k.val
  omega

/-- A block of merged branches is the same rows of the reference's. -/
theorem merged_point (c : Dev nD) (t : Fin cfg0.N) (y) : k0_pay4 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = mergedR m c (((cfg0.win 11).blk t).view.emb y) := by
  unfold k0_pay4
  pointwise [k0_pay3, mergedR, Cert.ReferenceMixIdeal.Plain.merged, Cert.ReferenceMixIdeal.Plain.branch, Cert.ReferenceMixIdeal.Plain.gates]
  rw [bias_read m c t 0 (y 1) ⟨(y 1).val, _⟩ (by simp), bias_read m c t 1 (y 1) ⟨2048 + (y 1).val, _⟩ rfl,
    bias_read m c t 2 (y 1) ⟨4096 + (y 1).val, _⟩ rfl]
  simp only [zero_sub, wa_read, wb_read, wc_read]
  blk_point [iblk, V, idx t]

theorem xn_point (c : Dev nD) (t : Fin cfg0.N) (y) : k0_pay1 (iblk m c 5 t) (k0_pay4 (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 9 t) y
    = xnR m c (((cfg0.win 11).blk t).view.emb y) := by
  pointwise [k0_pay1, xnR, Cert.ReferenceMixIdeal.Plain.xn]
  simp only [merged_point, wm_read]
  blk_point [iblk, V, idx t, mergedR]

theorem rms_point (c : Dev nD) (t : Fin cfg0.N) (y) :
    k0_pay2 (iblk m c 5 t) (k0_pay4 (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 9 t) (iblk m c 10 t) y
    = rmsR m c (((cfg0.win 12).blk t).view.emb y) := by
  pointwise [k0_pay2, rmsR, Cert.ReferenceMixIdeal.Plain.rms, Cert.ReferenceMixIdeal.Plain.scale]
  simp only [xn_point, row_read]
  blk_point [idx t, xnR]

/-- The two output arrays are the reference's two results. -/
theorem final_xn (c : Dev nD) : (dats m 0 c).arrAt 11 (cfgs 0).N = xnR m c := by
  refine (dats m 0 c).arrAt_eq_of_covers 11 _ (by decide +kernel) fun t _ y => ?_
  blk_simp
  rw [after0_11]; frame_out
  exact xn_point m c t y

theorem final_rms (c : Dev nD) : (dats m 0 c).arrAt 12 (cfgs 0).N = rmsR m c := by
  refine (dats m 0 c).arrAt_eq_of_covers 12 _ (by decide +kernel) fun t _ y => ?_
  blk_simp
  rw [after0_12]; frame_out
  exact rms_point m c t y

end Cert.KernelMixIdeal.Mix

namespace Cert.Proof

theorem algebraic_Mix : Cert.algebraic_KernelMixIdeal_ReferenceMixIdeal (hKernelMixIdeal := Cert.KernelMixIdeal.Gen.facts)
    (hReferenceMixIdeal := Cert.ReferenceMixIdeal.Gen.facts) := by
  pair_intro
  · run_from Cert.KernelMixIdeal.Gen.run_main m g
  · run_from Cert.ReferenceMixIdeal.Plain.run m' g'
    · exact (Cert.KernelMixIdeal.Mix.final_xn m c).symm
    · exact (Cert.KernelMixIdeal.Mix.final_rms m c).symm

end Cert.Proof
end
-- ==== Proof.MixUp.lean ====
module

public import proofs.«01_k».proof.Defs
public import proofs.«01_k».proof.Proof.Gen.KernelMixUpIdeal.Frame
public import proofs.«01_k».proof.Proof.Gen.ReferenceMixUpIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceMixUpIdeal.Plain
open Cert.ReferenceMixUpIdeal Cert.ReferenceMixUpIdeal.Gen

/-- The three gates: the logistic function of the projected gate values plus the bias. -/
def gates (ug : FVec Ideal S8192x6144 .bf16) (gb : FVec Ideal S3x2048 .f32) : FVec Ideal S8192x3x2048 .f32 :=
  Host.divf (broadcastInDim S8192x3x2048 ![] bcast_S_S8192x3x2048 (constant S_ .f32 0x3F800000#32))
    (addf (broadcastInDim S8192x3x2048 ![] bcast_S_S8192x3x2048 (constant S_ .f32 0x3F800000#32))
      (Host.exp (Host.negf (addf (shapeCast _ (extf .f32 ug bitsLt_bf16_f32) shapeCasts_S8192x6144_S8192x3x2048)
        (broadcastInDim S8192x3x2048 ![0, 1, 2] bcast_S1x3x2048_S8192x3x2048_0_1_2
          (broadcastInDim S1x3x2048 ![1, 2] bcast_S3x2048_S1x3x2048_1_2 gb))))))

/-- One branch's output projection. -/
def branch (z : FVec Ideal S8192x1024 .bf16) (w : FVec Ideal S1024x2048 .f32) : FVec Ideal S8192x2048 .f32 :=
  Host.dotGeneral dot_S8192x1024_S1024x2048_S8192x2048_1_0_0_1_n_n none (extf .f32 z bitsLt_bf16_f32) w

/-- The gated sum of the three branches. -/
def merged (za zb zc : FVec Ideal S8192x1024 .bf16) (ug : FVec Ideal S8192x6144 .bf16) (gb : FVec Ideal S3x2048 .f32)
    (wa wb wc : FVec Ideal S1024x2048 .f32) : FVec Ideal S8192x2048 .f32 :=
  addf (addf
    (mulf (shapeCast _ (extractStridedSlice S8192x1x2048 ![0, 0, 0] (gates ug gb) slices_S8192x3x2048_S8192x1x2048_0_0_0)
      shapeCasts_S8192x1x2048_S8192x2048) (branch za wa))
    (mulf (shapeCast _ (extractStridedSlice S8192x1x2048 ![0, 1, 0] (gates ug gb) slices_S8192x3x2048_S8192x1x2048_0_1_0)
      shapeCasts_S8192x1x2048_S8192x2048) (branch zb wb)))
    (mulf (shapeCast _ (extractStridedSlice S8192x1x2048 ![0, 2, 0] (gates ug gb) slices_S8192x3x2048_S8192x1x2048_0_2_0)
      shapeCasts_S8192x1x2048_S8192x2048) (branch zc wc))

/-- The residual plus the merged branches' output projection. -/
def xn (za zb zc : FVec Ideal S8192x1024 .bf16) (ug : FVec Ideal S8192x6144 .bf16) (gb : FVec Ideal S3x2048 .f32) (x : FVec Ideal S8192x2048 .f32)
    (wa wb wc : FVec Ideal S1024x2048 .f32) (wm : FVec Ideal S2048x2048 .f32) : FVec Ideal S8192x2048 .f32 :=
  addf x (Host.dotGeneral dot_S8192x2048_S2048x2048_S8192x2048_1_0_0_1_n_n none (merged za zb zc ug gb wa wb wc) wm)

/-- A row's scale: the reciprocal root of its mean square plus the small constant. -/
def scale (A0 : FVec Ideal S8192x2048 .f32) : FVec Ideal S8192x1 .f32 :=
  Host.rsqrt (addf (Host.divf (broadcastInDim S8192x1 ![0] bcast_S8192_S8192x1_0
    (Host.reduceAdd (mulf A0 A0) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x358637BD#32)))

/-- The normalised rows times the weights. -/
def rms (A0 : FVec Ideal S8192x2048 .f32) (A1 : FVec Ideal S2048 .f32) : FVec Ideal S8192x2048 .f32 :=
  (mulf (mulf A0 (broadcastInDim S8192x2048 ![0, 1] bcast_S8192x1_S8192x2048_0_1 (scale A0)))
    (broadcastInDim S8192x2048 ![0, 1] bcast_S1x2048_S8192x2048_0_1 (broadcastInDim S1x2048 ![1] bcast_S2048_S1x2048_1 A1)))

/-- The MLP's first product of the normalised rows. -/
def prod (h : FVec Ideal S8192x2048 .f32) (w : FVec Ideal S2048x8192 .f32) : FVec Ideal S8192x8192 .f32 :=
  Host.dotGeneral dot_S8192x2048_S2048x8192_S8192x8192_1_0_0_1_n_n none h w

/-- The product's positive part. -/
def relu (h : FVec Ideal S8192x2048 .f32) (w : FVec Ideal S2048x8192 .f32) : FVec Ideal S8192x8192 .f32 :=
  maximumf (prod h w) (broadcastInDim S8192x8192 ![] bcast_S_S8192x8192 (constant S_ .f32 0x00000000#32))

/-- The squared positive part, rounded to `bf16`. -/
def up (h : FVec Ideal S8192x2048 .f32) (w : FVec Ideal S2048x8192 .f32) : FVec Ideal S8192x8192 .bf16 :=
  truncf .bf16 (mulf (relu h w) (relu h w)) bitsLt_bf16_f32

/-- The reference's run, its two results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = xn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v46) = up (rms (xn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg10))) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  Cert.ReferenceMixUpIdeal.Value.run m ρ

end Cert.ReferenceMixUpIdeal.Plain

namespace Cert.KernelMixUpIdeal.MixUp
open Cert.KernelMixUpIdeal Cert.KernelMixUpIdeal.Gen

variable (m : (ℓ : Loc nD τ sig) → Buf (Elt Ideal) ℓ) (ρ : Dev nD → PrngReg)

/-- The merged branches, the new residual and its normalised rows, as the reference has them on the kernel's own arguments. -/
def mergedR (c : Dev nD) := Cert.ReferenceMixUpIdeal.Plain.merged (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg6)) (m ((c : Thread nD τ).loc main_arg7)) (m ((c : Thread nD τ).loc main_arg8))
def xnR (c : Dev nD) := Cert.ReferenceMixUpIdeal.Plain.xn (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
def rmsR (c : Dev nD) := Cert.ReferenceMixUpIdeal.Plain.rms (xnR m c) (m ((c : Thread nD τ).loc main_arg10))

/-- Which block each window reads or writes at a grid point. -/
theorem idx : ∀ t : Fin cfg0.N, win0_0.index t = ![t.val, 0] ∧ win0_1.index t = ![t.val, 0] ∧ win0_2.index t = ![t.val, 0] ∧ win0_3.index t = ![t.val, 0] ∧
    win0_4.index t = ![0, 0] ∧ win0_5.index t = ![t.val, 0] ∧ win0_6.index t = ![0, 0] ∧ win0_7.index t = ![0, 0] ∧
    win0_8.index t = ![0, 0] ∧ win0_9.index t = ![0, 0] ∧ win0_10.index t = ![0, 0] ∧ win0_11.index t = ![t.val, 0] ∧ win0_12.index t = ![t.val, 0] :=
  (by decide +kernel : ∀ t : Fin grid0.N, _)

/-- The arguments that the first region's windows read as they are. -/
theorem at0 (c : Dev nD) : V1 m ρ c main_arg0 = m ((c : Thread nD τ).loc main_arg0) := W1_args m ρ c main_arg0 (by decide)
theorem at1 (c : Dev nD) : V1 m ρ c main_arg1 = m ((c : Thread nD τ).loc main_arg1) := W1_args m ρ c main_arg1 (by decide)
theorem at2 (c : Dev nD) : V1 m ρ c main_arg2 = m ((c : Thread nD τ).loc main_arg2) := W1_args m ρ c main_arg2 (by decide)
theorem at3 (c : Dev nD) : V1 m ρ c main_arg3 = m ((c : Thread nD τ).loc main_arg3) := W1_args m ρ c main_arg3 (by decide)
theorem at5 (c : Dev nD) : V1 m ρ c main_arg5 = m ((c : Thread nD τ).loc main_arg5) := W1_args m ρ c main_arg5 (by decide)

/-- What the windows over the two row vectors read. -/
theorem V_bias (c : Dev nD) : V1 m ρ c main_v4 = shapeCast S1x6144 (m ((c : Thread nD τ).loc main_arg4)) shapeCasts_S3x2048_S1x6144 := by
  unfold V1 W1; after_results; rfl

theorem V_row (c : Dev nD) : V1 m ρ c main_v5 = shapeCast S1x2048 (m ((c : Thread nD τ).loc main_arg10)) shapeCasts_S2048_S1x2048 := by
  unfold V1 W1; after_results; rfl

/-- What the weights' windows read: the arguments, rounded. -/
theorem V_wa (c : Dev nD) : V1 m ρ c main_v0 = truncf (F := Ideal) .bf16 (m ((c : Thread nD τ).loc main_arg6)) bitsLt_bf16_f32 := by
  unfold V1 W1; after_results

theorem wa_read (c : Dev nD) (t : Fin cfg0.N) (y : S1024x2048.Idx) : iblk0 (V1 m ρ) c 6 t y = m ((c : Thread nD τ).loc main_arg6) y := by
  show V1 m ρ c main_v0 (((cfg0.win 6).blk t).view.emb y) = _
  rw [V_wa]
  pointwise
  blk_point [idx t]

theorem V_wb (c : Dev nD) : V1 m ρ c main_v1 = truncf (F := Ideal) .bf16 (m ((c : Thread nD τ).loc main_arg7)) bitsLt_bf16_f32 := by
  unfold V1 W1; after_results

theorem wb_read (c : Dev nD) (t : Fin cfg0.N) (y : S1024x2048.Idx) : iblk0 (V1 m ρ) c 7 t y = m ((c : Thread nD τ).loc main_arg7) y := by
  show V1 m ρ c main_v1 (((cfg0.win 7).blk t).view.emb y) = _
  rw [V_wb]
  pointwise
  blk_point [idx t]

theorem V_wc (c : Dev nD) : V1 m ρ c main_v2 = truncf (F := Ideal) .bf16 (m ((c : Thread nD τ).loc main_arg8)) bitsLt_bf16_f32 := by
  unfold V1 W1; after_results

theorem wc_read (c : Dev nD) (t : Fin cfg0.N) (y : S1024x2048.Idx) : iblk0 (V1 m ρ) c 8 t y = m ((c : Thread nD τ).loc main_arg8) y := by
  show V1 m ρ c main_v2 (((cfg0.win 8).blk t).view.emb y) = _
  rw [V_wc]
  pointwise
  blk_point [idx t]

theorem V_wm (c : Dev nD) : V1 m ρ c main_v3 = truncf (F := Ideal) .bf16 (m ((c : Thread nD τ).loc main_arg9)) bitsLt_bf16_f32 := by
  unfold V1 W1; after_results

theorem wm_read (c : Dev nD) (t : Fin cfg0.N) (y : S2048x2048.Idx) : iblk0 (V1 m ρ) c 9 t y = m ((c : Thread nD τ).loc main_arg9) y := by
  show V1 m ρ c main_v3 (((cfg0.win 9).blk t).view.emb y) = _
  rw [V_wm]
  pointwise
  blk_point [idx t]

theorem row_read (c : Dev nD) (t : Fin cfg0.N) (y : S1x2048.Idx) : iblk0 (V1 m ρ) c 10 t y = (m ((c : Thread nD τ).loc main_arg10)) (ix1 (y 1)) := by
  show V1 m ρ c main_v5 (((cfg0.win 10).blk t).view.emb y) = _
  rw [V_row]
  pointwise
  blk_point [idx t]

theorem bias_read (c : Dev nD) (t : Fin cfg0.N) (b : Fin 3) (j : Fin 2048) (k : Fin 6144) (hk : k.val = b.val * 2048 + j.val) :
    iblk0 (V1 m ρ) c 4 t (ix2 0 k) = (m ((c : Thread nD τ).loc main_arg4)) (ix2 b j) := by
  show V1 m ρ c main_v4 (((cfg0.win 4).blk t).view.emb (ix2 0 k)) = _
  rw [V_bias, show ((cfg0.win 4).blk t).view.emb (ix2 0 k) = (ix2 0 k : S1x6144.Idx) by blk_ext [idx t]]
  refine shapeCast_apply (s := S3x2048) _ _ _ _ ?_
  rw [Shape.rowMajor_val_two, Shape.rowMajor_val_two]
  show b.val * 2048 + j.val = 0 * 6144 + k.val
  omega

/-- A block of merged branches is the same rows of the reference's. -/
theorem merged_point (c : Dev nD) (t : Fin cfg0.N) (y) : k0_pay4 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) y
    = mergedR m c (((cfg0.win 11).blk t).view.emb y) := by
  unfold k0_pay4
  pointwise [k0_pay3, mergedR, Cert.ReferenceMixUpIdeal.Plain.merged, Cert.ReferenceMixUpIdeal.Plain.branch, Cert.ReferenceMixUpIdeal.Plain.gates]
  rw [bias_read m ρ c t 0 (y 1) ⟨(y 1).val, _⟩ (by simp), bias_read m ρ c t 1 (y 1) ⟨2048 + (y 1).val, _⟩ rfl,
    bias_read m ρ c t 2 (y 1) ⟨4096 + (y 1).val, _⟩ rfl]
  simp only [zero_sub, wa_read, wb_read, wc_read]
  blk_point [iblk0, at0, at1, at2, at3, at5, idx t]

theorem xn_point (c : Dev nD) (t : Fin cfg0.N) (y) : k0_pay1 (iblk0 (V1 m ρ) c 5 t) (k0_pay4 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t)) (iblk0 (V1 m ρ) c 9 t) y
    = xnR m c (((cfg0.win 11).blk t).view.emb y) := by
  pointwise [k0_pay1, xnR, Cert.ReferenceMixUpIdeal.Plain.xn]
  simp only [merged_point, wm_read]
  blk_point [iblk0, at0, at1, at2, at3, at5, idx t, mergedR]

theorem rms_point (c : Dev nD) (t : Fin cfg0.N) (y) :
    k0_pay2 (iblk0 (V1 m ρ) c 5 t) (k0_pay4 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t)) (iblk0 (V1 m ρ) c 9 t) (iblk0 (V1 m ρ) c 10 t) y
    = rmsR m c (((cfg0.win 12).blk t).view.emb y) := by
  pointwise [k0_pay2, rmsR, Cert.ReferenceMixUpIdeal.Plain.rms, Cert.ReferenceMixUpIdeal.Plain.scale]
  simp only [xn_point, row_read]
  blk_point [idx t, xnR]

/-- The two output arrays are the reference's two results. -/
theorem final_xn (c : Dev nD) : (dat0 (V1 m ρ) c).arrAt 11 cfg0.N = xnR m c := by
  refine (dat0 (V1 m ρ) c).arrAt_eq_of_covers 11 _ (by decide +kernel) fun t _ y => ?_
  blk_simp
  rw [after0_11]; frame_out
  exact xn_point m ρ c t y

theorem final_rms (c : Dev nD) : (dat0 (V1 m ρ) c).arrAt 12 cfg0.N = rmsR m c := by
  refine (dat0 (V1 m ρ) c).arrAt_eq_of_covers 12 _ (by decide +kernel) fun t _ y => ?_
  blk_simp
  rw [after0_12]; frame_out
  exact rms_point m ρ c t y

/-- The MLP's first half, as the reference has it on the kernel's own arguments. -/
def upR (c : Dev nD) := Cert.ReferenceMixUpIdeal.Plain.up (rmsR m c) (m ((c : Thread nD τ).loc main_arg11))

/-- Which block each window of the second region reads or writes at a grid point. -/
theorem idx1 : ∀ t : Fin cfg1.N, win1_0.index t = ![t.val / 8, 0] ∧ win1_1.index t = ![0, t.val % 8]
    ∧ win1_2.index t = ![t.val / 8, t.val % 8] :=
  (by decide +kernel : ∀ t : Fin grid1.N, _)

/-- What the second region's windows read: the first region's normalised rows, and the last weights, rounded. -/
theorem V3_h (c : Dev nD) : V3 m ρ c main_v6_1 = rmsR m c :=
  (W3_of m ρ c main_v6_1 (by decide)).trans ((W2_arr m ρ c 12).trans (final_rms m ρ c))

theorem V3_w (c : Dev nD) : V3 m ρ c main_v7 = truncf (F := Ideal) .bf16 (m ((c : Thread nD τ).loc main_arg11)) bitsLt_bf16_f32 := by
  rw [← W2_args m ρ c main_arg11 (by decide)]
  unfold V3 W3; after_results

/-- A block the second region stores is the same block of the reference's. -/
theorem up_point (c : Dev nD) (t : Fin cfg1.N) (y) : k1_pay1 (iblk1 (V3 m ρ) c 0 t) (iblk1 (V3 m ρ) c 1 t) y
    = upR m c (((cfg1.win 2).blk t).view.emb y) := by
  pointwise [k1_pay1, upR, Cert.ReferenceMixUpIdeal.Plain.up, Cert.ReferenceMixUpIdeal.Plain.relu, Cert.ReferenceMixUpIdeal.Plain.prod]
  blk_simp [iblk1]
  rw [V3_h, V3_w]
  pointwise
  blk_point [idx1 t]

theorem final_up (c : Dev nD) : (dat1 (V3 m ρ) c).arrAt 2 cfg1.N = upR m c := by
  refine (dat1 (V3 m ρ) c).arrAt_eq_of_covers 2 _ (by decide +kernel) fun t _ y => ?_
  blk_simp
  rw [after1_2]; frame_out
  exact up_point m ρ c t y

section Run

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

set_option backward.isDefEq.respectTransparency.types false in
/-- The kernel's run: its two results are the reference's, and the arguments end as launched. -/
theorem run : θ_run defs (onTc (τ := τ) (main (F := Ideal))) ⟨m, fun _ => 0, ρ⟩ (fun r => ∀ c : Dev nD,
      r.2.mem ((c.tc : Thread nD τ).loc main_v6_0) = xnR m c
      ∧ r.2.mem ((c.tc : Thread nD τ).loc main_v8) = upR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨((h c _ (mem_uc main_v6_0 (by decide))).trans ((W4_of m ρ c main_v6_0 (by decide)).trans (W3_of m ρ c main_v6_0 (by decide)))).trans
        ((W2_arr m ρ c 11).trans (final_xn m ρ c)),
       (h c _ (mem_uc main_v8 (by decide))).trans ((W4_arr m ρ c 2).trans (final_up m ρ c)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Run

end Cert.KernelMixUpIdeal.MixUp

namespace Cert.Proof

theorem algebraic_MixUp : Cert.algebraic_KernelMixUpIdeal_ReferenceMixUpIdeal (hKernelMixUpIdeal := Cert.KernelMixUpIdeal.Gen.facts)
    (hReferenceMixUpIdeal := Cert.ReferenceMixUpIdeal.Gen.facts) := by
  pair_intro
  · run_from Cert.KernelMixUpIdeal.MixUp.run m g
  · run_from Cert.ReferenceMixUpIdeal.Plain.run m' g' <;> rfl

end Cert.Proof
end
-- ==== Proof.Proj.lean ====
module

public import proofs.«01_k».proof.Defs
public import proofs.«01_k».proof.Proof.Gen.KernelProjIdeal.Frame
public import proofs.«01_k».proof.Proof.Gen.ReferenceProjIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceProjIdeal.Plain
open Cert.ReferenceProjIdeal Cert.ReferenceProjIdeal.Gen

/-- A row's scale: the reciprocal root of its mean square plus the small constant. -/
def scale (A0 : FVec Ideal S4x2048x2048 .f32) : FVec Ideal S4x2048x1 .f32 :=
  Host.rsqrt (addf (Host.divf (broadcastInDim S4x2048x1 ![0, 1] bcast_S4x2048_S4x2048x1_0_1
    (Host.reduceAdd (mulf A0 A0) (constant S_ .f32 0x00000000#32) reducesTo_S4x2048x2048_S4x2048_d2 h_S_))
    (broadcastInDim S4x2048x1 ![] bcast_S_S4x2048x1 (constant S_ .f32 0x45000000#32)))
    (broadcastInDim S4x2048x1 ![] bcast_S_S4x2048x1 (constant S_ .f32 0x358637BD#32)))

/-- The normalised rows times the weights. -/
def rms (A0 : FVec Ideal S4x2048x2048 .f32) (A1 : FVec Ideal S2048 .f32) : FVec Ideal S4x2048x2048 .f32 :=
  mulf (mulf A0 (broadcastInDim S4x2048x2048 ![0, 1, 2] bcast_S4x2048x1_S4x2048x2048_0_1_2 (scale A0)))
    (broadcastInDim S4x2048x2048 ![0, 1, 2] bcast_S1x1x2048_S4x2048x2048_0_1_2 (broadcastInDim S1x1x2048 ![2] bcast_S2048_S1x1x2048_2 A1))

/-- The projection `rmsnorm(x) @ w_in`, its rows one under the other. -/
def u (A0 : FVec Ideal S4x2048x2048 .f32) (A1 : FVec Ideal S2048 .f32) (A2 : FVec Ideal S2048x12800 .f32) : FVec Ideal S8192x12800 .f32 :=
  shapeCast _ (Host.dotGeneral dot_S4x2048x2048_S2048x12800_S4x2048x12800_2_0_01_1_n_n none (rms A0 A1) A2) shapeCasts_S4x2048x12800_S8192x12800

/-- The batch and the position of a row. -/
def bat (k : Fin 8192) : Fin 4 := ⟨k.val / 2048, by omega⟩
def pos (k : Fin 8192) : Fin 2048 := ⟨k.val % 2048, by omega⟩

/-- The normalised rows, one under the other. -/
def rows (A0 : FVec Ideal S4x2048x2048 .f32) (A1 : FVec Ideal S2048 .f32) : (⟨2, ![8192, 2048]⟩ : Shape).Idx → EReal :=
  fun y => rms A0 A1 (ix3 (bat (y 0)) (pos (y 0)) (y 1))

/-- An entry of the projection is the product of the normalised row and the weights' column. -/
theorem u_apply (A0 : FVec Ideal S4x2048x2048 .f32) (A1 : FVec Ideal S2048 .f32) (A2 : FVec Ideal S2048x12800 .f32) (k : Fin 8192) (j : Fin 12800) :
    u A0 A1 A2 (ix2 k j) = ∑ i : Fin 2048, rows A0 A1 (ix2 k i) * A2 (ix2 i j) := by
  refine (shapeCast_apply (s := S4x2048x12800) _ _ _ (ix3 (bat k) (pos k) j) ?_).trans ?_
  · rw [Shape.rowMajor_val_three, Shape.rowMajor_val_two]
    show (k.val / 2048 * 2048 + k.val % 2048) * 12800 + j.val = k.val * 12800 + j.val
    omega
  · pointwise [rows]

/-- The projection's columns for the convolutions, rounded to `bf16`. -/
def uc (A0 : FVec Ideal S4x2048x2048 .f32) (A1 : FVec Ideal S2048 .f32) (A2 : FVec Ideal S2048x12800 .f32) : FVec Ideal S8192x5120 .bf16 :=
  truncf .bf16 (extractStridedSlice S8192x5120 ![0, 0] (u A0 A1 A2) slices_S8192x12800_S8192x5120_0_0) bitsLt_bf16_f32

/-- The projection's columns for the attention, rounded to `bf16`. -/
def uq (A0 : FVec Ideal S4x2048x2048 .f32) (A1 : FVec Ideal S2048 .f32) (A2 : FVec Ideal S2048x12800 .f32) : FVec Ideal S8192x1536 .bf16 :=
  truncf .bf16 (extractStridedSlice S8192x1536 ![0, 5120] (u A0 A1 A2) slices_S8192x12800_S8192x1536_0_5120) bitsLt_bf16_f32

/-- The projection's columns for the gates, rounded to `bf16`. -/
def ug (A0 : FVec Ideal S4x2048x2048 .f32) (A1 : FVec Ideal S2048 .f32) (A2 : FVec Ideal S2048x12800 .f32) : FVec Ideal S8192x6144 .bf16 :=
  truncf .bf16 (extractStridedSlice S8192x6144 ![0, 6656] (u A0 A1 A2) slices_S8192x12800_S8192x6144_0_6656) bitsLt_bf16_f32

/-- The reference's run, its three results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = uc (m ((c.tc : Thread nD τ).loc main_arg0)) (m ((c.tc : Thread nD τ).loc main_arg1)) (m ((c.tc : Thread nD τ).loc main_arg2))
      ∧ r.2.mem ((c.tc : Thread nD τ).loc main_v18) = uq (m ((c.tc : Thread nD τ).loc main_arg0)) (m ((c.tc : Thread nD τ).loc main_arg1)) (m ((c.tc : Thread nD τ).loc main_arg2))
      ∧ r.2.mem ((c.tc : Thread nD τ).loc main_v20) = ug (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceProjIdeal.Value.run m ρ

end Cert.ReferenceProjIdeal.Plain

namespace Cert.KernelProjIdeal.Proj
open Cert.KernelProjIdeal Cert.KernelProjIdeal.Gen
open Cert.ReferenceProjIdeal.Plain (bat pos rms scale)

variable (m : (ℓ : Loc nD τ sig) → Buf (Elt Ideal) ℓ) (ρ : Dev nD → PrngReg)

/-- The normalised rows, one under the other, as the reference has them on the kernel's own arguments. -/
def hR (c : Dev nD) : FVec Ideal S8192x2048 .bf16 := Cert.ReferenceProjIdeal.Plain.rows (m ((c : Thread nD τ).loc main_arg0)) (m ((c : Thread nD τ).loc main_arg1))

/-- Which block each window of the norm reads or writes at a grid point. -/
theorem idx0 : ∀ t : Fin cfg0.N, win0_0.index t = ![t.val, 0] ∧ win0_1.index t = ![0, 0] ∧ win0_2.index t = ![t.val, 0] :=
  (by decide +kernel : ∀ t : Fin grid0.N, _)

/-- What the norm's two windows read: the arguments, laid out as rows. -/
theorem V1_rows (c : Dev nD) : V1 m ρ c main_v0 = shapeCast S8192x2048 (m ((c : Thread nD τ).loc main_arg0)) shapeCasts_S4x2048x2048_S8192x2048 := by
  unfold V1 W1; after_results; rfl

theorem V1_row (c : Dev nD) : V1 m ρ c main_v1 = shapeCast S1x2048 (m ((c : Thread nD τ).loc main_arg1)) shapeCasts_S2048_S1x2048 := by
  unfold V1 W1; after_results; rfl

theorem x_read (c : Dev nD) (t : Fin cfg0.N) (y : S512x2048.Idx) (z : S8192x2048.Idx) (hz : ((cfg0.win 0).blk t).view.emb y = z) :
    iblk0 (V1 m ρ) c 0 t y = m ((c : Thread nD τ).loc main_arg0) (ix3 (bat (z 0)) (pos (z 0)) (z 1)) := by
  show V1 m ρ c main_v0 (((cfg0.win 0).blk t).view.emb y) = _
  rw [V1_rows, hz]
  refine shapeCast_apply (s := S4x2048x2048) _ _ _ _ ?_
  rw [Shape.rowMajor_val_three, Shape.rowMajor_val_two]
  show ((z 0).val / 2048 * 2048 + (z 0).val % 2048) * 2048 + (z 1).val = (z 0).val * 2048 + (z 1).val
  omega

/-- The row of the whole array that a row of a grid point's block is. -/
def row (t : Fin cfg0.N) (r : Fin 512) : Fin 8192 :=
  ⟨t.val * 512 + r.val, by have := t.isLt; have : cfg0.N = 16 := (by decide); omega⟩

theorem x_at (c : Dev nD) (t : Fin cfg0.N) (y : S512x2048.Idx) :
    iblk0 (V1 m ρ) c 0 t y = m ((c : Thread nD τ).loc main_arg0) (ix3 (bat (row t (y 0))) (pos (row t (y 0))) (y 1)) :=
  x_read m ρ c t y (ix2 (row t (y 0)) (y 1)) (by blk_ext [idx0 t, row])

theorem g_at (c : Dev nD) (t : Fin cfg0.N) (y : S1x2048.Idx) :
    iblk0 (V1 m ρ) c 1 t y = m ((c : Thread nD τ).loc main_arg1) (ix1 (y 1)) := by
  show V1 m ρ c main_v1 (((cfg0.win 1).blk t).view.emb y) = _
  rw [V1_row]
  pointwise
  blk_point [idx0 t]

/-- A block the norm stores is the same block of the reference's normalised rows. -/
theorem h_point (c : Dev nD) (t : Fin cfg0.N) (y) : k0_pay1 (iblk0 (V1 m ρ) c 0 t) (iblk0 (V1 m ρ) c 1 t) y
    = hR m c (((cfg0.win 2).blk t).view.emb y) := by
  rw [show ((cfg0.win 2).blk t).view.emb y = (ix2 (row t (y 0)) (y 1) : S8192x2048.Idx) by blk_ext [idx0 t, row]]
  pointwise [k0_pay1, hR, Cert.ReferenceProjIdeal.Plain.rows, rms, scale]
  simp only [g_at, x_at]
  rfl

/-- The norm's whole output array is the reference's. -/
theorem final_h (c : Dev nD) : (dat0 (V1 m ρ) c).arrAt 2 cfg0.N = hR m c := by
  refine (dat0 (V1 m ρ) c).arrAt_eq_of_covers 2 _ (by decide +kernel) fun t _ y => ?_
  blk_simp
  rw [after0_2]; frame_out
  exact h_point m ρ c t y

/-- The rounded weights, at each of the three products. -/
theorem w_1 (c : Dev nD) : W3 m ρ c main_v3 = truncf (F := Ideal) .bf16 (m ((c : Thread nD τ).loc main_arg2)) bitsLt_bf16_f32 := by
  rw [← W2_args m ρ c main_arg2 (by decide)]
  unfold W3; after_results
theorem w_2 (c : Dev nD) : W4 m ρ c main_v3 = truncf (F := Ideal) .bf16 (m ((c : Thread nD τ).loc main_arg2)) bitsLt_bf16_f32 :=
  (W4_of m ρ c main_v3 (by decide)).trans (w_1 m ρ c)
theorem w_3 (c : Dev nD) : W6 m ρ c main_v3 = truncf (F := Ideal) .bf16 (m ((c : Thread nD τ).loc main_arg2)) bitsLt_bf16_f32 :=
  (W6_of m ρ c main_v3 (by decide)).trans ((W5_of m ρ c main_v3 (by decide)).trans (w_2 m ρ c))

/-- The normalised rows, at each of the three products. -/
theorem h_1 (c : Dev nD) : V3 m ρ c main_v2 = hR m c :=
  (W3_of m ρ c main_v2 (by decide)).trans ((W2_arr m ρ c 2).trans (final_h m ρ c))
theorem h_2 (c : Dev nD) : V5 m ρ c main_v2 = hR m c :=
  (W5_of m ρ c main_v2 (by decide)).trans ((W4_of m ρ c main_v2 (by decide)).trans (h_1 m ρ c))
theorem h_3 (c : Dev nD) : V7 m ρ c main_v2 = hR m c :=
  (W7_of m ρ c main_v2 (by decide)).trans ((W6_of m ρ c main_v2 (by decide)).trans (h_2 m ρ c))

/-! The product for the convolutions. -/

def ucR (c : Dev nD) := Cert.ReferenceProjIdeal.Plain.uc (m ((c : Thread nD τ).loc main_arg0)) (m ((c : Thread nD τ).loc main_arg1)) (m ((c : Thread nD τ).loc main_arg2))

theorem idx1 : ∀ t : Fin cfg1.N, win1_0.index t = ![t.val / 4, 0] ∧ win1_1.index t = ![0, t.val % 4] ∧ win1_2.index t = ![t.val / 4, t.val % 4] :=
  (by decide +kernel : ∀ t : Fin grid1.N, _)

theorem cols_1 (c : Dev nD) : V3 m ρ c main_v4 = extractStridedSlice S2048x5120 ![0, 0]
    (truncf (F := Ideal) .bf16 (m ((c : Thread nD τ).loc main_arg2)) bitsLt_bf16_f32) slices_S2048x12800_S2048x5120_0_0 := by
  show W3 m ρ c main_v4 = _
  rw [← W2_args m ρ c main_arg2 (by decide)]
  unfold W3; after_results

theorem uc_point (c : Dev nD) (t : Fin cfg1.N) (y) : k1_pay1 (iblk1 (V3 m ρ) c 0 t) (iblk1 (V3 m ρ) c 1 t) y
    = ucR m c (((cfg1.win 2).blk t).view.emb y) := by
  pointwise [k1_pay1, ucR, Cert.ReferenceProjIdeal.Plain.uc]
  blk_simp [iblk1]
  rw [h_1, cols_1]
  refine Eq.trans ?_ (Cert.ReferenceProjIdeal.Plain.u_apply _ _ _ _ _).symm
  unfold hR
  generalize Cert.ReferenceProjIdeal.Plain.rows _ _ = H
  pointwise
  blk_point [idx1 t]

theorem final_uc (c : Dev nD) : (dat1 (V3 m ρ) c).arrAt 2 cfg1.N = ucR m c := by
  refine (dat1 (V3 m ρ) c).arrAt_eq_of_covers 2 _ (by decide +kernel) fun t _ y => ?_
  blk_simp
  rw [after1_2]; frame_out
  exact uc_point m ρ c t y

/-! The product for the attention. -/

def uqR (c : Dev nD) := Cert.ReferenceProjIdeal.Plain.uq (m ((c : Thread nD τ).loc main_arg0)) (m ((c : Thread nD τ).loc main_arg1)) (m ((c : Thread nD τ).loc main_arg2))

theorem idx2 : ∀ t : Fin cfg2.N, win2_0.index t = ![t.val, 0] ∧ win2_1.index t = ![0, 0] ∧ win2_2.index t = ![t.val, 0] :=
  (by decide +kernel : ∀ t : Fin grid2.N, _)

theorem cols_2 (c : Dev nD) : V5 m ρ c main_v6 = extractStridedSlice S2048x1536 ![0, 5120]
    (truncf (F := Ideal) .bf16 (m ((c : Thread nD τ).loc main_arg2)) bitsLt_bf16_f32) slices_S2048x12800_S2048x1536_0_5120 := by
  show W5 m ρ c main_v6 = _
  rw [← w_2 m ρ c]
  unfold W5; after_results

theorem uq_point (c : Dev nD) (t : Fin cfg2.N) (y) : k2_pay1 (iblk2 (V5 m ρ) c 0 t) (iblk2 (V5 m ρ) c 1 t) y
    = uqR m c (((cfg2.win 2).blk t).view.emb y) := by
  pointwise [k2_pay1, uqR, Cert.ReferenceProjIdeal.Plain.uq]
  blk_simp [iblk2]
  rw [h_2, cols_2]
  refine Eq.trans ?_ (Cert.ReferenceProjIdeal.Plain.u_apply _ _ _ _ _).symm
  unfold hR
  generalize Cert.ReferenceProjIdeal.Plain.rows _ _ = H
  pointwise
  blk_point [idx2 t]

theorem final_uq (c : Dev nD) : (dat2 (V5 m ρ) c).arrAt 2 cfg2.N = uqR m c := by
  refine (dat2 (V5 m ρ) c).arrAt_eq_of_covers 2 _ (by decide +kernel) fun t _ y => ?_
  blk_simp
  rw [after2_2]; frame_out
  exact uq_point m ρ c t y

/-! The product for the gates. -/

def ugR (c : Dev nD) := Cert.ReferenceProjIdeal.Plain.ug (m ((c : Thread nD τ).loc main_arg0)) (m ((c : Thread nD τ).loc main_arg1)) (m ((c : Thread nD τ).loc main_arg2))

theorem idx3 : ∀ t : Fin cfg3.N, win3_0.index t = ![t.val / 6, 0] ∧ win3_1.index t = ![0, t.val % 6] ∧ win3_2.index t = ![t.val / 6, t.val % 6] :=
  (by decide +kernel : ∀ t : Fin grid3.N, _)

theorem cols_3 (c : Dev nD) : V7 m ρ c main_v8 = extractStridedSlice S2048x6144 ![0, 6656]
    (truncf (F := Ideal) .bf16 (m ((c : Thread nD τ).loc main_arg2)) bitsLt_bf16_f32) slices_S2048x12800_S2048x6144_0_6656 := by
  show W7 m ρ c main_v8 = _
  rw [← w_3 m ρ c]
  unfold W7; after_results

theorem ug_point (c : Dev nD) (t : Fin cfg3.N) (y) : k3_pay1 (iblk3 (V7 m ρ) c 0 t) (iblk3 (V7 m ρ) c 1 t) y
    = ugR m c (((cfg3.win 2).blk t).view.emb y) := by
  pointwise [k3_pay1, ugR, Cert.ReferenceProjIdeal.Plain.ug]
  blk_simp [iblk3]
  rw [h_3, cols_3]
  refine Eq.trans ?_ (Cert.ReferenceProjIdeal.Plain.u_apply _ _ _ _ _).symm
  unfold hR
  generalize Cert.ReferenceProjIdeal.Plain.rows _ _ = H
  pointwise
  blk_point [idx3 t]

theorem final_ug (c : Dev nD) : (dat3 (V7 m ρ) c).arrAt 2 cfg3.N = ugR m c := by
  refine (dat3 (V7 m ρ) c).arrAt_eq_of_covers 2 _ (by decide +kernel) fun t _ y => ?_
  blk_simp
  rw [after3_2]; frame_out
  exact ug_point m ρ c t y

section Run

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

set_option backward.isDefEq.respectTransparency.types false in
/-- The kernel's run: its three results are the reference's, and the arguments end as launched. -/
theorem run : θ_run defs (onTc (τ := τ) (main (F := Ideal))) ⟨m, fun _ => 0, ρ⟩ (fun r => ∀ c : Dev nD,
      r.2.mem ((c.tc : Thread nD τ).loc main_v5) = ucR m c
      ∧ r.2.mem ((c.tc : Thread nD τ).loc main_v7) = uqR m c
      ∧ r.2.mem ((c.tc : Thread nD τ).loc main_v9) = ugR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨((h c _ (mem_uc main_v5 (by decide))).trans ((W8_of m ρ c main_v5 (by decide)).trans ((W7_of m ρ c main_v5 (by decide)).trans
          ((W6_of m ρ c main_v5 (by decide)).trans (W5_of m ρ c main_v5 (by decide)))))).trans ((W4_arr m ρ c 2).trans (final_uc m ρ c)),
       ((h c _ (mem_uc main_v7 (by decide))).trans ((W8_of m ρ c main_v7 (by decide)).trans (W7_of m ρ c main_v7 (by decide)))).trans
        ((W6_arr m ρ c 2).trans (final_uq m ρ c)),
       (h c _ (mem_uc main_v9 (by decide))).trans ((W8_arr m ρ c 2).trans (final_ug m ρ c)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c)⟩)

end Run

end Cert.KernelProjIdeal.Proj

namespace Cert.Proof

theorem algebraic_Proj : Cert.algebraic_KernelProjIdeal_ReferenceProjIdeal (hKernelProjIdeal := Cert.KernelProjIdeal.Gen.facts)
    (hReferenceProjIdeal := Cert.ReferenceProjIdeal.Gen.facts) := by
  pair_intro
  · run_from Cert.KernelProjIdeal.Proj.run m g
  · run_from Cert.ReferenceProjIdeal.Plain.run m' g' <;> rfl

end Cert.Proof
end
-- ==== Proof.Up.lean ====
module

public import proofs.«01_k».proof.Defs
public import proofs.«01_k».proof.Proof.Gen.KernelUpIdeal.Frame
public import proofs.«01_k».proof.Proof.Gen.ReferenceUpIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceUpIdeal.Plain
open Cert.ReferenceUpIdeal Cert.ReferenceUpIdeal.Gen

/-- The matrix product `h @ w`. -/
def prod (A0 : FVec Ideal S8192x2048 .bf16) (A1 : FVec Ideal S2048x8192 .f32) : FVec Ideal S8192x8192 .f32 :=
  Host.dotGeneral dot_S8192x2048_S2048x8192_S8192x8192_1_0_0_1_n_n none (extf .f32 A0 bitsLt_bf16_f32) A1

/-- The product's positive part. -/
def relu (A0 : FVec Ideal S8192x2048 .bf16) (A1 : FVec Ideal S2048x8192 .f32) : FVec Ideal S8192x8192 .f32 :=
  maximumf (prod A0 A1) (broadcastInDim S8192x8192 ![] bcast_S_S8192x8192 (constant S_ .f32 0x00000000#32))

/-- The squared positive part, rounded to `bf16`. -/
def out (A0 : FVec Ideal S8192x2048 .bf16) (A1 : FVec Ideal S2048x8192 .f32) : FVec Ideal S8192x8192 .bf16 :=
  truncf .bf16 (mulf (relu A0 A1) (relu A0 A1)) bitsLt_bf16_f32

end Cert.ReferenceUpIdeal.Plain

namespace Cert.KernelUpIdeal.Proj
open Cert.KernelUpIdeal Cert.KernelUpIdeal.Gen

variable (m : (ℓ : Loc nD τ sig) → Buf (Elt Ideal) ℓ)

/-- The reference's result on the kernel's own arguments. -/
def goal (c : Dev nD) := Cert.ReferenceUpIdeal.Plain.out (m ((c : Thread nD τ).loc main_arg0)) (m ((c : Thread nD τ).loc main_arg1))

/-- Which block each window reads or writes at a grid point. -/
theorem idx : ∀ t : Fin cfg0.N, win0_0.index t = ![t.val / 8, 0] ∧ win0_1.index t = ![0, t.val % 8]
    ∧ win0_2.index t = ![t.val / 8, t.val % 8] :=
  (by decide +kernel : ∀ t : Fin grid0.N, _)

/-- A block the kernel stores is the same block of the reference's. -/
theorem point (c : Dev nD) (t : Fin cfg0.N) (y) : k0_pay1 (iblk m c 0 t) (iblk m c 1 t) y
    = goal m c (((cfg0.win 2).blk t).view.emb y) := by
  pointwise [k0_pay1, goal, Cert.ReferenceUpIdeal.Plain.out, Cert.ReferenceUpIdeal.Plain.relu, Cert.ReferenceUpIdeal.Plain.prod]
  blk_simp [iblk]
  entry_read
  pointwise
  blk_point [iblk, V, idx t]

/-- The whole output array is the reference's. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.KernelUpIdeal.Proj

namespace Cert.Proof

theorem algebraic_Up : Cert.algebraic_KernelUpIdeal_ReferenceUpIdeal (hKernelUpIdeal := Cert.KernelUpIdeal.Gen.facts)
    (hReferenceUpIdeal := Cert.ReferenceUpIdeal.Gen.facts) := by
  pair_intro
  · run_from Cert.KernelUpIdeal.Gen.run_main m g
  · hlo_run
    exact (Cert.KernelUpIdeal.Proj.final m c).symm

end Cert.Proof
end
-- ==== Proof.Down.lean ====
module

public import proofs.«01_k».proof.Defs
public import proofs.«01_k».proof.Proof.Gen.KernelDownIdeal.Frame
public import proofs.«01_k».proof.Proof.Gen.ReferenceDownIdeal
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceDownIdeal.Plain
open Cert.ReferenceDownIdeal Cert.ReferenceDownIdeal.Gen

/-- The product `t @ w`. -/
def prod (t : FVec Ideal S8192x8192 .bf16) (w : FVec Ideal S8192x2048 .f32) : FVec Ideal S8192x2048 .f32 :=
  Host.dotGeneral dot_S8192x8192_S8192x2048_S8192x2048_1_0_0_1_n_n none (extf .f32 t bitsLt_bf16_f32) w

/-- The residual plus the product. -/
def xn (t : FVec Ideal S8192x8192 .bf16) (w : FVec Ideal S8192x2048 .f32) (x : FVec Ideal S8192x2048 .f32) : FVec Ideal S8192x2048 .f32 :=
  addf x (prod t w)

/-- A row's scale: the reciprocal root of its mean square plus the small constant. -/
def scale (A0 : FVec Ideal S8192x2048 .f32) : FVec Ideal S8192x1 .f32 :=
  Host.rsqrt (addf (Host.divf (broadcastInDim S8192x1 ![0] bcast_S8192_S8192x1_0
    (Host.reduceAdd (mulf A0 A0) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x358637BD#32)))

/-- The normalised rows times the weights, rounded to `bf16`. -/
def rms (A0 : FVec Ideal S8192x2048 .f32) (A1 : FVec Ideal S2048 .f32) : FVec Ideal S8192x2048 .bf16 :=
  truncf .bf16 (mulf (mulf A0 (broadcastInDim S8192x2048 ![0, 1] bcast_S8192x1_S8192x2048_0_1 (scale A0)))
    (broadcastInDim S8192x2048 ![0, 1] bcast_S1x2048_S8192x2048_0_1 (broadcastInDim S1x2048 ![1] bcast_S2048_S1x2048_1 A1))) bitsLt_bf16_f32

end Cert.ReferenceDownIdeal.Plain

namespace Cert.KernelDownIdeal.Down
open Cert.KernelDownIdeal Cert.KernelDownIdeal.Gen

variable (m : (ℓ : Loc nD τ sig) → Buf (Elt Ideal) ℓ)

/-- The new residual and its normalised rows, as the reference has them on the kernel's own arguments. -/
def xnR (c : Dev nD) := Cert.ReferenceDownIdeal.Plain.xn (m ((c : Thread nD τ).loc main_arg0)) (m ((c : Thread nD τ).loc main_arg1)) (m ((c : Thread nD τ).loc main_arg2))
def rmsR (c : Dev nD) := Cert.ReferenceDownIdeal.Plain.rms (xnR m c) (m ((c : Thread nD τ).loc main_arg3))

/-- Which block each window reads or writes at a grid point. -/
theorem idx : ∀ t : Fin cfg0.N, win0_0.index t = ![t.val / 8, t.val % 8] ∧ win0_1.index t = ![t.val % 8, 0] ∧ win0_2.index t = ![t.val / 8, 0]
    ∧ win0_3.index t = ![0, 0] ∧ win0_4.index t = ![t.val / 8, 0] ∧ win0_5.index t = ![t.val / 8, 0] :=
  (by decide +kernel : ∀ t : Fin grid0.N, _)

/-- What the two host-made operands' windows read: the weights are the argument's, the row is the argument laid out. -/
theorem V_w (c : Dev nD) : V m c main_v0 = (m ((c : Thread nD τ).loc main_arg1)) := by
  unfold V; after_results; rfl

theorem V_row (c : Dev nD) : V m c main_v1 = shapeCast S1x2048 (m ((c : Thread nD τ).loc main_arg3)) shapeCasts_S2048_S1x2048 := by
  unfold V; after_results; rfl

theorem row_read (c : Dev nD) (t : Fin cfg0.N) (y : S1x2048.Idx) : iblk m c 3 t y = (m ((c : Thread nD τ).loc main_arg3)) (ix1 (y 1)) := by
  show V m c main_v1 (((cfg0.win 3).blk t).view.emb y) = _
  rw [V_row]
  pointwise
  blk_point [idx t]

/-- The zero fill, and one step's addition: the accumulator plus a partial product. -/
theorem zero_fill (j : S512x2048.Idx) : k0_pay1 (F := Ideal) j = 0 := by pointwise [k0_pay1]

theorem step_add (acc : Vec Ideal S512x2048 .f32) (x : Vec Ideal S512x1024 .bf16) (w : Vec Ideal S1024x2048 .bf16) (j : S512x2048.Idx) :
    k0_pay2 acc x w j = acc j + ∑ k : Fin 1024, x (ix2 (j 0) k) * w (ix2 k (j 1)) := by pointwise [k0_pay2]

/-- At the last step of a row block the accumulator holds the whole product. -/
theorem acc_full (c : Dev nD) (t : Fin cfg0.N) (h7 : t.val % 8 = 7) (y : S512x2048.Idx) :
    (outsAt0 m c t.val t.isLt).2.2 y
    = Cert.ReferenceDownIdeal.Plain.prod (m ((c : Thread nD τ).loc main_arg0)) (m ((c : Thread nD τ).loc main_arg1)) (((cfg0.win 4).blk t).view.emb y) := by
  rw [Pipeline.eq_sum_fin_of_reset_step_apply_of_flush (fun n h => (outsAt0 m c n h).2.2) 8 (fun _ => 0) _
    (fun t h j => by rw [outsAt0_A m c t h (by omega)]; frame_out; rw [step_add, zero_fill])
    (fun t h j => by
      by_cases h7 : t.val % 8 = 7
      · rw [outsAt0_C m c t h h7]; frame_out; simp only [read_unread_whole]; rw [step_add]
      · rw [outsAt0_B m c t h h7]; frame_out; simp only [read_unread_whole]; rw [step_add])
    t h7 _, zero_add]
  pointwise [Cert.ReferenceDownIdeal.Plain.prod]
  refine Fin.sum_mul_add_congr fun s k hl => ?_
  blk_point [iblk, V_w, V_main_arg0, idx t, idx ⟨_, Pipeline.run_point_lt_of_flush t h7 s⟩]

/-- The value a step stores last: the residual plus the accumulated product, then its normalised rows. -/
theorem xn_point (c : Dev nD) (t : Fin cfg0.N) (h7 : t.val % 8 = 7) (y : S512x2048.Idx) :
    HAdd.hAdd (α := EReal) (β := EReal) (γ := EReal) (iblk m c 2 t y) ((outsAt0 m c t.val t.isLt).2.2 y) = xnR m c (((cfg0.win 4).blk t).view.emb y) := by
  rw [acc_full m c t h7]
  pointwise [xnR, Cert.ReferenceDownIdeal.Plain.xn]
  blk_point [iblk, V_main_arg2, idx t]

theorem rms_point (c : Dev nD) (t : Fin cfg0.N) (h7 : t.val % 8 = 7) (y : S512x2048.Idx) :
    k0_pay4 (iblk m c 2 t) (outsAt0 m c t.val t.isLt).2.2 (iblk m c 3 t) y = rmsR m c (((cfg0.win 5).blk t).view.emb y) := by
  pointwise [k0_pay4, k0_pay3, rmsR, Cert.ReferenceDownIdeal.Plain.rms, Cert.ReferenceDownIdeal.Plain.scale]
  simp only [xn_point m c t h7, row_read]
  blk_point [idx t]

/-- The last step's accumulator over what the step before left. -/
theorem acc_last (c : Dev nD) (t : Fin cfg0.N) (h0 : ¬ t.val % 8 = 0) (h7 : t.val % 8 = 7) : (outsAt0 m c t.val t.isLt).2.2
    = k0_pay2 (outsAt0 m c (t.val - 1) (Nat.lt_of_le_of_lt (Nat.sub_le _ _) t.isLt)).2.2 (iblk m c 0 t) (iblk m c 1 t) := by
  funext j
  rw [outsAt0_C m c t h0 h7]; frame_out; simp only [read_unread_whole]

/-- The whole output array is the reference's. -/
theorem final_rms (c : Dev nD) : (dats m 0 c).arrAt 5 (cfgs 0).N = rmsR m c := by
  refine (dats m 0 c).arrAt_eq_of_covers 5 _ (by decide +kernel) fun t hf y => ?_
  have h7 : t.val % 8 = 7 := (flush0_5 t).mp hf
  have h0 : ¬ t.val % 8 = 0 := by omega
  have e := rms_point m c t h7 y
  rw [acc_last m c t h0 h7] at e
  blk_simp
  rw [after0_5, outsAt0_C m c t h0 h7]
  frame_out
  simp only [read_unread_whole]
  exact e

theorem final_xn (c : Dev nD) : (dats m 0 c).arrAt 4 (cfgs 0).N = xnR m c := by
  refine (dats m 0 c).arrAt_eq_of_covers 4 _ (by decide +kernel) fun t hf y => ?_
  have h7 : t.val % 8 = 7 := (flush0_4 t).mp hf
  have h0 : ¬ t.val % 8 = 0 := by omega
  have e : k0_pay3 (iblk m c 2 t) (outsAt0 m c t.val t.isLt).2.2 y = xnR m c (((cfg0.win 4).blk t).view.emb y) := by
    pointwise [k0_pay3]; exact xn_point m c t h7 y
  rw [acc_last m c t h0 h7] at e
  blk_simp
  rw [after0_4, outsAt0_C m c t h0 h7]
  frame_out
  simp only [read_unread_whole]
  exact e

end Cert.KernelDownIdeal.Down

namespace Cert.Proof

theorem algebraic_Down : Cert.algebraic_KernelDownIdeal_ReferenceDownIdeal (hKernelDownIdeal := Cert.KernelDownIdeal.Gen.facts)
    (hReferenceDownIdeal := Cert.ReferenceDownIdeal.Gen.facts) := by
  pair_intro
  · run_from Cert.KernelDownIdeal.Gen.run_main m g
  · hlo_run
    · exact (Cert.KernelDownIdeal.Down.final_xn m c).symm
    · exact (Cert.KernelDownIdeal.Down.final_rms m c).symm

end Cert.Proof
end
-- ==== Proof.Last.lean ====
module

public import proofs.«01_k».proof.Defs
public import proofs.«01_k».proof.Proof.Gen.KernelLastIdeal.Frame
public import proofs.«01_k».proof.Proof.Gen.ReferenceLastIdeal
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceLastIdeal.Plain
open Cert.ReferenceLastIdeal Cert.ReferenceLastIdeal.Gen

/-- The product `t @ w`. -/
def prod (t : FVec Ideal S8192x8192 .bf16) (w : FVec Ideal S8192x2048 .f32) : FVec Ideal S8192x2048 .f32 :=
  Host.dotGeneral dot_S8192x8192_S8192x2048_S8192x2048_1_0_0_1_n_n none (extf .f32 t bitsLt_bf16_f32) w

/-- The residual plus the product. -/
def xn (t : FVec Ideal S8192x8192 .bf16) (w : FVec Ideal S8192x2048 .f32) (x : FVec Ideal S8192x2048 .f32) : FVec Ideal S8192x2048 .f32 :=
  addf x (prod t w)

/-- A row's scale: the reciprocal root of its mean square plus the small constant. -/
def scale (A0 : FVec Ideal S8192x2048 .f32) : FVec Ideal S8192x1 .f32 :=
  Host.rsqrt (addf (Host.divf (broadcastInDim S8192x1 ![0] bcast_S8192_S8192x1_0
    (Host.reduceAdd (mulf A0 A0) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x358637BD#32)))

/-- The normalised rows times the weights. -/
def rms (A0 : FVec Ideal S8192x2048 .f32) (A1 : FVec Ideal S2048 .f32) : FVec Ideal S8192x2048 .f32 :=
  mulf (mulf A0 (broadcastInDim S8192x2048 ![0, 1] bcast_S8192x1_S8192x2048_0_1 (scale A0)))
    (broadcastInDim S8192x2048 ![0, 1] bcast_S1x2048_S8192x2048_0_1 (broadcastInDim S1x2048 ![1] bcast_S2048_S1x2048_1 A1))

end Cert.ReferenceLastIdeal.Plain

namespace Cert.KernelLastIdeal.Down
open Cert.KernelLastIdeal Cert.KernelLastIdeal.Gen

variable (m : (ℓ : Loc nD τ sig) → Buf (Elt Ideal) ℓ)

/-- The new residual and its normalised rows, as the reference has them on the kernel's own arguments. -/
def xnR (c : Dev nD) := Cert.ReferenceLastIdeal.Plain.xn (m ((c : Thread nD τ).loc main_arg0)) (m ((c : Thread nD τ).loc main_arg1)) (m ((c : Thread nD τ).loc main_arg2))
def rmsR (c : Dev nD) := Cert.ReferenceLastIdeal.Plain.rms (xnR m c) (m ((c : Thread nD τ).loc main_arg3))

/-- Which block each window reads or writes at a grid point. -/
theorem idx : ∀ t : Fin cfg0.N, win0_0.index t = ![t.val / 8, t.val % 8] ∧ win0_1.index t = ![t.val % 8, 0] ∧ win0_2.index t = ![t.val / 8, 0]
    ∧ win0_3.index t = ![0, 0] ∧ win0_4.index t = ![t.val / 8, 0] :=
  (by decide +kernel : ∀ t : Fin grid0.N, _)

/-- What the two host-made operands' windows read: the weights are the argument's, the row is the argument laid out. -/
theorem V_w (c : Dev nD) : V m c main_v0 = (m ((c : Thread nD τ).loc main_arg1)) := by
  unfold V V0; simp only [List.flatten_cons, List.flatten_nil, List.append_nil, List.cons_append, List.nil_append]; after_results; rfl

theorem V_row (c : Dev nD) : V m c main_v1 = shapeCast S1x2048 (m ((c : Thread nD τ).loc main_arg3)) shapeCasts_S2048_S1x2048 := by
  unfold V V0; simp only [List.flatten_cons, List.flatten_nil, List.append_nil, List.cons_append, List.nil_append]; after_results; rfl

theorem row_read (c : Dev nD) (t : Fin cfg0.N) (y : S1x2048.Idx) : iblk m c 3 t y = (m ((c : Thread nD τ).loc main_arg3)) (ix1 (y 1)) := by
  show V m c main_v1 (((cfg0.win 3).blk t).view.emb y) = _
  rw [V_row]
  pointwise
  blk_point [idx t]

/-- The zero fill, and one step's addition: the accumulator plus a partial product. -/
theorem zero_fill (j : S512x2048.Idx) : k0_pay1 (F := Ideal) j = 0 := by pointwise [k0_pay1]

theorem step_add (acc : Vec Ideal S512x2048 .f32) (x : Vec Ideal S512x1024 .bf16) (w : Vec Ideal S1024x2048 .bf16) (j : S512x2048.Idx) :
    k0_pay2 acc x w j = acc j + ∑ k : Fin 1024, x (ix2 (j 0) k) * w (ix2 k (j 1)) := by pointwise [k0_pay2]

/-- At the last step of a row block the accumulator holds the whole product. -/
theorem acc_full (c : Dev nD) (t : Fin cfg0.N) (h7 : t.val % 8 = 7) (y : S512x2048.Idx) :
    (outsAt0 m c t.val t.isLt).2 y
    = Cert.ReferenceLastIdeal.Plain.prod (m ((c : Thread nD τ).loc main_arg0)) (m ((c : Thread nD τ).loc main_arg1)) (((cfg0.win 4).blk t).view.emb y) := by
  rw [Pipeline.eq_sum_fin_of_reset_step_apply_of_flush (fun n h => (outsAt0 m c n h).2) 8 (fun _ => 0) _
    (fun t h j => by rw [outsAt0_A m c t h (by omega)]; frame_out; rw [step_add, zero_fill])
    (fun t h j => by
      by_cases h7 : t.val % 8 = 7
      · rw [outsAt0_C m c t h h7]; frame_out; simp only [read_unread_whole]; rw [step_add]
      · rw [outsAt0_B m c t h h7]; frame_out; simp only [read_unread_whole]; rw [step_add])
    t h7 _, zero_add]
  pointwise [Cert.ReferenceLastIdeal.Plain.prod]
  refine Fin.sum_mul_add_congr fun s k hl => ?_
  blk_point [iblk, V_w, V_main_arg0, idx t, idx ⟨_, Pipeline.run_point_lt_of_flush t h7 s⟩]

/-- The value a step stores last: the residual plus the accumulated product, then its normalised rows. -/
theorem xn_point (c : Dev nD) (t : Fin cfg0.N) (h7 : t.val % 8 = 7) (y : S512x2048.Idx) :
    HAdd.hAdd (α := EReal) (β := EReal) (γ := EReal) (iblk m c 2 t y) ((outsAt0 m c t.val t.isLt).2 y) = xnR m c (((cfg0.win 4).blk t).view.emb y) := by
  rw [acc_full m c t h7]
  pointwise [xnR, Cert.ReferenceLastIdeal.Plain.xn]
  blk_point [iblk, V_main_arg2, idx t]

theorem rms_point (c : Dev nD) (t : Fin cfg0.N) (h7 : t.val % 8 = 7) (y : S512x2048.Idx) :
    k0_pay3 (iblk m c 2 t) (outsAt0 m c t.val t.isLt).2 (iblk m c 3 t) y = rmsR m c (((cfg0.win 4).blk t).view.emb y) := by
  pointwise [k0_pay3, rmsR, Cert.ReferenceLastIdeal.Plain.rms, Cert.ReferenceLastIdeal.Plain.scale]
  simp only [xn_point m c t h7, row_read]
  blk_point [idx t]

/-- The last step's accumulator over what the step before left. -/
theorem acc_last (c : Dev nD) (t : Fin cfg0.N) (h0 : ¬ t.val % 8 = 0) (h7 : t.val % 8 = 7) : (outsAt0 m c t.val t.isLt).2
    = k0_pay2 (outsAt0 m c (t.val - 1) (Nat.lt_of_le_of_lt (Nat.sub_le _ _) t.isLt)).2 (iblk m c 0 t) (iblk m c 1 t) := by
  funext j
  rw [outsAt0_C m c t h0 h7]; frame_out; simp only [read_unread_whole]

/-- The whole output array is the reference's. -/
theorem final_rms (c : Dev nD) : (dats m 0 c).arrAt 4 (cfgs 0).N = rmsR m c := by
  refine (dats m 0 c).arrAt_eq_of_covers 4 _ (by decide +kernel) fun t hf y => ?_
  have h7 : t.val % 8 = 7 := (flush0_4 t).mp hf
  have h0 : ¬ t.val % 8 = 0 := by omega
  have e := rms_point m c t h7 y
  rw [acc_last m c t h0 h7] at e
  blk_simp
  rw [after0_4, outsAt0_C m c t h0 h7]
  frame_out
  simp only [read_unread_whole]
  exact e

/-- The line after the region reshapes that array. -/
theorem tail (c : Dev nD) : Pipeline.afterTail₀ cfgs (dats m) 0 (V0 m) [hostOps1] c main_v3
    = shapeCast S4x2048x2048 (rmsR m c) facts.shapeCasts_S8192x2048_S4x2048x2048 := by
  unfold Pipeline.afterTail₀
  have e := Pipeline.withArrays_arr spec0 (by decide) c (V0 m c) (fun w => (dats m 0 c).arrAt w (cfgs 0).N) 4
  rw [← final_rms, ← e]
  generalize Pipeline.withArrays _ c (V0 m c) _ = W
  after_results
  rfl

end Cert.KernelLastIdeal.Down

namespace Cert.Proof

theorem algebraic_Last : Cert.algebraic_KernelLastIdeal_ReferenceLastIdeal (hKernelLastIdeal := Cert.KernelLastIdeal.Gen.facts)
    (hReferenceLastIdeal := Cert.ReferenceLastIdeal.Gen.facts) := by
  pair_intro
  · run_from Cert.KernelLastIdeal.Gen.run_main m g
    · exact Cert.KernelLastIdeal.Gen.W_main_arg1 m _ c
    · exact Cert.KernelLastIdeal.Gen.W_main_arg3 m _ c
  · hlo_run
    exact (Cert.KernelLastIdeal.Down.tail m c).symm

end Cert.Proof
end
-- ==== Proof.InC.lean ====
module

public import proofs.«01_k».proof.Defs
public import proofs.«01_k».proof.Proof.Gen.KernelInCIdeal.Frame
public import proofs.«01_k».proof.Proof.Gen.ReferenceInCIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceInCIdeal.Plain
open Cert.ReferenceInCIdeal Cert.ReferenceInCIdeal.Gen

/-- The columns of the projection `h @ w_in` that this call computes, rounded to `bf16`. -/
def out (A0 : FVec Ideal S8192x2048 .bf16) (A1 : FVec Ideal S2048x12800 .f32) : FVec Ideal S8192x5120 .bf16 :=
  truncf .bf16 (extractStridedSlice S8192x5120 ![0, 0] (Host.dotGeneral dot_S8192x2048_S2048x12800_S8192x12800_1_0_0_1_n_n none
    (extf .f32 A0 bitsLt_bf16_f32) A1) slices_S8192x12800_S8192x5120_0_0) bitsLt_bf16_f32

end Cert.ReferenceInCIdeal.Plain

namespace Cert.KernelInCIdeal.Proj
open Cert.KernelInCIdeal Cert.KernelInCIdeal.Gen

variable (m : (ℓ : Loc nD τ sig) → Buf (Elt Ideal) ℓ)

/-- The reference's result on the kernel's own arguments. -/
def goal (c : Dev nD) := Cert.ReferenceInCIdeal.Plain.out (m ((c : Thread nD τ).loc main_arg0)) (m ((c : Thread nD τ).loc main_arg1))

/-- Which block each window reads or writes at a grid point. -/
theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

/-- What the weights' window reads: the call's columns of the argument, rounded. -/
theorem V_cols (c : Dev nD) : V m c main_v1 = extractStridedSlice S2048x5120 ![0, 0]
    (truncf (F := Ideal) .bf16 (m ((c : Thread nD τ).loc main_arg1)) bitsLt_bf16_f32) slices_S2048x12800_S2048x5120_0_0 := by
  unfold V; after_results

/-- A block of the kernel's product is the same block of the reference's. -/
theorem point (c : Dev nD) (t : Fin cfg0.N) (y) : k0_pay1 (iblk m c 0 t) (iblk m c 1 t) y
    = goal m c (((cfg0.win 2).blk t).view.emb y) := by
  pointwise [k0_pay1, goal, Cert.ReferenceInCIdeal.Plain.out]
  blk_simp [iblk]
  rw [V_cols]
  pointwise
  blk_point [iblk, V, idx t]

/-- The whole output array is the reference's. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.KernelInCIdeal.Proj

namespace Cert.Proof

theorem algebraic_InC : Cert.algebraic_KernelInCIdeal_ReferenceInCIdeal (hKernelInCIdeal := Cert.KernelInCIdeal.Gen.facts)
    (hReferenceInCIdeal := Cert.ReferenceInCIdeal.Gen.facts) := by
  pair_intro
  · run_from Cert.KernelInCIdeal.Gen.run_main m g
  · hlo_run
    exact (Cert.KernelInCIdeal.Proj.final m c).symm

end Cert.Proof
end
-- ==== Proof.InQ.lean ====
module

public import proofs.«01_k».proof.Defs
public import proofs.«01_k».proof.Proof.Gen.KernelInQIdeal.Frame
public import proofs.«01_k».proof.Proof.Gen.ReferenceInQIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceInQIdeal.Plain
open Cert.ReferenceInQIdeal Cert.ReferenceInQIdeal.Gen

/-- The columns of the projection `h @ w_in` that this call computes, rounded to `bf16`. -/
def out (A0 : FVec Ideal S8192x2048 .bf16) (A1 : FVec Ideal S2048x12800 .f32) : FVec Ideal S8192x1536 .bf16 :=
  truncf .bf16 (extractStridedSlice S8192x1536 ![0, 5120] (Host.dotGeneral dot_S8192x2048_S2048x12800_S8192x12800_1_0_0_1_n_n none
    (extf .f32 A0 bitsLt_bf16_f32) A1) slices_S8192x12800_S8192x1536_0_5120) bitsLt_bf16_f32

end Cert.ReferenceInQIdeal.Plain

namespace Cert.KernelInQIdeal.Proj
open Cert.KernelInQIdeal Cert.KernelInQIdeal.Gen

variable (m : (ℓ : Loc nD τ sig) → Buf (Elt Ideal) ℓ)

/-- The reference's result on the kernel's own arguments. -/
def goal (c : Dev nD) := Cert.ReferenceInQIdeal.Plain.out (m ((c : Thread nD τ).loc main_arg0)) (m ((c : Thread nD τ).loc main_arg1))

/-- Which block each window reads or writes at a grid point. -/
theorem idx : ∀ t : Fin cfg0.N, win0_0.index t = ![t.val / 1, 0] ∧ win0_1.index t = ![0, t.val % 1]
    ∧ win0_2.index t = ![t.val / 1, t.val % 1] :=
  (by decide +kernel : ∀ t : Fin grid0.N, _)

/-- What the weights' window reads: the call's columns of the argument, rounded. -/
theorem V_cols (c : Dev nD) : V m c main_v1 = extractStridedSlice S2048x1536 ![0, 5120]
    (truncf (F := Ideal) .bf16 (m ((c : Thread nD τ).loc main_arg1)) bitsLt_bf16_f32) slices_S2048x12800_S2048x1536_0_5120 := by
  unfold V; after_results

/-- A block of the kernel's product is the same block of the reference's. -/
theorem point (c : Dev nD) (t : Fin cfg0.N) (y) : k0_pay1 (iblk m c 0 t) (iblk m c 1 t) y
    = goal m c (((cfg0.win 2).blk t).view.emb y) := by
  pointwise [k0_pay1, goal, Cert.ReferenceInQIdeal.Plain.out]
  blk_simp [iblk]
  rw [V_cols]
  pointwise
  blk_point [iblk, V, idx t]

/-- The whole output array is the reference's. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.KernelInQIdeal.Proj

namespace Cert.Proof

theorem algebraic_InQ : Cert.algebraic_KernelInQIdeal_ReferenceInQIdeal (hKernelInQIdeal := Cert.KernelInQIdeal.Gen.facts)
    (hReferenceInQIdeal := Cert.ReferenceInQIdeal.Gen.facts) := by
  pair_intro
  · run_from Cert.KernelInQIdeal.Gen.run_main m g
  · hlo_run
    exact (Cert.KernelInQIdeal.Proj.final m c).symm

end Cert.Proof
end
-- ==== Proof.InG.lean ====
module

public import proofs.«01_k».proof.Defs
public import proofs.«01_k».proof.Proof.Gen.KernelInGIdeal.Frame
public import proofs.«01_k».proof.Proof.Gen.ReferenceInGIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceInGIdeal.Plain
open Cert.ReferenceInGIdeal Cert.ReferenceInGIdeal.Gen

/-- The columns of the projection `h @ w_in` that this call computes, rounded to `bf16`. -/
def out (A0 : FVec Ideal S8192x2048 .bf16) (A1 : FVec Ideal S2048x12800 .f32) : FVec Ideal S8192x6144 .bf16 :=
  truncf .bf16 (extractStridedSlice S8192x6144 ![0, 6656] (Host.dotGeneral dot_S8192x2048_S2048x12800_S8192x12800_1_0_0_1_n_n none
    (extf .f32 A0 bitsLt_bf16_f32) A1) slices_S8192x12800_S8192x6144_0_6656) bitsLt_bf16_f32

end Cert.ReferenceInGIdeal.Plain

namespace Cert.KernelInGIdeal.Proj
open Cert.KernelInGIdeal Cert.KernelInGIdeal.Gen

variable (m : (ℓ : Loc nD τ sig) → Buf (Elt Ideal) ℓ)

/-- The reference's result on the kernel's own arguments. -/
def goal (c : Dev nD) := Cert.ReferenceInGIdeal.Plain.out (m ((c : Thread nD τ).loc main_arg0)) (m ((c : Thread nD τ).loc main_arg1))

/-- Which block each window reads or writes at a grid point. -/
theorem idx : ∀ t : Fin cfg0.N, win0_0.index t = ![t.val / 6, 0] ∧ win0_1.index t = ![0, t.val % 6]
    ∧ win0_2.index t = ![t.val / 6, t.val % 6] :=
  (by decide +kernel : ∀ t : Fin grid0.N, _)

/-- What the weights' window reads: the call's columns of the argument, rounded. -/
theorem V_cols (c : Dev nD) : V m c main_v1 = extractStridedSlice S2048x6144 ![0, 6656]
    (truncf (F := Ideal) .bf16 (m ((c : Thread nD τ).loc main_arg1)) bitsLt_bf16_f32) slices_S2048x12800_S2048x6144_0_6656 := by
  unfold V; after_results

/-- A block of the kernel's product is the same block of the reference's. -/
theorem point (c : Dev nD) (t : Fin cfg0.N) (y) : k0_pay1 (iblk m c 0 t) (iblk m c 1 t) y
    = goal m c (((cfg0.win 2).blk t).view.emb y) := by
  pointwise [k0_pay1, goal, Cert.ReferenceInGIdeal.Plain.out]
  blk_simp [iblk]
  rw [V_cols]
  pointwise
  blk_point [iblk, V, idx t]

/-- The whole output array is the reference's. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.KernelInGIdeal.Proj

namespace Cert.Proof

theorem algebraic_InG : Cert.algebraic_KernelInGIdeal_ReferenceInGIdeal (hKernelInGIdeal := Cert.KernelInGIdeal.Gen.facts)
    (hReferenceInGIdeal := Cert.ReferenceInGIdeal.Gen.facts) := by
  pair_intro
  · run_from Cert.KernelInGIdeal.Gen.run_main m g
  · hlo_run
    exact (Cert.KernelInGIdeal.Proj.final m c).symm

end Cert.Proof
end
-- ==== Proof.Norm.lean ====
module

public import proofs.«01_k».proof.Defs
public import proofs.«01_k».proof.Proof.Gen.KernelNormIdeal.Frame
public import proofs.«01_k».proof.Proof.Gen.ReferenceNormIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceNormIdeal.Plain
open Cert.ReferenceNormIdeal Cert.ReferenceNormIdeal.Gen

/-- A row's scale: the reciprocal root of its mean square plus the small constant. -/
def scale (A0 : FVec Ideal S4x2048x2048 .f32) : FVec Ideal S4x2048x1 .f32 :=
  Host.rsqrt (addf (Host.divf (broadcastInDim S4x2048x1 ![0, 1] bcast_S4x2048_S4x2048x1_0_1
    (Host.reduceAdd (mulf A0 A0) (constant S_ .f32 0x00000000#32) reducesTo_S4x2048x2048_S4x2048_d2 h_S_))
    (broadcastInDim S4x2048x1 ![] bcast_S_S4x2048x1 (constant S_ .f32 0x45000000#32)))
    (broadcastInDim S4x2048x1 ![] bcast_S_S4x2048x1 (constant S_ .f32 0x358637BD#32)))

/-- The normalised rows times the weights. -/
def rms (A0 : FVec Ideal S4x2048x2048 .f32) (A1 : FVec Ideal S2048 .f32) : FVec Ideal S4x2048x2048 .f32 :=
  mulf (mulf A0 (broadcastInDim S4x2048x2048 ![0, 1, 2] bcast_S4x2048x1_S4x2048x2048_0_1_2 (scale A0)))
    (broadcastInDim S4x2048x2048 ![0, 1, 2] bcast_S1x1x2048_S4x2048x2048_0_1_2 (broadcastInDim S1x1x2048 ![2] bcast_S2048_S1x1x2048_2 A1))

/-- The normalised rows, one under the other, rounded to `bf16`. -/
def out (A0 : FVec Ideal S4x2048x2048 .f32) (A1 : FVec Ideal S2048 .f32) : FVec Ideal S8192x2048 .bf16 :=
  truncf .bf16 (shapeCast _ (rms A0 A1) shapeCasts_S4x2048x2048_S8192x2048) bitsLt_bf16_f32

end Cert.ReferenceNormIdeal.Plain

namespace Cert.KernelNormIdeal.Norm
open Cert.KernelNormIdeal Cert.KernelNormIdeal.Gen

variable (m : (ℓ : Loc nD τ sig) → Buf (Elt Ideal) ℓ)

/-- The reference's result on the kernel's own arguments. -/
def goal (c : Dev nD) := Cert.ReferenceNormIdeal.Plain.out (m ((c : Thread nD τ).loc main_arg0)) (m ((c : Thread nD τ).loc main_arg1))

/-- Which block each window reads or writes at a grid point. -/
theorem idx : ∀ t : Fin cfg0.N, win0_0.index t = ![t.val, 0] ∧ win0_1.index t = ![0, 0] ∧ win0_2.index t = ![t.val, 0] :=
  (by decide +kernel : ∀ t : Fin grid0.N, _)

/-- What the two windows read: the arguments, laid out as rows. -/
theorem V_rows (c : Dev nD) : V m c main_v0 = shapeCast S8192x2048 (m ((c : Thread nD τ).loc main_arg0)) shapeCasts_S4x2048x2048_S8192x2048 := by
  unfold V; after_results; rfl

theorem V_row (c : Dev nD) : V m c main_v1 = shapeCast S1x2048 (m ((c : Thread nD τ).loc main_arg1)) shapeCasts_S2048_S1x2048 := by
  unfold V; after_results; rfl

/-- The batch and the position of a row of a grid point's block. -/
def bat (t : Fin cfg0.N) (r : Fin 512) : Fin 4 :=
  ⟨(t.val * 512 + r.val) / 2048, by have := t.isLt; have : cfg0.N = 16 := (by decide); omega⟩
def pos (t : Fin cfg0.N) (r : Fin 512) : Fin 2048 := ⟨(t.val * 512 + r.val) % 2048, by omega⟩

/-- The batches' rows one under the other, read at an entry of a grid point's block. -/
theorem rows_apply {α : Type} (x : S4x2048x2048.Idx → α) (h : S4x2048x2048.ShapeCasts S8192x2048) (t : Fin cfg0.N) (r : Fin 512) (j : Fin 2048)
    (k : Fin 8192) (hk : k.val = t.val * 512 + r.val) :
    shapeCast S8192x2048 x h (ix2 k j) = x (ix3 (bat t r) (pos t r) j) := by
  refine shapeCast_apply (s := S4x2048x2048) _ _ _ _ ?_
  rw [Shape.rowMajor_val_three, Shape.rowMajor_val_two]
  show ((t.val * 512 + r.val) / 2048 * 2048 + (t.val * 512 + r.val) % 2048) * 2048 + j.val = k.val * 2048 + j.val
  omega

theorem x_read (c : Dev nD) (t : Fin cfg0.N) (y : S512x2048.Idx) :
    iblk m c 0 t y = m ((c : Thread nD τ).loc main_arg0) (ix3 (bat t (y 0)) (pos t (y 0)) (y 1)) := by
  show V m c main_v0 (((cfg0.win 0).blk t).view.emb y) = _
  rw [V_rows, show ((cfg0.win 0).blk t).view.emb y = (ix2 ⟨t.val * 512 + (y 0).val, by
    have := t.isLt; have : cfg0.N = 16 := (by decide); have : (y 0).val < 512 := (y 0).isLt; omega⟩ (y 1) : S8192x2048.Idx) by blk_ext [idx t]]
  exact rows_apply _ _ t (y 0) (y 1) _ rfl

theorem row_read (c : Dev nD) (t : Fin cfg0.N) (y : S1x2048.Idx) :
    iblk m c 1 t y = m ((c : Thread nD τ).loc main_arg1) (ix1 (y 1)) := by
  show V m c main_v1 (((cfg0.win 1).blk t).view.emb y) = _
  rw [V_row]
  pointwise
  blk_point [idx t]

/-- The reference's result at an entry of a grid point's block. -/
theorem goal_read (c : Dev nD) (t : Fin cfg0.N) (y : S512x2048.Idx) : goal m c (((cfg0.win 2).blk t).view.emb y)
    = Cert.ReferenceNormIdeal.Plain.rms (m ((c : Thread nD τ).loc main_arg0)) (m ((c : Thread nD τ).loc main_arg1)) (ix3 (bat t (y 0)) (pos t (y 0)) (y 1)) := by
  rw [show ((cfg0.win 2).blk t).view.emb y = (ix2 ⟨t.val * 512 + (y 0).val, by
    have := t.isLt; have : cfg0.N = 16 := (by decide); have : (y 0).val < 512 := (y 0).isLt; omega⟩ (y 1) : S8192x2048.Idx) by blk_ext [idx t]]
  show shapeCast S8192x2048 (Cert.ReferenceNormIdeal.Plain.rms (m ((c : Thread nD τ).loc main_arg0)) (m ((c : Thread nD τ).loc main_arg1)))
    Cert.ReferenceNormIdeal.Gen.facts.shapeCasts_S4x2048x2048_S8192x2048 (ix2 _ _) = _
  exact rows_apply _ _ t (y 0) (y 1) _ rfl

/-- A block the kernel stores is the same block of the reference's. -/
theorem point (c : Dev nD) (t : Fin cfg0.N) (y) : k0_pay1 (iblk m c 0 t) (iblk m c 1 t) y
    = goal m c (((cfg0.win 2).blk t).view.emb y) := by
  rw [goal_read]
  pointwise [k0_pay1, Cert.ReferenceNormIdeal.Plain.rms, Cert.ReferenceNormIdeal.Plain.scale]
  simp only [row_read, x_read]
  rfl

/-- The whole output array is the reference's. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.KernelNormIdeal.Norm

namespace Cert.Proof

theorem algebraic_Norm : Cert.algebraic_KernelNormIdeal_ReferenceNormIdeal (hKernelNormIdeal := Cert.KernelNormIdeal.Gen.facts)
    (hReferenceNormIdeal := Cert.ReferenceNormIdeal.Gen.facts) := by
  pair_intro
  · run_from Cert.KernelNormIdeal.Gen.run_main m g
  · hlo_run
    exact (Cert.KernelNormIdeal.Norm.final m c).symm

end Cert.Proof
end
-- ==== Proof.lean ====
module

public import proofs.«01_k».proof.Defs
public import proofs.«01_k».proof.Proof.Gen.KernelAttn.Frame
public import proofs.«01_k».proof.Proof.Gen.KernelAttnIdeal.Frame
public import proofs.«01_k».proof.Proof.Gen.ReferenceAttnIdeal.Run
public import proofs.«01_k».proof.Proof.Attn
public import proofs.«01_k».proof.Proof.Gen.KernelConv.Frame
public import proofs.«01_k».proof.Proof.Gen.KernelConvIdeal.Frame
public import proofs.«01_k».proof.Proof.Gen.ReferenceConvIdeal.Run
public import proofs.«01_k».proof.Proof.Conv
public import proofs.«01_k».proof.Proof.Gen.KernelMix.Frame
public import proofs.«01_k».proof.Proof.Gen.KernelMixIdeal.Frame
public import proofs.«01_k».proof.Proof.Gen.ReferenceMixIdeal.Run
public import proofs.«01_k».proof.Proof.Mix
public import proofs.«01_k».proof.Proof.Gen.KernelMixUp.Frame
public import proofs.«01_k».proof.Proof.Gen.KernelMixUpIdeal.Frame
public import proofs.«01_k».proof.Proof.Gen.ReferenceMixUpIdeal.Run
public import proofs.«01_k».proof.Proof.MixUp
public import proofs.«01_k».proof.Proof.Gen.KernelProj.Frame
public import proofs.«01_k».proof.Proof.Gen.KernelProjIdeal.Frame
public import proofs.«01_k».proof.Proof.Gen.ReferenceProjIdeal.Run
public import proofs.«01_k».proof.Proof.Proj
public import proofs.«01_k».proof.Proof.Gen.KernelUp.Frame
public import proofs.«01_k».proof.Proof.Gen.KernelUpIdeal.Frame
public import proofs.«01_k».proof.Proof.Gen.ReferenceUpIdeal.Run
public import proofs.«01_k».proof.Proof.Up
public import proofs.«01_k».proof.Proof.Gen.KernelDown.Frame
public import proofs.«01_k».proof.Proof.Gen.KernelDownIdeal.Frame
public import proofs.«01_k».proof.Proof.Gen.ReferenceDownIdeal.Run
public import proofs.«01_k».proof.Proof.Down
public import proofs.«01_k».proof.Proof.Gen.KernelLast.Frame
public import proofs.«01_k».proof.Proof.Gen.KernelLastIdeal.Frame
public import proofs.«01_k».proof.Proof.Gen.ReferenceLastIdeal.Run
public import proofs.«01_k».proof.Proof.Last
public import proofs.«01_k».proof.Proof.Gen.KernelInC.Frame
public import proofs.«01_k».proof.Proof.Gen.KernelInCIdeal.Frame
public import proofs.«01_k».proof.Proof.Gen.ReferenceInCIdeal.Run
public import proofs.«01_k».proof.Proof.InC
public import proofs.«01_k».proof.Proof.Gen.KernelInQ.Frame
public import proofs.«01_k».proof.Proof.Gen.KernelInQIdeal.Frame
public import proofs.«01_k».proof.Proof.Gen.ReferenceInQIdeal.Run
public import proofs.«01_k».proof.Proof.InQ
public import proofs.«01_k».proof.Proof.Gen.KernelInG.Frame
public import proofs.«01_k».proof.Proof.Gen.KernelInGIdeal.Frame
public import proofs.«01_k».proof.Proof.Gen.ReferenceInGIdeal.Run
public import proofs.«01_k».proof.Proof.InG
public import proofs.«01_k».proof.Proof.Gen.KernelNorm.Frame
public import proofs.«01_k».proof.Proof.Gen.KernelNormIdeal.Frame
public import proofs.«01_k».proof.Proof.Gen.ReferenceNormIdeal.Run
public import proofs.«01_k».proof.Proof.Norm

@[expose] public section

set_option maxRecDepth 16384

noncomputable section

open Idealize.ShloMosaic Idealize.ShloMosaic.TcCoe Idealize.SL.Sem

namespace Cert.Proof

theorem frame_ReferenceAttnIdeal : Cert.quiescent_ReferenceAttnIdeal (hReferenceAttnIdeal := Cert.ReferenceAttnIdeal.Gen.facts) := by
  intro m g _
  exact (θ_run Cert.ReferenceAttnIdeal.defs _ _).mono (fun _ h => ⟨fun c => (h c).2, funext fun x => nomatch x⟩)
    (Cert.ReferenceAttnIdeal.Value.run m g)

theorem frame_ReferenceConvIdeal : Cert.quiescent_ReferenceConvIdeal (hReferenceConvIdeal := Cert.ReferenceConvIdeal.Gen.facts) := by
  intro m g _
  exact (θ_run Cert.ReferenceConvIdeal.defs _ _).mono (fun _ h => ⟨fun c => (h c).2.2, funext fun x => nomatch x⟩)
    (Cert.ReferenceConvIdeal.Value.run m g)

theorem frame_ReferenceMixIdeal : Cert.quiescent_ReferenceMixIdeal (hReferenceMixIdeal := Cert.ReferenceMixIdeal.Gen.facts) := by
  intro m g _
  exact (θ_run Cert.ReferenceMixIdeal.defs _ _).mono (fun _ h => ⟨fun c => (h c).2.2, funext fun x => nomatch x⟩)
    (Cert.ReferenceMixIdeal.Value.run m g)

theorem frame_ReferenceMixUpIdeal : Cert.quiescent_ReferenceMixUpIdeal (hReferenceMixUpIdeal := Cert.ReferenceMixUpIdeal.Gen.facts) := by
  intro m g _
  exact (θ_run Cert.ReferenceMixUpIdeal.defs _ _).mono (fun _ h => ⟨fun c => (h c).2.2, funext fun x => nomatch x⟩)
    (Cert.ReferenceMixUpIdeal.Value.run m g)

theorem frame_ReferenceProjIdeal : Cert.quiescent_ReferenceProjIdeal (hReferenceProjIdeal := Cert.ReferenceProjIdeal.Gen.facts) := by
  intro m g _
  exact (θ_run Cert.ReferenceProjIdeal.defs _ _).mono (fun _ h => ⟨fun c => (h c).2.2.2, funext fun x => nomatch x⟩)
    (Cert.ReferenceProjIdeal.Value.run m g)

theorem frame_ReferenceUpIdeal : Cert.quiescent_ReferenceUpIdeal (hReferenceUpIdeal := Cert.ReferenceUpIdeal.Gen.facts) := by
  intro m g _
  exact (θ_run Cert.ReferenceUpIdeal.defs _ _).mono (fun _ h => ⟨fun c => (h c).2, funext fun x => nomatch x⟩)
    (Cert.ReferenceUpIdeal.Value.run m g)

theorem frame_ReferenceDownIdeal : Cert.quiescent_ReferenceDownIdeal (hReferenceDownIdeal := Cert.ReferenceDownIdeal.Gen.facts) := by
  intro m g _
  exact (θ_run Cert.ReferenceDownIdeal.defs _ _).mono (fun _ h => ⟨fun c => (h c).2.2, funext fun x => nomatch x⟩)
    (Cert.ReferenceDownIdeal.Value.run m g)

theorem frame_ReferenceLastIdeal : Cert.quiescent_ReferenceLastIdeal (hReferenceLastIdeal := Cert.ReferenceLastIdeal.Gen.facts) := by
  intro m g _
  exact (θ_run Cert.ReferenceLastIdeal.defs _ _).mono (fun _ h => ⟨fun c => (h c).2, funext fun x => nomatch x⟩)
    (Cert.ReferenceLastIdeal.Value.run m g)

theorem frame_ReferenceInCIdeal : Cert.quiescent_ReferenceInCIdeal (hReferenceInCIdeal := Cert.ReferenceInCIdeal.Gen.facts) := by
  intro m g _
  exact (θ_run Cert.ReferenceInCIdeal.defs _ _).mono (fun _ h => ⟨fun c => (h c).2, funext fun x => nomatch x⟩)
    (Cert.ReferenceInCIdeal.Value.run m g)

theorem frame_ReferenceInQIdeal : Cert.quiescent_ReferenceInQIdeal (hReferenceInQIdeal := Cert.ReferenceInQIdeal.Gen.facts) := by
  intro m g _
  exact (θ_run Cert.ReferenceInQIdeal.defs _ _).mono (fun _ h => ⟨fun c => (h c).2, funext fun x => nomatch x⟩)
    (Cert.ReferenceInQIdeal.Value.run m g)

theorem frame_ReferenceInGIdeal : Cert.quiescent_ReferenceInGIdeal (hReferenceInGIdeal := Cert.ReferenceInGIdeal.Gen.facts) := by
  intro m g _
  exact (θ_run Cert.ReferenceInGIdeal.defs _ _).mono (fun _ h => ⟨fun c => (h c).2, funext fun x => nomatch x⟩)
    (Cert.ReferenceInGIdeal.Value.run m g)

theorem frame_ReferenceNormIdeal : Cert.quiescent_ReferenceNormIdeal (hReferenceNormIdeal := Cert.ReferenceNormIdeal.Gen.facts) := by
  intro m g _
  exact (θ_run Cert.ReferenceNormIdeal.defs _ _).mono (fun _ h => ⟨fun c => (h c).2, funext fun x => nomatch x⟩)
    (Cert.ReferenceNormIdeal.Value.run m g)

theorem claim : Cert.Claim := ⟨Cert.KernelAttn.Gen.facts, Cert.KernelAttnIdeal.Gen.facts, Cert.ReferenceAttnIdeal.Gen.facts,
  Cert.KernelConv.Gen.facts, Cert.KernelConvIdeal.Gen.facts, Cert.ReferenceConvIdeal.Gen.facts,
  Cert.KernelMix.Gen.facts, Cert.KernelMixIdeal.Gen.facts, Cert.ReferenceMixIdeal.Gen.facts,
  Cert.KernelMixUp.Gen.facts, Cert.KernelMixUpIdeal.Gen.facts, Cert.ReferenceMixUpIdeal.Gen.facts,
  Cert.KernelProj.Gen.facts, Cert.KernelProjIdeal.Gen.facts, Cert.ReferenceProjIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelLast.Gen.facts, Cert.KernelLastIdeal.Gen.facts, Cert.ReferenceLastIdeal.Gen.facts,
  Cert.KernelInC.Gen.facts, Cert.KernelInCIdeal.Gen.facts, Cert.ReferenceInCIdeal.Gen.facts,
  Cert.KernelInQ.Gen.facts, Cert.KernelInQIdeal.Gen.facts, Cert.ReferenceInQIdeal.Gen.facts,
  Cert.KernelInG.Gen.facts, Cert.KernelInGIdeal.Gen.facts, Cert.ReferenceInGIdeal.Gen.facts,
  Cert.KernelNorm.Gen.facts, Cert.KernelNormIdeal.Gen.facts, Cert.ReferenceNormIdeal.Gen.facts,
  fun m g _ => Cert.KernelAttn.Gen.frame m g, fun m g _ => Cert.KernelAttnIdeal.Gen.frame m g, frame_ReferenceAttnIdeal,
  fun m g _ => Cert.KernelConv.Gen.frame m g, fun m g _ => Cert.KernelConvIdeal.Gen.frame m g, frame_ReferenceConvIdeal,
  fun m g _ => Cert.KernelMix.Gen.frame m g, fun m g _ => Cert.KernelMixIdeal.Gen.frame m g, frame_ReferenceMixIdeal,
  fun m g _ => Cert.KernelMixUp.Gen.frame m g, fun m g _ => Cert.KernelMixUpIdeal.Gen.frame m g, frame_ReferenceMixUpIdeal,
  fun m g _ => Cert.KernelProj.Gen.frame m g, fun m g _ => Cert.KernelProjIdeal.Gen.frame m g, frame_ReferenceProjIdeal,
  fun m g _ => Cert.KernelUp.Gen.frame m g, fun m g _ => Cert.KernelUpIdeal.Gen.frame m g, frame_ReferenceUpIdeal,
  fun m g _ => Cert.KernelDown.Gen.frame m g, fun m g _ => Cert.KernelDownIdeal.Gen.frame m g, frame_ReferenceDownIdeal,
  fun m g _ => Cert.KernelLast.Gen.frame m g, fun m g _ => Cert.KernelLastIdeal.Gen.frame m g, frame_ReferenceLastIdeal,
  fun m g _ => Cert.KernelInC.Gen.frame m g, fun m g _ => Cert.KernelInCIdeal.Gen.frame m g, frame_ReferenceInCIdeal,
  fun m g _ => Cert.KernelInQ.Gen.frame m g, fun m g _ => Cert.KernelInQIdeal.Gen.frame m g, frame_ReferenceInQIdeal,
  fun m g _ => Cert.KernelInG.Gen.frame m g, fun m g _ => Cert.KernelInGIdeal.Gen.frame m g, frame_ReferenceInGIdeal,
  fun m g _ => Cert.KernelNorm.Gen.frame m g, fun m g _ => Cert.KernelNormIdeal.Gen.frame m g, frame_ReferenceNormIdeal,
  trivial, algebraic_Attn,
  trivial, algebraic_Conv,
  trivial, algebraic_Mix,
  trivial, algebraic_MixUp,
  trivial, algebraic_Proj,
  trivial, algebraic_Up,
  trivial, algebraic_Down,
  trivial, algebraic_Last,
  trivial, algebraic_InC,
  trivial, algebraic_InQ,
  trivial, algebraic_InG,
  trivial, algebraic_Norm⟩

end Cert.Proof

end
